-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x8192x3584 : Shape := ⟨3, ![8, 8192, 3584]⟩
abbrev S3 : Shape := ⟨1, ![3]⟩
abbrev S3x8x8192 : Shape := ⟨3, ![3, 8, 8192]⟩
abbrev S3584 : Shape := ⟨1, ![3584]⟩
abbrev S_ : Shape := ⟨0, ![]⟩

class Facts : Prop where
  bitsLt_bf16_f32 : FTy.bits .bf16 < FTy.bits .f32
  bcast_S_S8x8192x3584 : S_.BroadcastsInDim S8x8192x3584 (![] : Fin 0 → Fin S8x8192x3584.rank)
  bcast_S_S3 : S_.BroadcastsInDim S3 (![] : Fin 0 → Fin S3.rank)
  bcast_S_S3x8x8192 : S_.BroadcastsInDim S3x8x8192 (![] : Fin 0 → Fin S3x8x8192.rank)
  bcast_S_S3584 : S_.BroadcastsInDim S3584 (![] : Fin 0 → Fin S3584.rank)

variable [Facts]

def fn_part1 {F : FTy → Type} [FloatOps F] (main_arg1 : FVec F S3 .f32) (main_arg3 : FVec F S3x8x8192 .f32) (main_v3 : IVec S8x8192x3584 1) (main_v6 : IVec S3 1) (main_v9 : IVec S3x8x8192 1) (main_v12 : IVec S3x8x8192 1) (main_v15 : IVec S3584 1) (main_v16 : FVec F S3584 .f32) (main_v17 : FVec F S3584 .f32) : IVec S8x8192x3584 1 × IVec S3 1 × IVec S3x8x8192 1 × IVec S3x8x8192 1 × IVec S3584 1 × IVec S3584 1 × IVec S3 1 × IVec S3x8x8192 1 :=
  let main_v18 : IVec S3584 1 := cmpf .olt main_v16 main_v17
  let main_cst_5 : FVec F S_ .f32 := constant S_ .f32 0x00000000#32
  let main_v19 : FVec F S3 .f32 := broadcastInDim S3 ![] bcast_S_S3 main_cst_5
  let main_v20 : IVec S3 1 := cmpf .oge main_arg1 main_v19
  let main_cst_6 : FVec F S_ .f32 := constant S_ .f32 0x00000000#32
  let main_v21 : FVec F S3x8x8192 .f32 := broadcastInDim S3x8x8192 ![] bcast_S_S3x8x8192 main_cst_6
  let main_v22 : IVec S3x8x8192 1 := cmpf .oge main_arg3 main_v21
  (main_v3, main_v6, main_v9, main_v12, main_v15, main_v18, main_v20, main_v22)

def fn {F : FTy → Type} [FloatOps F] (main_arg0 : FVec F S8x8192x3584 .bf16) (main_arg1 : FVec F S3 .f32) (main_arg2 : FVec F S3x8x8192 .f32) (main_arg3 : FVec F S3x8x8192 .f32) (main_arg4 : FVec F S3584 .f32) (main_arg5 : FVec F S3584 .f32) : IVec S8x8192x3584 1 × IVec S3 1 × IVec S3x8x8192 1 × IVec S3x8x8192 1 × IVec S3584 1 × IVec S3584 1 × IVec S3 1 × IVec S3x8x8192 1 :=
  let main_v0 : FVec F S8x8192x3584 .f32 := (extf .f32 · bitsLt_bf16_f32) main_arg0
  let main_v1 : FVec F S8x8192x3584 .f32 := Host.absf main_v0
  let main_cst : FVec F S_ .f32 := constant S_ .f32 0x7F800000#32
  let main_v2 : FVec F S8x8192x3584 .f32 := broadcastInDim S8x8192x3584 ![] bcast_S_S8x8192x3584 main_cst
  let main_v3 : IVec S8x8192x3584 1 := cmpf .olt main_v1 main_v2
  let main_v4 : FVec F S3 .f32 := Host.absf main_arg1
  let main_cst_0 : FVec F S_ .f32 := constant S_ .f32 0x7F800000#32
  let main_v5 : FVec F S3 .f32 := broadcastInDim S3 ![] bcast_S_S3 main_cst_0
  let main_v6 : IVec S3 1 := cmpf .olt main_v4 main_v5
  let main_v7 : FVec F S3x8x8192 .f32 := Host.absf main_arg2
  let main_cst_1 : FVec F S_ .f32 := constant S_ .f32 0x7F800000#32
  let main_v8 : FVec F S3x8x8192 .f32 := broadcastInDim S3x8x8192 ![] bcast_S_S3x8x8192 main_cst_1
  let main_v9 : IVec S3x8x8192 1 := cmpf .olt main_v7 main_v8
  let main_v10 : FVec F S3x8x8192 .f32 := Host.absf main_arg3
  let main_cst_2 : FVec F S_ .f32 := constant S_ .f32 0x7F800000#32
  let main_v11 : FVec F S3x8x8192 .f32 := broadcastInDim S3x8x8192 ![] bcast_S_S3x8x8192 main_cst_2
  let main_v12 : IVec S3x8x8192 1 := cmpf .olt main_v10 main_v11
  let main_v13 : FVec F S3584 .f32 := Host.absf main_arg4
  let main_cst_3 : FVec F S_ .f32 := constant S_ .f32 0x7F800000#32
  let main_v14 : FVec F S3584 .f32 := broadcastInDim S3584 ![] bcast_S_S3584 main_cst_3
  let main_v15 : IVec S3584 1 := cmpf .olt main_v13 main_v14
  let main_v16 : FVec F S3584 .f32 := Host.absf main_arg5
  let main_cst_4 : FVec F S_ .f32 := constant S_ .f32 0x7F800000#32
  let main_v17 : FVec F S3584 .f32 := broadcastInDim S3584 ![] bcast_S_S3584 main_cst_4
  fn_part1 (F := F) main_arg1 main_arg3 main_v3 main_v6 main_v9 main_v12 main_v15 main_v16 main_v17
-- ==== Kernel.lean ====
abbrev S8x8192x3584 : Shape := ⟨3, ![8, 8192, 3584]⟩
abbrev S3 : Shape := ⟨1, ![3]⟩
abbrev S3x8x8192 : Shape := ⟨3, ![3, 8, 8192]⟩
abbrev S3584 : Shape := ⟨1, ![3584]⟩
abbrev S65536x3584 : Shape := ⟨2, ![65536, 3584]⟩
abbrev S28x128 : Shape := ⟨2, ![28, 128]⟩
abbrev S65536x112 : Shape := ⟨2, ![65536, 112]⟩
abbrev S8x8192 : Shape := ⟨2, ![8, 8192]⟩
abbrev S512x3584 : Shape := ⟨2, ![512, 3584]⟩
abbrev S512x112 : Shape := ⟨2, ![512, 112]⟩
abbrev S2x3584x512 : Shape := ⟨3, ![2, 3584, 512]⟩
abbrev S3584x128 : Shape := ⟨2, ![3584, 128]⟩
abbrev S128x512 : Shape := ⟨2, ![128, 512]⟩
abbrev S8x512 : Shape := ⟨2, ![8, 512]⟩
abbrev S2x8x512 : Shape := ⟨3, ![2, 8, 512]⟩
abbrev S80x128 : Shape := ⟨2, ![80, 128]⟩
abbrev S128x128 : Shape := ⟨2, ![128, 128]⟩
abbrev S1x128 : Shape := ⟨2, ![1, 128]⟩
abbrev S256x256 : Shape := ⟨2, ![256, 256]⟩
abbrev S1x256x256 : Shape := ⟨3, ![1, 256, 256]⟩
abbrev S32x8x256 : Shape := ⟨3, ![32, 8, 256]⟩
abbrev S1x8x256 : Shape := ⟨3, ![1, 8, 256]⟩
abbrev S8x256 : Shape := ⟨2, ![8, 256]⟩
abbrev S256x128 : Shape := ⟨2, ![256, 128]⟩
abbrev S128x256 : Shape := ⟨2, ![128, 256]⟩
abbrev S1x256x128 : Shape := ⟨3, ![1, 256, 128]⟩
abbrev S8x4x8x128 : Shape := ⟨4, ![8, 4, 8, 128]⟩
abbrev S8x8x128 : Shape := ⟨3, ![8, 8, 128]⟩
abbrev S1x8x128 : Shape := ⟨3, ![1, 8, 128]⟩
abbrev S8x128 : Shape := ⟨2, ![8, 128]⟩
abbrev S32x128 : Shape := ⟨2, ![32, 128]⟩
abbrev S512x128 : Shape := ⟨2, ![512, 128]⟩
abbrev S1x8x512 : Shape := ⟨3, ![1, 8, 512]⟩
abbrev S512 : Shape := ⟨1, ![512]⟩
abbrev S1x512 : Shape := ⟨2, ![1, 512]⟩
abbrev S1x1x512 : Shape := ⟨3, ![1, 1, 512]⟩
abbrev S1 : Shape := ⟨1, ![1]⟩
abbrev S1x1x1 : Shape := ⟨3, ![1, 1, 1]⟩
abbrev S1x256x512 : Shape := ⟨3, ![1, 256, 512]⟩
abbrev S256x512 : Shape := ⟨2, ![256, 512]⟩
abbrev S32x8x512 : Shape := ⟨3, ![32, 8, 512]⟩
abbrev S16x512 : Shape := ⟨2, ![16, 512]⟩

abbrev nBuf : Space → Nat
  | .hbm => 13
  | .vmem => 20
  | .smem => 1
  | _ => 0

abbrev bufTy : (tb : Table) → Fin (tcTables nBuf tb) → BufTy
  | .hbm, ⟨0, _⟩ => ⟨S8x8192x3584, .bf16⟩
  | .hbm, ⟨1, _⟩ => ⟨S3, .f32⟩
  | .hbm, ⟨2, _⟩ => ⟨S3x8x8192, .f32⟩
  | .hbm, ⟨3, _⟩ => ⟨S3x8x8192, .f32⟩
  | .hbm, ⟨4, _⟩ => ⟨S3584, .f32⟩
  | .hbm, ⟨5, _⟩ => ⟨S3584, .f32⟩
  | .hbm, ⟨6, _⟩ => ⟨S65536x3584, .bf16⟩
  | .hbm, ⟨7, _⟩ => ⟨S28x128, .f32⟩
  | .hbm, ⟨8, _⟩ => ⟨S28x128, .f32⟩
  | .hbm, ⟨9, _⟩ => ⟨S65536x3584, .fp8e4m3⟩
  | .hbm, ⟨10, _⟩ => ⟨S65536x112, .i8⟩
  | .hbm, ⟨11, _⟩ => ⟨S8x8192, .f32⟩
  | .hbm, ⟨12, _⟩ => ⟨S8x8192, .f32⟩
  | .local _ .vmem, ⟨0, _⟩ => ⟨S512x3584, .bf16⟩
  | .local _ .vmem, ⟨1, _⟩ => ⟨S512x3584, .bf16⟩
  | .local _ .vmem, ⟨2, _⟩ => ⟨S3x8x8192, .f32⟩
  | .local _ .vmem, ⟨3, _⟩ => ⟨S3x8x8192, .f32⟩
  | .local _ .vmem, ⟨4, _⟩ => ⟨S28x128, .f32⟩
  | .local _ .vmem, ⟨5, _⟩ => ⟨S28x128, .f32⟩
  | .local _ .vmem, ⟨6, _⟩ => ⟨S512x3584, .fp8e4m3⟩
  | .local _ .vmem, ⟨7, _⟩ => ⟨S512x3584, .fp8e4m3⟩
  | .local _ .vmem, ⟨8, _⟩ => ⟨S512x112, .i8⟩
  | .local _ .vmem, ⟨9, _⟩ => ⟨S512x112, .i8⟩
  | .local _ .vmem, ⟨10, _⟩ => ⟨S8x8192, .f32⟩
  | .local _ .vmem, ⟨11, _⟩ => ⟨S8x8192, .f32⟩
  | .local _ .vmem, ⟨12, _⟩ => ⟨S2x3584x512, .bf16⟩
  | .local _ .vmem, ⟨13, _⟩ => ⟨S3584x128, .f32⟩
  | .local _ .vmem, ⟨14, _⟩ => ⟨S3584x128, .bf16⟩
  | .local _ .vmem, ⟨15, _⟩ => ⟨S128x512, .bf16⟩
  | .local _ .vmem, ⟨16, _⟩ => ⟨S8x512, .f32⟩
  | .local _ .vmem, ⟨17, _⟩ => ⟨S2x8x512, .f32⟩
  | .local _ .vmem, ⟨18, _⟩ => ⟨S128x512, .i32⟩
  | .local _ .vmem, ⟨19, _⟩ => ⟨S80x128, .f32⟩
  | .local _ .smem, ⟨0, _⟩ => ⟨S3, .f32⟩
  | _, _ => ⟨S8x8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![129], ![false]⟩

@[reducible] def k0_t1_loop : Scf.Loop 32 :=
  let c0_i32_4 : BitVec 32 := 0#32
  let c28_i32 : BitVec 32 := 28#32
  let v9 : BitVec 32 := Scalar.addi c0_i32_4 c28_i32
  let c1_i32_5 : BitVec 32 := 1#32
  ⟨c0_i32_4, v9, c1_i32_5⟩
def k0_mult1 (k0_t1 : Fin k0_t1_loop.trips) : BitVec 32 :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  v37
def k0_mult2 (k0_t1 : Fin k0_t1_loop.trips) : BitVec 32 :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c14_i32_18 : BitVec 32 := 14#32
  let v35 : BitVec 32 := Scalar.muli v34 c14_i32_18
  let v36 : BitVec 32 := Scalar.subi arg19 v35
  let c256_i32_19 : BitVec 32 := 256#32
  let v39 : BitVec 32 := Scalar.muli v36 c256_i32_19
  v39
def k0_off1 (k0_t1 : Fin k0_t1_loop.trips) : Fin 2 → Nat :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let v41 : Index := Scalar.indexCast v38
  let c14_i32_18 : BitVec 32 := 14#32
  let v35 : BitVec 32 := Scalar.muli v34 c14_i32_18
  let v36 : BitVec 32 := Scalar.subi arg19 v35
  let c256_i32_19 : BitVec 32 := 256#32
  let v39 : BitVec 32 := Scalar.muli v36 c256_i32_19
  let v40 : BitVec 32 := v39
  let v42 : Index := Scalar.indexCast v40
  ![v41.toNat, v42.toNat]
def k0_off2 (i : grid0.Coords) (k0_t1 : Fin k0_t1_loop.trips) : Fin 3 → Nat :=
  let arg0 : BitVec 32 := BitVec.ofNat 32 (i 0).val
  let c1_i32 : BitVec 32 := 1#32
  let v3 : BitVec 32 := Scalar.andi arg0 c1_i32
  let v46 : Index := Scalar.indexCast v3
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c14_i32_18 : BitVec 32 := 14#32
  let v35 : BitVec 32 := Scalar.muli v34 c14_i32_18
  let v36 : BitVec 32 := Scalar.subi arg19 v35
  let c256_i32_19 : BitVec 32 := 256#32
  let v39 : BitVec 32 := Scalar.muli v36 c256_i32_19
  let v40 : BitVec 32 := v39
  let v47 : Index := Scalar.indexCast v40
  let c256_i32 : BitVec 32 := 256#32
  let v37 : BitVec 32 := Scalar.muli v34 c256_i32
  let v38 : BitVec 32 := v37
  let v48 : Index := Scalar.indexCast v38
  ![v46.toNat, v47.toNat, v48.toNat]
def k0_off3 (k0_t1 : Fin k0_t1_loop.trips) : Fin 3 → Nat :=
  let c0_20 : Index := 0#32
  let c0_21 : Index := 0#32
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let v54 : Index := Scalar.indexCast v38
  ![0, 0, v54.toNat]
def k0_off4 (k0_t1 : Fin k0_t1_loop.trips) : Fin 3 → Nat :=
  let c1 : Index := 1#32
  let c0_25 : Index := 0#32
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let v63 : Index := Scalar.indexCast v38
  ![1, 0, v63.toNat]
def k0_off5 (k0_t1 : Fin k0_t1_loop.trips) : Fin 2 → Nat :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c14_i32_18 : BitVec 32 := 14#32
  let v35 : BitVec 32 := Scalar.muli v34 c14_i32_18
  let v36 : BitVec 32 := Scalar.subi arg19 v35
  let c256_i32_19 : BitVec 32 := 256#32
  let v39 : BitVec 32 := Scalar.muli v36 c256_i32_19
  let v40 : BitVec 32 := v39
  let v73 : Index := Scalar.indexCast v40
  let c0_29 : Index := 0#32
  ![v73.toNat, 0]
def k0_off6 (k0_t1 : Fin k0_t1_loop.trips) : Fin 2 → Nat :=
  let c0_30 : Index := 0#32
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let v75 : Index := Scalar.indexCast v38
  ![0, v75.toNat]
def k0_mult3 (k0_t1 : Fin k0_t1_loop.trips) : BitVec 32 :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let c0_i32_32 : BitVec 32 := 0#32
  let v78 : BitVec 32 := Scalar.addi v38 c0_i32_32
  v78
def k0_off7 (i : grid0.Coords) (k0_t1 : Fin k0_t1_loop.trips) (c0_i32_32 : BitVec 32) : Fin 3 → Nat :=
  let c1_i32_1 : BitVec 32 := 1#32
  let arg0 : BitVec 32 := BitVec.ofNat 32 (i 0).val
  let c1_i32 : BitVec 32 := 1#32
  let v3 : BitVec 32 := Scalar.andi arg0 c1_i32
  let v4 : BitVec 32 := Scalar.subi c1_i32_1 v3
  let v80 : Index := Scalar.indexCast v4
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c14_i32_18 : BitVec 32 := 14#32
  let v35 : BitVec 32 := Scalar.muli v34 c14_i32_18
  let v36 : BitVec 32 := Scalar.subi arg19 v35
  let c256_i32_19 : BitVec 32 := 256#32
  let v39 : BitVec 32 := Scalar.muli v36 c256_i32_19
  let v40 : BitVec 32 := v39
  let v81 : Index := Scalar.indexCast v40
  let c256_i32 : BitVec 32 := 256#32
  let v37 : BitVec 32 := Scalar.muli v34 c256_i32
  let v38 : BitVec 32 := v37
  let v78 : BitVec 32 := Scalar.addi v38 c0_i32_32
  let v79 : BitVec 32 := v78
  let v82 : Index := Scalar.indexCast v79
  ![v80.toNat, v81.toNat, v82.toNat]
def k0_off8 (k0_t1 : Fin k0_t1_loop.trips) (c0_i32_32 : BitVec 32) : Fin 2 → Nat :=
  let c0_54 : Index := 0#32
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let v78 : BitVec 32 := Scalar.addi v38 c0_i32_32
  let v79 : BitVec 32 := v78
  let v149 : Index := Scalar.indexCast v79
  ![0, v149.toNat]
def k0_mult4 (k0_t1 : Fin k0_t1_loop.trips) : BitVec 32 :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c14_i32_18 : BitVec 32 := 14#32
  let v35 : BitVec 32 := Scalar.muli v34 c14_i32_18
  let v36 : BitVec 32 := Scalar.subi arg19 v35
  let c8_i32_75 : BitVec 32 := 8#32
  let v239 : BitVec 32 := Scalar.muli v36 c8_i32_75
  v239
def k0_off9 (k0_t1 : Fin k0_t1_loop.trips) (c0_i32_32 : BitVec 32) : Fin 2 → Nat :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c14_i32_18 : BitVec 32 := 14#32
  let v35 : BitVec 32 := Scalar.muli v34 c14_i32_18
  let v36 : BitVec 32 := Scalar.subi arg19 v35
  let c8_i32_75 : BitVec 32 := 8#32
  let v239 : BitVec 32 := Scalar.muli v36 c8_i32_75
  let v240 : BitVec 32 := v239
  let v241 : Index := Scalar.indexCast v240
  let c256_i32 : BitVec 32 := 256#32
  let v37 : BitVec 32 := Scalar.muli v34 c256_i32
  let v38 : BitVec 32 := v37
  let v78 : BitVec 32 := Scalar.addi v38 c0_i32_32
  let v79 : BitVec 32 := v78
  let v242 : Index := Scalar.indexCast v79
  ![v241.toNat, v242.toNat]
def k0_off10 (k0_t1 : Fin k0_t1_loop.trips) (c0_i32_32 : BitVec 32) : Fin 2 → Nat :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let v78 : BitVec 32 := Scalar.addi v38 c0_i32_32
  let v79 : BitVec 32 := v78
  let v291 : Index := Scalar.indexCast v79
  let c14_i32_18 : BitVec 32 := 14#32
  let v35 : BitVec 32 := Scalar.muli v34 c14_i32_18
  let v36 : BitVec 32 := Scalar.subi arg19 v35
  let c256_i32_19 : BitVec 32 := 256#32
  let v39 : BitVec 32 := Scalar.muli v36 c256_i32_19
  let v40 : BitVec 32 := v39
  let v292 : Index := Scalar.indexCast v40
  ![v291.toNat, v292.toNat]
def k0_mult5 (k0_t1 : Fin k0_t1_loop.trips) : BitVec 32 :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c256_i32 : BitVec 32 := 256#32
  let v37 : BitVec 32 := Scalar.muli v34 c256_i32
  let v38 : BitVec 32 := v37
  let c128_i32_80 : BitVec 32 := 128#32
  let v294 : BitVec 32 := Scalar.addi v38 c128_i32_80
  v294
def k0_mult6 (k0_t1 : Fin k0_t1_loop.trips) : BitVec 32 :=
  let c0_i32_4 : BitVec 32 := 0#32
  let c1_i32_5 : BitVec 32 := 1#32
  let arg19 : BitVec 32 := Scf.iv c0_i32_4 c1_i32_5 k0_t1
  let c0_i32_12 : BitVec 32 := 0#32
  let v19 : BitVec 1 := Scalar.cmpi .sgt arg19 c0_i32_12
  let v20 : BitVec 32 := Scalar.extui v19
  let c0_i32_13 : BitVec 32 := 0#32
  let v21 : BitVec 1 := Scalar.cmpi .slt arg19 c0_i32_13
  let v22 : BitVec 32 := Scalar.extui v21
  let v23 : BitVec 32 := Scalar.subi v20 v22
  let c14_i32 : BitVec 32 := 14#32
  let c0_i32_14 : BitVec 32 := 0#32
  let v24 : BitVec 1 := Scalar.cmpi .sgt c14_i32 c0_i32_14
  let v25 : BitVec 32 := Scalar.extui v24
  let c0_i32_15 : BitVec 32 := 0#32
  let v26 : BitVec 1 := Scalar.cmpi .slt c14_i32 c0_i32_15
  let v27 : BitVec 32 := Scalar.extui v26
  let v28 : BitVec 32 := Scalar.subi v25 v27
  let v29 : BitVec 1 := Scalar.cmpi .ne v23 v28
  let v30 : BitVec 32 := Scalar.remsi arg19 c14_i32
  let c0_i32_16 : BitVec 32 := 0#32
  let v31 : BitVec 1 := Scalar.cmpi .ne v30 c0_i32_16
  let v32 : BitVec 1 := Scalar.andi v29 v31
  let v18 : BitVec 32 := Scalar.divsi arg19 c14_i32
  let c1_i32_17 : BitVec 32 := 1#32
  let v33 : BitVec 32 := Scalar.subi v18 c1_i32_17
  let v34 : BitVec 32 := Scalar.select v32 v33 v18
  let c14_i32_18 : BitVec 32 := 14#32
  let v35 : BitVec 32 := Scalar.muli v34 c14_i32_18
  let v36 : BitVec 32 := Scalar.subi arg19 v35
  let c8_i32_148 : BitVec 32 := 8#32
  let v455 : BitVec 32 := Scalar.muli v36 c8_i32_148
  v455
def k0_cond2 (i : grid0.Coords) : BitVec 1 :=
  let arg0 : BitVec 32 := BitVec.ofNat 32 (i 0).val
  let c128_i32 : BitVec 32 := 128#32
  let v15 : BitVec 1 := Scalar.cmpi .slt arg0 c128_i32
  let v16 : BitVec 32 := Scalar.extui v15
  let c0_i32_11 : BitVec 32 := 0#32
  let v17 : BitVec 1 := Scalar.cmpi .ne v16 c0_i32_11
  v17

@[reducible] def k0_t2_loop : Scf.Loop 32 :=
  let c0_i32_59 : BitVec 32 := 0#32
  let c14_i32 : BitVec 32 := 14#32
  let v233 : BitVec 32 := Scalar.addi c0_i32_59 c14_i32
  let c1_i32_60 : BitVec 32 := 1#32
  ⟨c0_i32_59, v233, c1_i32_60⟩
def k0_mult7 (k0_t2 : Fin k0_t2_loop.trips) : BitVec 32 :=
  let c0_i32_59 : BitVec 32 := 0#32
  let c1_i32_60 : BitVec 32 := 1#32
  let arg19 : BitVec 32 := Scf.iv c0_i32_59 c1_i32_60 k0_t2
  let c256_i32 : BitVec 32 := 256#32
  let v240 : BitVec 32 := Scalar.muli arg19 c256_i32
  v240
def k0_off11 (i : grid0.Coords) (k0_t2 : Fin k0_t2_loop.trips) : Fin 3 → Nat :=
  let arg0 : BitVec 32 := BitVec.ofNat 32 (i 0).val
  let c1_i32 : BitVec 32 := 1#32
  let v3 : BitVec 32 := Scalar.andi arg0 c1_i32
  let v242 : Index := Scalar.indexCast v3
  let c0_i32_59 : BitVec 32 := 0#32
  let c1_i32_60 : BitVec 32 := 1#32
  let arg19 : BitVec 32 := Scf.iv c0_i32_59 c1_i32_60 k0_t2
  let c256_i32 : BitVec 32 := 256#32
  let v240 : BitVec 32 := Scalar.muli arg19 c256_i32
  let v241 : BitVec 32 := v240
  let v243 : Index := Scalar.indexCast v241
  let c0_65 : Index := 0#32
  ![v242.toNat, v243.toNat, 0]
def k0_mult8 (i : grid0.Coords) : BitVec 32 :=
  let arg0 : BitVec 32 := BitVec.ofNat 32 (i 0).val
  let c512_i32 : BitVec 32 := 512#32
  let v47 : BitVec 32 := Scalar.muli arg0 c512_i32
  let c0_i32_30 : BitVec 32 := 0#32
  let v49 : BitVec 1 := Scalar.cmpi .sgt v47 c0_i32_30
  let v50 : BitVec 32 := Scalar.extui v49
  let c0_i32_31 : BitVec 32 := 0#32
  let v51 : BitVec 1 := Scalar.cmpi .slt v47 c0_i32_31
  let v52 : BitVec 32 := Scalar.extui v51
  let v53 : BitVec 32 := Scalar.subi v50 v52
  let c8192_i32 : BitVec 32 := 8192#32
  let c0_i32_32 : BitVec 32 := 0#32
  let v54 : BitVec 1 := Scalar.cmpi .sgt c8192_i32 c0_i32_32
  let v55 : BitVec 32 := Scalar.extui v54
  let c0_i32_33 : BitVec 32 := 0#32
  let v56 : BitVec 1 := Scalar.cmpi .slt c8192_i32 c0_i32_33
  let v57 : BitVec 32 := Scalar.extui v56
  let v58 : BitVec 32 := Scalar.subi v55 v57
  let v59 : BitVec 1 := Scalar.cmpi .ne v53 v58
  let v60 : BitVec 32 := Scalar.remsi v47 c8192_i32
  let c0_i32_34 : BitVec 32 := 0#32
  let v61 : BitVec 1 := Scalar.cmpi .ne v60 c0_i32_34
  let v62 : BitVec 1 := Scalar.andi v59 v61
  let v48 : BitVec 32 := Scalar.divsi v47 c8192_i32
  let c1_i32_35 : BitVec 32 := 1#32
  let v63 : BitVec 32 := Scalar.subi v48 c1_i32_35
  let v64 : BitVec 32 := Scalar.select v62 v63 v48
  let c8192_i32_36 : BitVec 32 := 8192#32
  let v65 : BitVec 32 := Scalar.muli v64 c8192_i32_36
  let v66 : BitVec 32 := Scalar.subi v47 v65
  v66
def k0_off12 (i : grid0.Coords) : Fin 3 → Nat :=
  let c0_38 : Index := 0#32
  let arg0 : BitVec 32 := BitVec.ofNat 32 (i 0).val
  let c512_i32 : BitVec 32 := 512#32
  let v47 : BitVec 32 := Scalar.muli arg0 c512_i32
  let c0_i32_30 : BitVec 32 := 0#32
  let v49 : BitVec 1 := Scalar.cmpi .sgt v47 c0_i32_30
  let v50 : BitVec 32 := Scalar.extui v49
  let c0_i32_31 : BitVec 32 := 0#32
  let v51 : BitVec 1 := Scalar.cmpi .slt v47 c0_i32_31
  let v52 : BitVec 32 := Scalar.extui v51
  let v53 : BitVec 32 := Scalar.subi v50 v52
  let c8192_i32 : BitVec 32 := 8192#32
  let c0_i32_32 : BitVec 32 := 0#32
  let v54 : BitVec 1 := Scalar.cmpi .sgt c8192_i32 c0_i32_32
  let v55 : BitVec 32 := Scalar.extui v54
  let c0_i32_33 : BitVec 32 := 0#32
  let v56 : BitVec 1 := Scalar.cmpi .slt c8192_i32 c0_i32_33
  let v57 : BitVec 32 := Scalar.extui v56
  let v58 : BitVec 32 := Scalar.subi v55 v57
  let v59 : BitVec 1 := Scalar.cmpi .ne v53 v58
  let v60 : BitVec 32 := Scalar.remsi v47 c8192_i32
  let c0_i32_34 : BitVec 32 := 0#32
  let v61 : BitVec 1 := Scalar.cmpi .ne v60 c0_i32_34
  let v62 : BitVec 1 := Scalar.andi v59 v61
  let v48 : BitVec 32 := Scalar.divsi v47 c8192_i32
  let c1_i32_35 : BitVec 32 := 1#32
  let v63 : BitVec 32 := Scalar.subi v48 c1_i32_35
  let v64 : BitVec 32 := Scalar.select v62 v63 v48
  let v70 : Index := Scalar.indexCast v64
  let c8192_i32_36 : BitVec 32 := 8192#32
  let v65 : BitVec 32 := Scalar.muli v64 c8192_i32_36
  let v66 : BitVec 32 := Scalar.subi v47 v65
  let v67 : BitVec 32 := v66
  let v71 : Index := Scalar.indexCast v67
  ![0, v70.toNat, v71.toNat]
def k0_off13 (i : grid0.Coords) : Fin 3 → Nat :=
  let c1_42 : Index := 1#32
  let arg0 : BitVec 32 := BitVec.ofNat 32 (i 0).val
  let c512_i32 : BitVec 32 := 512#32
  let v47 : BitVec 32 := Scalar.muli arg0 c512_i32
  let c0_i32_30 : BitVec 32 := 0#32
  let v49 : BitVec 1 := Scalar.cmpi .sgt v47 c0_i32_30
  let v50 : BitVec 32 := Scalar.extui v49
  let c0_i32_31 : BitVec 32 := 0#32
  let v51 : BitVec 1 := Scalar.cmpi .slt v47 c0_i32_31
  let v52 : BitVec 32 := Scalar.extui v51
  let v53 : BitVec 32 := Scalar.subi v50 v52
  let c8192_i32 : BitVec 32 := 8192#32
  let c0_i32_32 : BitVec 32 := 0#32
  let v54 : BitVec 1 := Scalar.cmpi .sgt c8192_i32 c0_i32_32
  let v55 : BitVec 32 := Scalar.extui v54
  let c0_i32_33 : BitVec 32 := 0#32
  let v56 : BitVec 1 := Scalar.cmpi .slt c8192_i32 c0_i32_33
  let v57 : BitVec 32 := Scalar.extui v56
  let v58 : BitVec 32 := Scalar.subi v55 v57
  let v59 : BitVec 1 := Scalar.cmpi .ne v53 v58
  let v60 : BitVec 32 := Scalar.remsi v47 c8192_i32
  let c0_i32_34 : BitVec 32 := 0#32
  let v61 : BitVec 1 := Scalar.cmpi .ne v60 c0_i32_34
  let v62 : BitVec 1 := Scalar.andi v59 v61
  let v48 : BitVec 32 := Scalar.divsi v47 c8192_i32
  let c1_i32_35 : BitVec 32 := 1#32
  let v63 : BitVec 32 := Scalar.subi v48 c1_i32_35
  let v64 : BitVec 32 := Scalar.select v62 v63 v48
  let v81 : Index := Scalar.indexCast v64
  let c8192_i32_36 : BitVec 32 := 8192#32
  let v65 : BitVec 32 := Scalar.muli v64 c8192_i32_36
  let v66 : BitVec 32 := Scalar.subi v47 v65
  let v67 : BitVec 32 := v66
  let v82 : Index := Scalar.indexCast v67
  ![1, v81.toNat, v82.toNat]
def k0_off14 (i : grid0.Coords) : Fin 3 → Nat :=
  let c2_44 : Index := 2#32
  let arg0 : BitVec 32 := BitVec.ofNat 32 (i 0).val
  let c512_i32 : BitVec 32 := 512#32
  let v47 : BitVec 32 := Scalar.muli arg0 c512_i32
  let c0_i32_30 : BitVec 32 := 0#32
  let v49 : BitVec 1 := Scalar.cmpi .sgt v47 c0_i32_30
  let v50 : BitVec 32 := Scalar.extui v49
  let c0_i32_31 : BitVec 32 := 0#32
  let v51 : BitVec 1 := Scalar.cmpi .slt v47 c0_i32_31
  let v52 : BitVec 32 := Scalar.extui v51
  let v53 : BitVec 32 := Scalar.subi v50 v52
  let c8192_i32 : BitVec 32 := 8192#32
  let c0_i32_32 : BitVec 32 := 0#32
  let v54 : BitVec 1 := Scalar.cmpi .sgt c8192_i32 c0_i32_32
  let v55 : BitVec 32 := Scalar.extui v54
  let c0_i32_33 : BitVec 32 := 0#32
  let v56 : BitVec 1 := Scalar.cmpi .slt c8192_i32 c0_i32_33
  let v57 : BitVec 32 := Scalar.extui v56
  let v58 : BitVec 32 := Scalar.subi v55 v57
  let v59 : BitVec 1 := Scalar.cmpi .ne v53 v58
  let v60 : BitVec 32 := Scalar.remsi v47 c8192_i32
  let c0_i32_34 : BitVec 32 := 0#32
  let v61 : BitVec 1 := Scalar.cmpi .ne v60 c0_i32_34
  let v62 : BitVec 1 := Scalar.andi v59 v61
  let v48 : BitVec 32 := Scalar.divsi v47 c8192_i32
  let c1_i32_35 : BitVec 32 := 1#32
  let v63 : BitVec 32 := Scalar.subi v48 c1_i32_35
  let v64 : BitVec 32 := Scalar.select v62 v63 v48
  let v91 : Index := Scalar.indexCast v64
  let c8192_i32_36 : BitVec 32 := 8192#32
  let v65 : BitVec 32 := Scalar.muli v64 c8192_i32_36
  let v66 : BitVec 32 := Scalar.subi v47 v65
  let v67 : BitVec 32 := v66
  let v92 : Index := Scalar.indexCast v67
  ![2, v91.toNat, v92.toNat]
def k0_off15 (i : grid0.Coords) : Fin 2 → Nat :=
  let arg0 : BitVec 32 := BitVec.ofNat 32 (i 0).val
  let c512_i32 : BitVec 32 := 512#32
  let v47 : BitVec 32 := Scalar.muli arg0 c512_i32
  let c0_i32_30 : BitVec 32 := 0#32
  let v49 : BitVec 1 := Scalar.cmpi .sgt v47 c0_i32_30
  let v50 : BitVec 32 := Scalar.extui v49
  let c0_i32_31 : BitVec 32 := 0#32
  let v51 : BitVec 1 := Scalar.cmpi .slt v47 c0_i32_31
  let v52 : BitVec 32 := Scalar.extui v51
  let v53 : BitVec 32 := Scalar.subi v50 v52
  let c8192_i32 : BitVec 32 := 8192#32
  let c0_i32_32 : BitVec 32 := 0#32
  let v54 : BitVec 1 := Scalar.cmpi .sgt c8192_i32 c0_i32_32
  let v55 : BitVec 32 := Scalar.extui v54
  let c0_i32_33 : BitVec 32 := 0#32
  let v56 : BitVec 1 := Scalar.cmpi .slt c8192_i32 c0_i32_33
  let v57 : BitVec 32 := Scalar.extui v56
  let v58 : BitVec 32 := Scalar.subi v55 v57
  let v59 : BitVec 1 := Scalar.cmpi .ne v53 v58
  let v60 : BitVec 32 := Scalar.remsi v47 c8192_i32
  let c0_i32_34 : BitVec 32 := 0#32
  let v61 : BitVec 1 := Scalar.cmpi .ne v60 c0_i32_34
  let v62 : BitVec 1 := Scalar.andi v59 v61
  let v48 : BitVec 32 := Scalar.divsi v47 c8192_i32
  let c1_i32_35 : BitVec 32 := 1#32
  let v63 : BitVec 32 := Scalar.subi v48 c1_i32_35
  let v64 : BitVec 32 := Scalar.select v62 v63 v48
  let v137 : Index := Scalar.indexCast v64
  let c8192_i32_36 : BitVec 32 := 8192#32
  let v65 : BitVec 32 := Scalar.muli v64 c8192_i32_36
  let v66 : BitVec 32 := Scalar.subi v47 v65
  let v67 : BitVec 32 := v66
  let v138 : Index := Scalar.indexCast v67
  ![v137.toNat, v138.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x8x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x8x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S28x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S28x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x112 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8x8192x3584 : Shape := ⟨3, ![8, 8192, 3584]⟩
abbrev S3 : Shape := ⟨1, ![3]⟩
abbrev S3x8x8192 : Shape := ⟨3, ![3, 8, 8192]⟩
abbrev S3584 : Shape := ⟨1, ![3584]⟩
abbrev S_ : Shape := ⟨0, ![]⟩
abbrev S8x8192 : Shape := ⟨2, ![8, 8192]⟩
abbrev S8x8192x1 : Shape := ⟨3, ![8, 8192, 1]⟩
abbrev S1 : Shape := ⟨1, ![1]⟩
abbrev S1x8x8192 : Shape := ⟨3, ![1, 8, 8192]⟩
abbrev S1x1x3584 : Shape := ⟨3, ![1, 1, 3584]⟩
abbrev S8x8192x112x32 : Shape := ⟨4, ![8, 8192, 112, 32]⟩
abbrev S8x8192x112 : Shape := ⟨3, ![8, 8192, 112]⟩
abbrev S246 : Shape := ⟨1, ![246]⟩
abbrev S8x8192x112x1 : Shape := ⟨4, ![8, 8192, 112, 1]⟩
abbrev S1x1x1x246 : Shape := ⟨4, ![1, 1, 1, 246]⟩
abbrev S8x8192x112x246 : Shape := ⟨4, ![8, 8192, 112, 246]⟩
abbrev S65536x3584 : Shape := ⟨2, ![65536, 3584]⟩
abbrev S65536x112 : Shape := ⟨2, ![65536, 112]⟩

abbrev nBuf : Space → Nat
  | .hbm => 152
  | .vmem => 0
  | .smem => 0
  | _ => 0

abbrev hbmTy0_0 (i : Nat) : BufTy := match i % 128 with
  | 0 => ⟨S8x8192x3584, .bf16⟩
  | 1 => ⟨S3, .f32⟩
  | 2 => ⟨S3x8x8192, .f32⟩
  | 3 => ⟨S3x8x8192, .f32⟩
  | 4 => ⟨S3584, .f32⟩
  | 5 => ⟨S3584, .f32⟩
  | 6 => ⟨S8x8192x3584, .f32⟩
  | 7 => ⟨S_, .f32⟩
  | 8 => ⟨S8x8192, .f32⟩
  | 9 => ⟨S_, .f32⟩
  | 10 => ⟨S8x8192, .f32⟩
  | 11 => ⟨S8x8192, .f32⟩
  | 12 => ⟨S8x8192x1, .f32⟩
  | 13 => ⟨S8x8192x3584, .f32⟩
  | 14 => ⟨S8x8192x3584, .f32⟩
  | 15 => ⟨S8x8192x3584, .f32⟩
  | 16 => ⟨S_, .f32⟩
  | 17 => ⟨S8x8192, .f32⟩
  | 18 => ⟨S1, .f32⟩
  | 19 => ⟨S_, .f32⟩
  | 20 => ⟨S1x8x8192, .f32⟩
  | 21 => ⟨S8x8192, .f32⟩
  | 22 => ⟨S1x8x8192, .f32⟩
  | 23 => ⟨S8x8192, .f32⟩
  | 24 => ⟨S1, .f32⟩
  | 25 => ⟨S_, .f32⟩
  | 26 => ⟨S1x8x8192, .f32⟩
  | 27 => ⟨S8x8192, .f32⟩
  | 28 => ⟨S1x8x8192, .f32⟩
  | 29 => ⟨S8x8192, .f32⟩
  | 30 => ⟨S1, .f32⟩
  | 31 => ⟨S_, .f32⟩
  | 32 => ⟨S1x8x8192, .f32⟩
  | 33 => ⟨S8x8192, .f32⟩
  | 34 => ⟨S1x8x8192, .f32⟩
  | 35 => ⟨S8x8192, .f32⟩
  | 36 => ⟨S_, .f32⟩
  | 37 => ⟨S_, .f32⟩
  | 38 => ⟨S8x8192, .f32⟩
  | 39 => ⟨S_, .f32⟩
  | 40 => ⟨S_, .f32⟩
  | 41 => ⟨S8x8192, .f32⟩
  | 42 => ⟨S8x8192, .f32⟩
  | 43 => ⟨S8x8192, .f32⟩
  | 44 => ⟨S8x8192, .f32⟩
  | 45 => ⟨S8x8192, .f32⟩
  | 46 => ⟨S_, .f32⟩
  | 47 => ⟨S_, .f32⟩
  | 48 => ⟨S_, .f32⟩
  | 49 => ⟨S8x8192, .f32⟩
  | 50 => ⟨S8x8192, .f32⟩
  | 51 => ⟨S8x8192, .f32⟩
  | 52 => ⟨S_, .f32⟩
  | 53 => ⟨S8x8192, .f32⟩
  | 54 => ⟨S_, .f32⟩
  | 55 => ⟨S8x8192, .f32⟩
  | 56 => ⟨S8x8192, .f32⟩
  | 57 => ⟨S8x8192, .f32⟩
  | 58 => ⟨S8x8192, .f32⟩
  | 59 => ⟨S8x8192, .f32⟩
  | 60 => ⟨S_, .f32⟩
  | 61 => ⟨S_, .f32⟩
  | 62 => ⟨S8x8192, .f32⟩
  | 63 => ⟨S8x8192, .f32⟩
  | 64 => ⟨S8x8192, .f32⟩
  | 65 => ⟨S_, .f32⟩
  | 66 => ⟨S8x8192, .f32⟩
  | 67 => ⟨S_, .f32⟩
  | 68 => ⟨S8x8192, .f32⟩
  | 69 => ⟨S8x8192, .f32⟩
  | 70 => ⟨S8x8192, .f32⟩
  | 71 => ⟨S8x8192, .f32⟩
  | 72 => ⟨S8x8192, .f32⟩
  | 73 => ⟨S_, .f32⟩
  | 74 => ⟨S_, .f32⟩
  | 75 => ⟨S8x8192, .f32⟩
  | 76 => ⟨S8x8192, .f32⟩
  | 77 => ⟨S8x8192, .f32⟩
  | 78 => ⟨S8x8192, .f32⟩
  | 79 => ⟨S8x8192, .f32⟩
  | 80 => ⟨S_, .f32⟩
  | 81 => ⟨S8x8192, .f32⟩
  | 82 => ⟨S8x8192, .f32⟩
  | 83 => ⟨S8x8192, .f32⟩
  | 84 => ⟨S8x8192x1, .f32⟩
  | 85 => ⟨S8x8192x3584, .f32⟩
  | 86 => ⟨S8x8192x3584, .f32⟩
  | 87 => ⟨S8x8192x1, .f32⟩
  | 88 => ⟨S8x8192x3584, .f32⟩
  | 89 => ⟨S8x8192x3584, .f32⟩
  | 90 => ⟨S1x1x3584, .f32⟩
  | 91 => ⟨S8x8192x3584, .f32⟩
  | 92 => ⟨S8x8192x3584, .f32⟩
  | 93 => ⟨S1x1x3584, .f32⟩
  | 94 => ⟨S8x8192x3584, .f32⟩
  | 95 => ⟨S8x8192x3584, .f32⟩
  | 96 => ⟨S8x8192x112x32, .f32⟩
  | 97 => ⟨S8x8192x112x32, .f32⟩
  | 98 => ⟨S_, .f32⟩
  | 99 => ⟨S8x8192x112, .f32⟩
  | 100 => ⟨S_, .f32⟩
  | 101 => ⟨S246, .f32⟩
  | 102 => ⟨S246, .i32⟩
  | 103 => ⟨S_, .i32⟩
  | 104 => ⟨S246, .i32⟩
  | 105 => ⟨S246, .i32⟩
  | 106 => ⟨S246, .f32⟩
  | 107 => ⟨S246, .f32⟩
  | 108 => ⟨S_, .f32⟩
  | 109 => ⟨S8x8192x112, .f32⟩
  | 110 => ⟨S8x8192x112, .f32⟩
  | 111 => ⟨S8x8192x112x1, .f32⟩
  | 112 => ⟨S1x1x1x246, .f32⟩
  | 113 => ⟨S8x8192x112x246, .f32⟩
  | 114 => ⟨S8x8192x112x246, .f32⟩
  | 115 => ⟨S8x8192x112x246, .i1⟩
  | 116 => ⟨S8x8192x112x246, .i32⟩
  | 117 => ⟨S_, .i32⟩
  | 118 => ⟨S8x8192x112, .i32⟩
  | 119 => ⟨S_, .i32⟩
  | 120 => ⟨S8x8192x112, .i32⟩
  | 121 => ⟨S8x8192x112, .i1⟩
  | 122 => ⟨S_, .i32⟩
  | 123 => ⟨S8x8192x112, .i32⟩
  | 124 => ⟨S8x8192x112, .i32⟩
  | 125 => ⟨S_, .i32⟩
  | 126 => ⟨S_, .i32⟩
  | 127 => ⟨S8x8192x112, .i32⟩
  | _ => ⟨S8x8192x3584, .bf16⟩

abbrev hbmTy0_1 (i : Nat) : BufTy := match i % 128 with
  | 0 => ⟨S8x8192x112, .i32⟩
  | 1 => ⟨S_, .f32⟩
  | 2 => ⟨S8x8192x112, .f32⟩
  | 3 => ⟨S8x8192x112, .i32⟩
  | 4 => ⟨S8x8192x112, .f32⟩
  | 5 => ⟨S8x8192x112, .f32⟩
  | 6 => ⟨S8x8192x112x1, .f32⟩
  | 7 => ⟨S8x8192x112x32, .f32⟩
  | 8 => ⟨S8x8192x112x32, .f32⟩
  | 9 => ⟨S_, .f32⟩
  | 10 => ⟨S_, .f32⟩
  | 11 => ⟨S_, .f32⟩
  | 12 => ⟨S8x8192x112x32, .f32⟩
  | 13 => ⟨S8x8192x112x32, .f32⟩
  | 14 => ⟨S_, .f32⟩
  | 15 => ⟨S8x8192x112x32, .f32⟩
  | 16 => ⟨S8x8192x112x32, .f32⟩
  | 17 => ⟨S8x8192x112x32, .fp8e4m3⟩
  | 18 => ⟨S_, .i32⟩
  | 19 => ⟨S8x8192x112, .i32⟩
  | 20 => ⟨S8x8192x112, .i32⟩
  | 21 => ⟨S8x8192x112, .i8⟩
  | 22 => ⟨S65536x3584, .fp8e4m3⟩
  | 23 => ⟨S65536x112, .i8⟩
  | _ => ⟨S8x8192x3584, .bf16⟩

abbrev hbmTy (i : Nat) : BufTy := match i / 128 with
  | 0 => hbmTy0_0 i
  | 1 => hbmTy0_1 i
  | _ => ⟨S8x8192x3584, .bf16⟩

abbrev bufTy : (tb : Table) → Fin (tcTables nBuf tb) → BufTy
  | .hbm, ⟨i, _⟩ => hbmTy i
  | _, _ => ⟨S8x8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_5 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_cst_6 : Ref sig .tc := ⟨.hbm, 98, rfl⟩
abbrev main_v85 : Ref sig .tc := ⟨.hbm, 99, rfl⟩
abbrev main_cst_7 : Ref sig .tc := ⟨.hbm, 100, rfl⟩
abbrev main_v86 : Ref sig .tc := ⟨.hbm, 101, rfl⟩
abbrev main_v87 : Ref sig .tc := ⟨.hbm, 102, rfl⟩
abbrev main_c : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_cst_8 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_c_9 : Ref sig .tc := ⟨.hbm, 117, rfl⟩
abbrev main_v100 : Ref sig .tc := ⟨.hbm, 118, rfl⟩
abbrev main_c_10 : Ref sig .tc := ⟨.hbm, 119, rfl⟩
abbrev main_v101 : Ref sig .tc := ⟨.hbm, 120, rfl⟩
abbrev main_v102 : Ref sig .tc := ⟨.hbm, 121, rfl⟩
abbrev main_c_11 : Ref sig .tc := ⟨.hbm, 122, rfl⟩
abbrev main_v103 : Ref sig .tc := ⟨.hbm, 123, rfl⟩
abbrev main_v104 : Ref sig .tc := ⟨.hbm, 124, rfl⟩
abbrev main_c_12 : Ref sig .tc := ⟨.hbm, 125, rfl⟩
abbrev main_call0_v0 : Ref sig .tc := ⟨.hbm, 126, rfl⟩
abbrev main_call0_v1 : Ref sig .tc := ⟨.hbm, 127, rfl⟩
abbrev main_v105 : Ref sig .tc := ⟨.hbm, 128, rfl⟩
abbrev main_cst_13 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_14 : Ref sig .tc := ⟨.hbm, 137, rfl⟩
abbrev main_cst_15 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_v113 : Ref sig .tc := ⟨.hbm, 144, rfl⟩
abbrev main_v114 : Ref sig .tc := ⟨.hbm, 145, rfl⟩
abbrev main_c_16 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩

abbrev nD : Nat := 1
abbrev τ : Topo := Topo.v7x

variable {F : FTy → Type} [FloatOps F]
-- ==== Proof.Bits.Offsets.lean ====
module

public import proofs.«01_k».proof.Proof.Gen.Kernel.Loops

/-! The offsets of the loads and stores of `Kernel`'s main loop, in closed form: trip `k` treats the 256 tokens from
`256 * (k / 14)` on and the 256 channels from `256 * (k % 14)` on. -/

@[expose] public section
noncomputable section
namespace Cert.Proof.Kernel
open Cert.Kernel Cert.Kernel.Gen
open Idealize.ShloMosaic Idealize.ShloMosaic.TcCoe Idealize.ShloMosaic.Tactic

theorem off1_eq : ∀ (k0_t1 : Fin k0_t1_loop.trips), k0_off1 k0_t1 = ![256 * (k0_t1.val / 14), 256 * (k0_t1.val % 14)] := by decide +kernel
instance closed_off1 (k0_t1 : Fin k0_t1_loop.trips) : ClosedOff (k0_off1 k0_t1) := ⟨![256 * (k0_t1.val / 14), 256 * (k0_t1.val % 14)], off1_eq k0_t1⟩
theorem off2_eq : ∀ (i : grid0.Coords) (k0_t1 : Fin k0_t1_loop.trips), k0_off2 i k0_t1 = ![(i 0).val % 2, 256 * (k0_t1.val % 14), 256 * (k0_t1.val / 14)] := by decide +kernel
instance closed_off2 (i : grid0.Coords) (k0_t1 : Fin k0_t1_loop.trips) : ClosedOff (k0_off2 i k0_t1) := ⟨![(i 0).val % 2, 256 * (k0_t1.val % 14), 256 * (k0_t1.val / 14)], off2_eq i k0_t1⟩
theorem off3_eq : ∀ (k0_t1 : Fin k0_t1_loop.trips), k0_off3 k0_t1 = ![0, 0, 256 * (k0_t1.val / 14)] := by decide +kernel
instance closed_off3 (k0_t1 : Fin k0_t1_loop.trips) : ClosedOff (k0_off3 k0_t1) := ⟨![0, 0, 256 * (k0_t1.val / 14)], off3_eq k0_t1⟩
theorem off4_eq : ∀ (k0_t1 : Fin k0_t1_loop.trips), k0_off4 k0_t1 = ![1, 0, 256 * (k0_t1.val / 14)] := by decide +kernel
instance closed_off4 (k0_t1 : Fin k0_t1_loop.trips) : ClosedOff (k0_off4 k0_t1) := ⟨![1, 0, 256 * (k0_t1.val / 14)], off4_eq k0_t1⟩
theorem off5_eq : ∀ (k0_t1 : Fin k0_t1_loop.trips), k0_off5 k0_t1 = ![256 * (k0_t1.val % 14), 0] := by decide +kernel
instance closed_off5 (k0_t1 : Fin k0_t1_loop.trips) : ClosedOff (k0_off5 k0_t1) := ⟨![256 * (k0_t1.val % 14), 0], off5_eq k0_t1⟩
theorem off6_eq : ∀ (k0_t1 : Fin k0_t1_loop.trips), k0_off6 k0_t1 = ![0, 256 * (k0_t1.val / 14)] := by decide +kernel
instance closed_off6 (k0_t1 : Fin k0_t1_loop.trips) : ClosedOff (k0_off6 k0_t1) := ⟨![0, 256 * (k0_t1.val / 14)], off6_eq k0_t1⟩
theorem off7_0_eq : ∀ (i : grid0.Coords) (k0_t1 : Fin k0_t1_loop.trips), k0_off7 i k0_t1 0#32 = ![1 - (i 0).val % 2, 256 * (k0_t1.val % 14), 256 * (k0_t1.val / 14) + 0] := by decide +kernel
instance closed_off7_0 (i : grid0.Coords) (k0_t1 : Fin k0_t1_loop.trips) : ClosedOff (k0_off7 i k0_t1 0#32) := ⟨![1 - (i 0).val % 2, 256 * (k0_t1.val % 14), 256 * (k0_t1.val / 14) + 0], off7_0_eq i k0_t1⟩
theorem off7_1_eq : ∀ (i : grid0.Coords) (k0_t1 : Fin k0_t1_loop.trips), k0_off7 i k0_t1 128#32 = ![1 - (i 0).val % 2, 256 * (k0_t1.val % 14), 256 * (k0_t1.val / 14) + 128] := by decide +kernel
instance closed_off7_1 (i : grid0.Coords) (k0_t1 : Fin k0_t1_loop.trips) : ClosedOff (k0_off7 i k0_t1 128#32) := ⟨![1 - (i 0).val % 2, 256 * (k0_t1.val % 14), 256 * (k0_t1.val / 14) + 128], off7_1_eq i k0_t1⟩
theorem off8_0_eq : ∀ (k0_t1 : Fin k0_t1_loop.trips), k0_off8 k0_t1 0#32 = ![0, 256 * (k0_t1.val / 14) + 0] := by decide +kernel
instance closed_off8_0 (k0_t1 : Fin k0_t1_loop.trips) : ClosedOff (k0_off8 k0_t1 0#32) := ⟨![0, 256 * (k0_t1.val / 14) + 0], off8_0_eq k0_t1⟩
theorem off8_1_eq : ∀ (k0_t1 : Fin k0_t1_loop.trips), k0_off8 k0_t1 128#32 = ![0, 256 * (k0_t1.val / 14) + 128] := by decide +kernel
instance closed_off8_1 (k0_t1 : Fin k0_t1_loop.trips) : ClosedOff (k0_off8 k0_t1 128#32) := ⟨![0, 256 * (k0_t1.val / 14) + 128], off8_1_eq k0_t1⟩
theorem off9_0_eq : ∀ (k0_t1 : Fin k0_t1_loop.trips), k0_off9 k0_t1 0#32 = ![8 * (k0_t1.val % 14), 256 * (k0_t1.val / 14) + 0] := by decide +kernel
instance closed_off9_0 (k0_t1 : Fin k0_t1_loop.trips) : ClosedOff (k0_off9 k0_t1 0#32) := ⟨![8 * (k0_t1.val % 14), 256 * (k0_t1.val / 14) + 0], off9_0_eq k0_t1⟩
theorem off9_1_eq : ∀ (k0_t1 : Fin k0_t1_loop.trips), k0_off9 k0_t1 128#32 = ![8 * (k0_t1.val % 14), 256 * (k0_t1.val / 14) + 128] := by decide +kernel
instance closed_off9_1 (k0_t1 : Fin k0_t1_loop.trips) : ClosedOff (k0_off9 k0_t1 128#32) := ⟨![8 * (k0_t1.val % 14), 256 * (k0_t1.val / 14) + 128], off9_1_eq k0_t1⟩
theorem off10_0_eq : ∀ (k0_t1 : Fin k0_t1_loop.trips), k0_off10 k0_t1 0#32 = ![256 * (k0_t1.val / 14) + 0, 256 * (k0_t1.val % 14)] := by decide +kernel
instance closed_off10_0 (k0_t1 : Fin k0_t1_loop.trips) : ClosedOff (k0_off10 k0_t1 0#32) := ⟨![256 * (k0_t1.val / 14) + 0, 256 * (k0_t1.val % 14)], off10_0_eq k0_t1⟩
theorem off10_1_eq : ∀ (k0_t1 : Fin k0_t1_loop.trips), k0_off10 k0_t1 128#32 = ![256 * (k0_t1.val / 14) + 128, 256 * (k0_t1.val % 14)] := by decide +kernel
instance closed_off10_1 (k0_t1 : Fin k0_t1_loop.trips) : ClosedOff (k0_off10 k0_t1 128#32) := ⟨![256 * (k0_t1.val / 14) + 128, 256 * (k0_t1.val % 14)], off10_1_eq k0_t1⟩

end Cert.Proof.Kernel
end
-- ==== Proof.Bits.Loop.lean ====
module

public import proofs.«01_k».proof.Proof.Bits.Offsets

/-! One trip of the main loop, and the loop by its invariant: the contents of the five memrefs that a trip writes (the
transposed tokens `arg11`, the two running sums `arg16`, the staging of the block maxima `arg18`, the exponents `arg17`
and the codes `arg7`), as a function of what they held before it. -/

@[expose] public section
set_option maxRecDepth 8192
set_option maxHeartbeats 4000000
noncomputable section
namespace Cert.Proof.Kernel
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)
variable (v3 : BitVec 32)
variable (v4 : BitVec 32)

local notation "𝕄G" => MT nD τ sig Unit (Elt F) ℕ (UR sig nD τ) ℕ

/-- The contents of the five memrefs that the loop writes. -/
abbrev LoopState : Type := BufTy.Contents (Elt F) arg11.view.ty × BufTy.Contents (Elt F) arg16.view.ty × BufTy.Contents (Elt F) arg18.view.ty × BufTy.Contents (Elt F) arg17.view.ty × BufTy.Contents (Elt F) arg7.view.ty

/-- What the loop only reads, at the given contents. -/
abbrev Reads (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) : sProp 𝕄G :=
  iprop((arg2.view.loc (c : Thread nD τ) ↦[arg2.view.set]{fullShare} X_arg2) ∗ (arg13.view.loc (c : Thread nD τ) ↦[arg13.view.set]{fullShare} X_arg13) ∗ (arg14.view.loc (c : Thread nD τ) ↦[arg14.view.set]{fullShare} X_arg14) ∗ (arg12.view.loc (c : Thread nD τ) ↦[arg12.view.set]{fullShare} X_arg12) ∗ (arg15.view.loc (c : Thread nD τ) ↦[arg15.view.set]{fullShare} X_arg15))

/-- What the loop writes, at the contents `s`. -/
abbrev Writes (s : LoopState (F := F) arg7 arg11 arg16 arg17 arg18) : sProp 𝕄G :=
  iprop((arg11.view.loc (c : Thread nD τ) ↦[arg11.view.set]{fullShare} s.1) ∗ (arg16.view.loc (c : Thread nD τ) ↦[arg16.view.set]{fullShare} s.2.1) ∗ (arg18.view.loc (c : Thread nD τ) ↦[arg18.view.set]{fullShare} s.2.2.1) ∗ (arg17.view.loc (c : Thread nD τ) ↦[arg17.view.set]{fullShare} s.2.2.2.1) ∗ (arg7.view.loc (c : Thread nD τ) ↦[arg7.view.set]{fullShare} s.2.2.2.2))

/-- ONE TRIP, at a symbolic trip number: the contents that it leaves are the function `R` that the run finds. -/
@[irreducible] def trip (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (k : Fin k0_t1_loop.trips) :
    { R : (BufTy.Contents (Elt F) arg11.view.ty → BufTy.Contents (Elt F) arg16.view.ty → BufTy.Contents (Elt F) arg18.view.ty → BufTy.Contents (Elt F) arg17.view.ty → BufTy.Contents (Elt F) arg7.view.ty → LoopState (F := F) arg7 arg11 arg16 arg17 arg18) // ∀ (E : Set ℕ) (Y_arg11 : BufTy.Contents (Elt F) arg11.view.ty) (Y_arg16 : BufTy.Contents (Elt F) arg16.view.ty) (Y_arg18 : BufTy.Contents (Elt F) arg18.view.ty) (Y_arg17 : BufTy.Contents (Elt F) arg17.view.ty) (Y_arg7 : BufTy.Contents (Elt F) arg7.view.ty),
      (iprop(Reads c arg2 arg12 arg13 arg14 arg15 X_arg2 X_arg13 X_arg14 X_arg12 X_arg15 ∗ (arg11.view.loc (c : Thread nD τ) ↦[arg11.view.set]{fullShare} Y_arg11) ∗ (arg16.view.loc (c : Thread nD τ) ↦[arg16.view.set]{fullShare} Y_arg16) ∗ (arg18.view.loc (c : Thread nD τ) ↦[arg18.view.set]{fullShare} Y_arg18) ∗ (arg17.view.loc (c : Thread nD τ) ↦[arg17.view.set]{fullShare} Y_arg17) ∗ (arg7.view.loc (c : Thread nD τ) ↦[arg7.view.set]{fullShare} Y_arg7)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 k ())
          (fun _ => iprop(Reads c arg2 arg12 arg13 arg14 arg15 X_arg2 X_arg13 X_arg14 X_arg12 X_arg15 ∗ ∃ (Z_arg11 : BufTy.Contents (Elt F) arg11.view.ty) (Z_arg16 : BufTy.Contents (Elt F) arg16.view.ty) (Z_arg18 : BufTy.Contents (Elt F) arg18.view.ty) (Z_arg17 : BufTy.Contents (Elt F) arg17.view.ty) (Z_arg7 : BufTy.Contents (Elt F) arg7.view.ty), ⌜(Z_arg11, Z_arg16, Z_arg18, Z_arg17, Z_arg7) = R Y_arg11 Y_arg16 Y_arg18 Y_arg17 Y_arg7⌝ ∗ (arg11.view.loc (c : Thread nD τ) ↦[arg11.view.set]{fullShare} Z_arg11) ∗ (arg16.view.loc (c : Thread nD τ) ↦[arg16.view.set]{fullShare} Z_arg16) ∗ (arg18.view.loc (c : Thread nD τ) ↦[arg18.view.set]{fullShare} Z_arg18) ∗ (arg17.view.loc (c : Thread nD τ) ↦[arg17.view.set]{fullShare} Z_arg17) ∗ (arg7.view.loc (c : Thread nD τ) ↦[arg7.view.set]{fullShare} Z_arg7))) } := by
  have hk : k.val < 28 := Nat.lt_of_lt_of_le k.isLt k0_t1_abs.2.1
  refine ⟨?_, fun E Y_arg11 Y_arg16 Y_arg18 Y_arg17 Y_arg7 => ?run⟩
  case run =>
    unfold k0_t1_body Reads
    iintro ⟨⟨HX_arg2, HX_arg13, HX_arg14, HX_arg12, HX_arg15⟩, HY_arg11, HY_arg16, HY_arg18, HY_arg17, HY_arg7⟩
    sl_exec
    sl_step
    sl_close

/-- What trip `k` makes of the state `s`. -/
def tripR (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (k : Fin k0_t1_loop.trips)
    (s : LoopState (F := F) arg7 arg11 arg16 arg17 arg18) : LoopState (F := F) arg7 arg11 arg16 arg17 arg18 :=
  (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k).1 s.1 s.2.1 s.2.2.1 s.2.2.2.1 s.2.2.2.2

/-- The state before trip `k`, from the state `g` that the loop is entered with. -/
def st (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty)
    (g : LoopState (F := F) arg7 arg11 arg16 arg17 arg18) : ℕ → LoopState (F := F) arg7 arg11 arg16 arg17 arg18
  | 0 => g
  | k + 1 =>
    if h : k < k0_t1_loop.trips then
      tripR (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 ⟨k, h⟩ (st X_arg2 X_arg13 X_arg14 X_arg12 X_arg15 g k)
    else st X_arg2 X_arg13 X_arg14 X_arg12 X_arg15 g k

theorem st_succ (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (g : LoopState (F := F) arg7 arg11 arg16 arg17 arg18) (k : Fin k0_t1_loop.trips) :
    st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g (k.val + 1)
      = tripR (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g k.val) := by
  rw [st.eq_2]; exact dif_pos k.isLt

/-- The invariant before trip `k`. -/
abbrev inv (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (G_arg11 : BufTy.Contents (Elt F) arg11.view.ty) (G_arg16 : BufTy.Contents (Elt F) arg16.view.ty) (G_arg18 : BufTy.Contents (Elt F) arg18.view.ty) (G_arg17 : BufTy.Contents (Elt F) arg17.view.ty) (G_arg7 : BufTy.Contents (Elt F) arg7.view.ty) (k : Nat) (acc : Unit) : sProp 𝕄G :=
  iprop(Reads c arg2 arg12 arg13 arg14 arg15 X_arg2 X_arg13 X_arg14 X_arg12 X_arg15
    ∗ (arg11.view.loc (c : Thread nD τ) ↦[arg11.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).1)) ∗ (arg16.view.loc (c : Thread nD τ) ↦[arg16.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.1)) ∗ (arg18.view.loc (c : Thread nD τ) ↦[arg18.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.2.1)) ∗ (arg17.view.loc (c : Thread nD τ) ↦[arg17.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.2.2.1)) ∗ (arg7.view.loc (c : Thread nD τ) ↦[arg7.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.2.2.2)))

set_option warn.classDefReducibility false in
/-- The loop by its invariant. -/
@[sl_loop] def loopInv (E : Set ℕ) (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (G_arg11 : BufTy.Contents (Elt F) arg11.view.ty) (G_arg16 : BufTy.Contents (Elt F) arg16.view.ty) (G_arg18 : BufTy.Contents (Elt F) arg18.view.ty) (G_arg17 : BufTy.Contents (Elt F) arg17.view.ty) (G_arg7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 G_arg11 G_arg16 G_arg18 G_arg17 G_arg7
  step k acc := by
    iintro ⟨HR, HW⟩
    iapply (wp_wand_r Idealize.ShloMosaic.frame (wpE (defs₀ (F := F)) 𝒱 (c : Thread nD τ) bd) E)
    isplitl [HR HW]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k).2 E _ _ _ _ _)
      isplitl [HR]; · iexact HR
      iexact HW
    · iintro %_ ⟨HR, %W_arg11, %W_arg16, %W_arg18, %W_arg17, %W_arg7, %hW, HW⟩
      replace hW := hW.trans (st_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).symm
      isplitl [HR]; · iexact HR
      rw [← hW]
      iexact HW

end Cert.Proof.Kernel
end
-- ==== Proof.Bits.Stats.lean ====
module

public import proofs.«01_k».proof.Proof.Bits.Loop

@[expose] public section
set_option maxRecDepth 65536
set_option maxHeartbeats 40000000
noncomputable section
namespace Cert.Proof.Kernel
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

/-- The contents of the memrefs that the body writes. -/
abbrev BodyState : Type := BufTy.Contents (Elt F) arg7.view.ty × BufTy.Contents (Elt F) arg8.view.ty × BufTy.Contents (Elt F) arg9.view.ty × BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty × BufTy.Contents (Elt F) arg17.view.ty × BufTy.Contents (Elt F) arg18.view.ty

/-- The row of sums, as the statistics read it. -/
abbrev sumRow (Y_arg16 : BufTy.Contents (Elt F) arg16.view.ty) : FVec F S1x8x512 .f32 :=
  View.readAt (Elt F) arg16.view (Rect.unit (s := S2x8x512) ![0, 0, 0] S1x8x512.size inb_S2x8x512_S1x8x512_0_0_0).toLoadRect Y_arg16

/-- The row of sums of squares, as the statistics read it. -/
abbrev sqRow (Y_arg16 : BufTy.Contents (Elt F) arg16.view.ty) : FVec F S1x8x512 .f32 :=
  View.readAt (Elt F) arg16.view (Rect.unit (s := S2x8x512) ![1, 0, 0] S1x8x512.size inb_S2x8x512_S1x8x512_1_0_0).toLoadRect Y_arg16

/-- Whether some token of the block fails the test on its one-pass sum of squared deviations. -/
abbrev isBad (Y_arg16 : BufTy.Contents (Elt F) arg16.view.ty) : BitVec 1 :=
  Scalar.cmpi .ne (Scalar.extui (Scalar.cmpf .ogt (k0_pay388 (sumRow (F := F) arg16 Y_arg16) (sqRow (F := F) arg16 Y_arg16))
    (Scalar.ofBits (F := F) .f32 0x00000000#32)) : BitVec 32) 0#32

/-- The sum of squared deviations, by the two-pass loop if the block is bad, by the one-pass formula if not. -/
def m2Row (k0_h2 : k0_cond2 i = 1#1) (v0 v3 : BitVec 32) (Y_arg11 : BufTy.Contents (Elt F) arg11.view.ty) (Y_arg16 : BufTy.Contents (Elt F) arg16.view.ty) : FVec F S1x512 .f32 :=
  if isBad (F := F) arg16 Y_arg16 = 1#1 then
    View.readCov (Val := Elt F) arg15.view [
      ⟨Rect.unit (s := S8x512) ![0, 0] S1x512.size inb_S8x512_S1x512_0_0, k0_pay391 (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v3 k0_h2 (sumRow (F := F) arg16 Y_arg16) Y_arg11 (k0_pay389 (F := F)) k0_t2_loop.trips)⟩,
      ⟨Rect.unit (s := S8x512) ![0, 0] S1x512.size inb_S8x512_S1x512_0_0, k0_pay387 (sumRow (F := F) arg16 Y_arg16) (sqRow (F := F) arg16 Y_arg16)⟩]
      (Rect.unit (s := S8x512) ![0, 0] S1x512.size inb_S8x512_S1x512_0_0).toLoadRect
  else
    View.readCov (Val := Elt F) arg15.view [
      ⟨Rect.unit (s := S8x512) ![0, 0] S1x512.size inb_S8x512_S1x512_0_0, k0_pay387 (sumRow (F := F) arg16 Y_arg16) (sqRow (F := F) arg16 Y_arg16)⟩]
      (Rect.unit (s := S8x512) ![0, 0] S1x512.size inb_S8x512_S1x512_0_0).toLoadRect

/-- What the first statement list of the statistics writes to the scratch of the rows. -/
def m2Writes (k0_h2 : k0_cond2 i = 1#1) (v0 v3 : BitVec 32) (Y_arg11 : BufTy.Contents (Elt F) arg11.view.ty) (Y_arg15 : BufTy.Contents (Elt F) arg15.view.ty) (Y_arg16 : BufTy.Contents (Elt F) arg16.view.ty) : BufTy.Contents (Elt F) arg15.view.ty :=
  if isBad (F := F) arg16 Y_arg16 = 1#1 then
    View.writes arg15.view (Elt F) Y_arg15 [
      ⟨Rect.unit (s := S8x512) ![0, 0] S1x512.size inb_S8x512_S1x512_0_0, k0_pay391 (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v3 k0_h2 (sumRow (F := F) arg16 Y_arg16) Y_arg11 (k0_pay389 (F := F)) k0_t2_loop.trips)⟩,
      ⟨Rect.unit (s := S8x512) ![0, 0] S1x512.size inb_S8x512_S1x512_0_0, k0_pay387 (sumRow (F := F) arg16 Y_arg16) (sqRow (F := F) arg16 Y_arg16)⟩]
  else
    View.writes arg15.view (Elt F) Y_arg15 [
      ⟨Rect.unit (s := S8x512) ![0, 0] S1x512.size inb_S8x512_S1x512_0_0, k0_pay387 (sumRow (F := F) arg16 Y_arg16) (sqRow (F := F) arg16 Y_arg16)⟩]

/-- The statistics' first statement list: the sum of squared deviations to row 0 of the scratch of the rows. -/
theorem part54 (k0_h2 : k0_cond2 i = 1#1) (v0 v3 : BitVec 32) (Y_arg11 : BufTy.Contents (Elt F) arg11.view.ty) (Y_arg15 : BufTy.Contents (Elt F) arg15.view.ty) (Y_arg16 : BufTy.Contents (Elt F) arg16.view.ty) (E : Set ℕ) :
      (iprop((arg11.view.loc (c : Thread nD τ) ↦[arg11.view.set]{fullShare} Y_arg11) ∗ (arg15.view.loc (c : Thread nD τ) ↦[arg15.view.set]{fullShare} Y_arg15) ∗ (arg16.view.loc (c : Thread nD τ) ↦[arg16.view.set]{fullShare} Y_arg16)) : sProp 𝕄G)
      ⊢ wp frame (wpE (defs₀ (F := F)) 𝒱 (c : Thread nD τ) bd) E (k0_part54 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v3 k0_h2)
          (fun r => iprop(⌜r = ⟨k0_pay384 (sumRow (F := F) arg16 Y_arg16), m2Row (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 v0 v3 Y_arg11 Y_arg16,
             Scalar.muli v0 512#32, 8192#32, Scalar.divsi (Scalar.muli v0 512#32) 8192#32,
             Scalar.extui (Scalar.cmpi .sgt (Scalar.muli v0 512#32) 0#32), Scalar.extui (Scalar.cmpi .slt (Scalar.muli v0 512#32) 0#32)⟩⌝
             ∗ (arg11.view.loc (c : Thread nD τ) ↦[arg11.view.set]{fullShare} Y_arg11) ∗ (arg15.view.loc (c : Thread nD τ) ↦[arg15.view.set]{fullShare} (m2Writes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 v0 v3 Y_arg11 Y_arg15 Y_arg16)) ∗ (arg16.view.loc (c : Thread nD τ) ↦[arg16.view.set]{fullShare} Y_arg16))) := by
    rw [k0_part54_eq_skeleton]
    unfold k0_part54_skel m2Row m2Writes
    iintro ⟨HY_arg11, HY_arg15, HY_arg16⟩
    sl_exec
    split
    next hbad =>
      have hb : isBad (F := F) arg16 Y_arg16 = 1#1 := hbad
      simp only [if_pos hb]
      sl_exec
      sl_step
      isplitl []
      · ipureintro
        rfl
      · isplitl [HY_arg11]
        · iexact HY_arg11
        · isplitl [HY_arg15]
          · iexact HY_arg15
          · iexact HY_arg16
    next hbad =>
      have hb : ¬ isBad (F := F) arg16 Y_arg16 = 1#1 := hbad
      simp only [if_neg hb]
      sl_exec
      sl_step
      isplitl []
      · ipureintro
        rfl
      · isplitl [HY_arg11]
        · iexact HY_arg11
        · isplitl [HY_arg15]
          · iexact HY_arg15
          · iexact HY_arg16
end Cert.Proof.Kernel
end
-- ==== Proof.Bits.First.lean ====
module

public import proofs.«01_k».proof.Proof.Bits.Stats

@[expose] public section
set_option maxRecDepth 65536
set_option maxHeartbeats 40000000
noncomputable section
namespace Cert.Proof.Kernel
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

set_option sl_exec.stopBefore "k0_part54" in
/-- THE BODY at the first point, which also writes the tables of the weights, run once: what it leaves in the memrefs that it writes. -/
@[irreducible] def first (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (h1 : (Scalar.cmpi .ne (Scalar.extui (Scalar.cmpi .eq (BitVec.ofNat 32 (i 0).val) 0#32)) 0#32 : BitVec 1) = 1#1) (k0_h2 : k0_cond2 i = 1#1) :
    { R : (BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BodyState (F := F) arg7 arg8 arg9 arg10 arg11 arg12 arg13 arg14 arg15 arg16 arg17 arg18) // ∀ (E : Set ℕ) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty),
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = R Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) } := by
  refine ⟨?_, fun E Y_arg7 Y_arg8 Y_arg9 Y_arg10 Y_arg11 Y_arg12 Y_arg13 Y_arg14 Y_arg15 Y_arg16 Y_arg17 Y_arg18 => ?run⟩
  case run =>
    unfold cc0_tp_layernorm_q_skel
    iintro ⟨HX_arg1, HX_arg2, HX_arg3, HX_arg4, HX_arg5, HX_arg6, HY_arg7, HY_arg8, HY_arg9, HY_arg10, HY_arg11, HY_arg12, HY_arg13, HY_arg14, HY_arg15, HY_arg16, HY_arg17, HY_arg18⟩
    sl_exec_parts
    generalize hg16 : View.writes arg16.view (Elt F) _ _ = G_arg16
    sl_exec_parts
    rw [wp_bind]
    iapply (wp_wand_r Idealize.ShloMosaic.frame (wpE (defs₀ (F := F)) 𝒱 (c : Thread nD τ) bd) E)
    isplitl [HY_arg11 HY_arg15 HY_arg16]
    · iapply (part54 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 _ _ _ _ _ E) $$ [HY_arg11 HY_arg15 HY_arg16]
      isplitl [HY_arg11]
      · iexact HY_arg11
      · isplitl [HY_arg15]
        · iexact HY_arg15
        · iexact HY_arg16
    · iintro %r ⟨%hr, HY_arg11, HY_arg15, HY_arg16⟩
      subst hr
      sl_exec_parts
      sl_step
      subst hg16
      sl_close

end Cert.Proof.Kernel
end
-- ==== Proof.Bits.Mid.lean ====
module

public import proofs.«01_k».proof.Proof.Bits.Stats

@[expose] public section
set_option maxRecDepth 65536
set_option maxHeartbeats 40000000
noncomputable section
namespace Cert.Proof.Kernel
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

set_option sl_exec.stopBefore "k0_part54" in
/-- THE BODY at a point that is neither the first nor the last, run once: what it leaves in the memrefs that it writes. -/
@[irreducible] def mid (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (h1 : ¬ (Scalar.cmpi .ne (Scalar.extui (Scalar.cmpi .eq (BitVec.ofNat 32 (i 0).val) 0#32)) 0#32 : BitVec 1) = 1#1) (k0_h2 : k0_cond2 i = 1#1) :
    { R : (BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BodyState (F := F) arg7 arg8 arg9 arg10 arg11 arg12 arg13 arg14 arg15 arg16 arg17 arg18) // ∀ (E : Set ℕ) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty),
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = R Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) } := by
  refine ⟨?_, fun E Y_arg7 Y_arg8 Y_arg9 Y_arg10 Y_arg11 Y_arg12 Y_arg13 Y_arg14 Y_arg15 Y_arg16 Y_arg17 Y_arg18 => ?run⟩
  case run =>
    unfold cc0_tp_layernorm_q_skel
    iintro ⟨HX_arg1, HX_arg2, HX_arg3, HX_arg4, HX_arg5, HX_arg6, HY_arg7, HY_arg8, HY_arg9, HY_arg10, HY_arg11, HY_arg12, HY_arg13, HY_arg14, HY_arg15, HY_arg16, HY_arg17, HY_arg18⟩
    sl_exec_parts
    generalize hg16 : View.writes arg16.view (Elt F) _ _ = G_arg16
    sl_exec_parts
    rw [wp_bind]
    iapply (wp_wand_r Idealize.ShloMosaic.frame (wpE (defs₀ (F := F)) 𝒱 (c : Thread nD τ) bd) E)
    isplitl [HY_arg11 HY_arg15 HY_arg16]
    · iapply (part54 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 _ _ _ _ _ E) $$ [HY_arg11 HY_arg15 HY_arg16]
      isplitl [HY_arg11]
      · iexact HY_arg11
      · isplitl [HY_arg15]
        · iexact HY_arg15
        · iexact HY_arg16
    · iintro %r ⟨%hr, HY_arg11, HY_arg15, HY_arg16⟩
      subst hr
      sl_exec_parts
      sl_step
      subst hg16
      sl_close

end Cert.Proof.Kernel
end
-- ==== Proof.Bits.Last.lean ====
module

public import proofs.«01_k».proof.Proof.Bits.Stats

@[expose] public section
set_option maxRecDepth 65536
set_option maxHeartbeats 40000000
noncomputable section
namespace Cert.Proof.Kernel
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

set_option sl_exec.stopBefore "k0_part54" in
/-- THE BODY at the last point, which only emits the outputs of the last block, run once: what it leaves in the memrefs that it writes. -/
@[irreducible] def last (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (h1 : ¬ (Scalar.cmpi .ne (Scalar.extui (Scalar.cmpi .eq (BitVec.ofNat 32 (i 0).val) 0#32)) 0#32 : BitVec 1) = 1#1) (k0_h2 : ¬ k0_cond2 i = 1#1) :
    { R : (BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BodyState (F := F) arg7 arg8 arg9 arg10 arg11 arg12 arg13 arg14 arg15 arg16 arg17 arg18) // ∀ (E : Set ℕ) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty),
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = R Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) } := by
  refine ⟨?_, fun E Y_arg7 Y_arg8 Y_arg9 Y_arg10 Y_arg11 Y_arg12 Y_arg13 Y_arg14 Y_arg15 Y_arg16 Y_arg17 Y_arg18 => ?run⟩
  case run =>
    unfold cc0_tp_layernorm_q_skel
    iintro ⟨HX_arg1, HX_arg2, HX_arg3, HX_arg4, HX_arg5, HX_arg6, HY_arg7, HY_arg8, HY_arg9, HY_arg10, HY_arg11, HY_arg12, HY_arg13, HY_arg14, HY_arg15, HY_arg16, HY_arg17, HY_arg18⟩
    sl_exec_parts
    generalize hg16 : View.writes arg16.view (Elt F) _ _ = G_arg16
    sl_exec_parts
    sl_step
    subst hg16
    sl_close

end Cert.Proof.Kernel
end
-- ==== Proof.Bits.Step.lean ====
module

public import proofs.«01_k».proof.Proof.Bits.First
public import proofs.«01_k».proof.Proof.Bits.Mid
public import proofs.«01_k».proof.Proof.Bits.Last

@[expose] public section
set_option maxRecDepth 65536
set_option maxHeartbeats 4000000
noncomputable section
namespace Cert.Proof.Kernel
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

/-- What the body leaves in the memrefs that it writes, at any point: the run of the first point, of one in the
    middle, or of the last (a point that would be both first and last does not occur). -/
def step (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty) : BodyState (F := F) arg7 arg8 arg9 arg10 arg11 arg12 arg13 arg14 arg15 arg16 arg17 arg18 :=
  open Classical in
  if h1 : (Scalar.cmpi .ne (Scalar.extui (Scalar.cmpi .eq (BitVec.ofNat 32 (i 0).val) 0#32)) 0#32 : BitVec 1) = 1#1 then
    if h2 : k0_cond2 i = 1#1 then (first 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18
    else (Y_arg7, Y_arg8, Y_arg9, Y_arg10, Y_arg11, Y_arg12, Y_arg13, Y_arg14, Y_arg15, Y_arg16, Y_arg17, Y_arg18)
  else if h2 : k0_cond2 i = 1#1 then (mid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18
  else (last 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18

/-- THE BODY at any point that runs to `step`. -/
theorem step_run (hi : (Scalar.cmpi .ne (Scalar.extui (Scalar.cmpi .eq (BitVec.ofNat 32 (i 0).val) 0#32)) 0#32 : BitVec 1) = 1#1 → k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty) (E : Set ℕ) :
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) := by
  by_cases h1 : (Scalar.cmpi .ne (Scalar.extui (Scalar.cmpi .eq (BitVec.ofNat 32 (i 0).val) 0#32)) 0#32 : BitVec 1) = 1#1
  · have hs : step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18 = (first 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 (hi h1)).1 Y_arg7 Y_arg8 Y_arg9 Y_arg10 Y_arg11 Y_arg12 Y_arg13 Y_arg14 Y_arg15 Y_arg16 Y_arg17 Y_arg18 := by
      unfold step; rw [dif_pos h1, dif_pos (hi h1)]
    rw [hs]; exact (first 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 (hi h1)).2 E Y_arg7 Y_arg8 Y_arg9 Y_arg10 Y_arg11 Y_arg12 Y_arg13 Y_arg14 Y_arg15 Y_arg16 Y_arg17 Y_arg18
  · by_cases h2 : k0_cond2 i = 1#1
    · have hs : step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18 = (mid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18 := by
        unfold step; rw [dif_neg h1, dif_pos h2]
      rw [hs]; exact (mid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).2 E Y_arg7 Y_arg8 Y_arg9 Y_arg10 Y_arg11 Y_arg12 Y_arg13 Y_arg14 Y_arg15 Y_arg16 Y_arg17 Y_arg18
    · have hs : step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18 = (last 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18 := by
        unfold step; rw [dif_neg h1, dif_neg h2]
      rw [hs]; exact (last 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).2 E Y_arg7 Y_arg8 Y_arg9 Y_arg10 Y_arg11 Y_arg12 Y_arg13 Y_arg14 Y_arg15 Y_arg16 Y_arg17 Y_arg18

end Cert.Proof.Kernel
end
-- ==== Proof.Bits.Frame.lean ====
module

public import proofs.«01_k».proof.Proof.Bits.Step
public import proofs.«01_k».proof.Proof.Gen.Kernel.Frame
public import Idealize.ShloMosaic.Lib.Pipeline.Frame

@[expose] public section
set_option maxRecDepth 65536
set_option maxHeartbeats 4000000
noncomputable section
namespace Cert.Proof.Kernel
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- A predicate of the eight scratch buffers' contents. -/
abbrev ScrPred (F : FTy → Type) : Type := BufTy.Contents (Elt F) (Memref.whole cc0_scratch0 : Memref sig .tc .vmem _ _).view.ty → BufTy.Contents (Elt F) (Memref.whole cc0_scratch1 : Memref sig .tc .vmem _ _).view.ty → BufTy.Contents (Elt F) (Memref.whole cc0_scratch2 : Memref sig .tc .vmem _ _).view.ty → BufTy.Contents (Elt F) (Memref.whole cc0_scratch3 : Memref sig .tc .vmem _ _).view.ty → BufTy.Contents (Elt F) (Memref.whole cc0_scratch4 : Memref sig .tc .vmem _ _).view.ty → BufTy.Contents (Elt F) (Memref.whole cc0_scratch5 : Memref sig .tc .vmem _ _).view.ty → BufTy.Contents (Elt F) (Memref.whole cc0_scratch6 : Memref sig .tc .vmem _ _).view.ty → BufTy.Contents (Elt F) (Memref.whole cc0_scratch7 : Memref sig .tc .vmem _ _).view.ty → Prop

/-- The eight scratch buffers whole, at given contents. -/
def scrPts (c : Dev nD) (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty) : sProp 𝕄G :=
  iprop(((Memref.whole cc0_scratch0 : Memref sig .tc .vmem _ _).view.loc (c : Thread nD τ) ↦[(Memref.whole cc0_scratch0 : Memref sig .tc .vmem _ _).view.set]{fullShare} S_arg11) ∗ ((Memref.whole cc0_scratch1 : Memref sig .tc .vmem _ _).view.loc (c : Thread nD τ) ↦[(Memref.whole cc0_scratch1 : Memref sig .tc .vmem _ _).view.set]{fullShare} S_arg12) ∗ ((Memref.whole cc0_scratch2 : Memref sig .tc .vmem _ _).view.loc (c : Thread nD τ) ↦[(Memref.whole cc0_scratch2 : Memref sig .tc .vmem _ _).view.set]{fullShare} S_arg13) ∗ ((Memref.whole cc0_scratch3 : Memref sig .tc .vmem _ _).view.loc (c : Thread nD τ) ↦[(Memref.whole cc0_scratch3 : Memref sig .tc .vmem _ _).view.set]{fullShare} S_arg14) ∗ ((Memref.whole cc0_scratch4 : Memref sig .tc .vmem _ _).view.loc (c : Thread nD τ) ↦[(Memref.whole cc0_scratch4 : Memref sig .tc .vmem _ _).view.set]{fullShare} S_arg15) ∗ ((Memref.whole cc0_scratch5 : Memref sig .tc .vmem _ _).view.loc (c : Thread nD τ) ↦[(Memref.whole cc0_scratch5 : Memref sig .tc .vmem _ _).view.set]{fullShare} S_arg16) ∗ ((Memref.whole cc0_scratch6 : Memref sig .tc .vmem _ _).view.loc (c : Thread nD τ) ↦[(Memref.whole cc0_scratch6 : Memref sig .tc .vmem _ _).view.set]{fullShare} S_arg17) ∗ ((Memref.whole cc0_scratch7 : Memref sig .tc .vmem _ _).view.loc (c : Thread nD τ) ↦[(Memref.whole cc0_scratch7 : Memref sig .tc .vmem _ _).view.set]{fullShare} S_arg18))

/-- What is said of what the body leaves in each window: an input is as it was handed, an output satisfies `aft`. -/
abbrev Aft (F : FTy → Type) : Type := (w : Fin cfg0.W) → Fin cfg0.N → (Y X : (cfg0.win w).block.Idx → Elt F (cfg0.win w).elt) → Prop

variable (Inv : Dev nD → ℕ → ScrPred F) (aft : Dev nD → Aft F)

/-- The proof data: before point `t` the scratch is at some contents of which `Inv` holds; what the body leaves in an
    output window satisfies `aft`, what it leaves in an input window is what it found. -/
def rdat (c : Dev nD) : Pipeline.RDat τ (Elt F) Unit ℕ (UR sig nD τ) ℕ cfg0 c where
  A w := V m c (Pipeline.arrRef spec0 w)
  after w t Y X := (w.val < 6 → X = Y) ∧ aft c w t Y X
  Φ t := iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c t.val S_arg11 S_arg12 S_arg13 S_arg14 S_arg15 S_arg16 S_arg17 S_arg18⌝ ∗ scrPts c S_arg11 S_arg12 S_arg13 S_arg14 S_arg15 S_arg16 S_arg17 S_arg18) ∗ ∃ r, prngReg c r)
  q _ := fullShare
  owed _ := 0

/-- `stepAt c t`: what the body leaves in the memrefs that it writes, at point `t` of core `c`. -/
def stepAt (c : Dev nD) (t : Fin cfg0.N) (X_arg1 : BufTy.Contents (Elt F) (st0_0 t).view.ty) (X_arg2 : BufTy.Contents (Elt F) (st0_1 t).view.ty) (X_arg3 : BufTy.Contents (Elt F) (st0_2 t).view.ty) (X_arg4 : BufTy.Contents (Elt F) (st0_3 t).view.ty) (X_arg5 : BufTy.Contents (Elt F) (st0_4 t).view.ty) (X_arg6 : BufTy.Contents (Elt F) (st0_5 t).view.ty) (Y_arg7 : BufTy.Contents (Elt F) (st0_6 t).view.ty) (Y_arg8 : BufTy.Contents (Elt F) (st0_7 t).view.ty) (Y_arg9 : BufTy.Contents (Elt F) (st0_8 t).view.ty) (Y_arg10 : BufTy.Contents (Elt F) (st0_9 t).view.ty) (Y_arg11 : BufTy.Contents (Elt F) (Memref.whole cc0_scratch0 : Memref sig .tc .vmem _ _).view.ty) (Y_arg12 : BufTy.Contents (Elt F) (Memref.whole cc0_scratch1 : Memref sig .tc .vmem _ _).view.ty) (Y_arg13 : BufTy.Contents (Elt F) (Memref.whole cc0_scratch2 : Memref sig .tc .vmem _ _).view.ty) (Y_arg14 : BufTy.Contents (Elt F) (Memref.whole cc0_scratch3 : Memref sig .tc .vmem _ _).view.ty) (Y_arg15 : BufTy.Contents (Elt F) (Memref.whole cc0_scratch4 : Memref sig .tc .vmem _ _).view.ty) (Y_arg16 : BufTy.Contents (Elt F) (Memref.whole cc0_scratch5 : Memref sig .tc .vmem _ _).view.ty) (Y_arg17 : BufTy.Contents (Elt F) (Memref.whole cc0_scratch6 : Memref sig .tc .vmem _ _).view.ty) (Y_arg18 : BufTy.Contents (Elt F) (Memref.whole cc0_scratch7 : Memref sig .tc .vmem _ _).view.ty) : BodyState (F := F) (st0_6 t) (st0_7 t) (st0_8 t) (st0_9 t) (Memref.whole cc0_scratch0 : Memref sig .tc .vmem _ _) (Memref.whole cc0_scratch1 : Memref sig .tc .vmem _ _) (Memref.whole cc0_scratch2 : Memref sig .tc .vmem _ _) (Memref.whole cc0_scratch3 : Memref sig .tc .vmem _ _) (Memref.whole cc0_scratch4 : Memref sig .tc .vmem _ _) (Memref.whole cc0_scratch5 : Memref sig .tc .vmem _ _) (Memref.whole cc0_scratch6 : Memref sig .tc .vmem _ _) (Memref.whole cc0_scratch7 : Memref sig .tc .vmem _ _) :=
  step Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) X_arg1 X_arg2 X_arg3 X_arg4 X_arg5 X_arg6 Y_arg7 Y_arg8 Y_arg9 Y_arg10 Y_arg11 Y_arg12 Y_arg13 Y_arg14 Y_arg15 Y_arg16 Y_arg17 Y_arg18

/-- The two conditions of the body never make a first point that is also the last. -/
theorem first_not_last : ∀ t : Fin cfg0.N, (Scalar.cmpi .ne (Scalar.extui (Scalar.cmpi .eq (BitVec.ofNat 32 (grid0.coords t 0).val) 0#32)) 0#32 : BitVec 1) = 1#1 → k0_cond2 (grid0.coords t) = 1#1 := by
  decide

/-- The hypothesis of the run: from contents which the windows may hold and scratch contents of which `Inv` holds, the
    body leaves outputs satisfying `aft` and scratch contents of which `Inv` holds at the next point. -/
def StepOk (c : Dev nD) : Prop :=
  ∀ (t : Fin cfg0.N) (Y : (w : Fin cfg0.W) → (cfg0.win w).block.Idx → Elt F (cfg0.win w).elt), (∀ w, (rdat m Inv aft c).Finds w t (Y w)) →
    ∀ (X_arg1 : BufTy.Contents (Elt F) (st0_0 t).view.ty) (X_arg2 : BufTy.Contents (Elt F) (st0_1 t).view.ty) (X_arg3 : BufTy.Contents (Elt F) (st0_2 t).view.ty) (X_arg4 : BufTy.Contents (Elt F) (st0_3 t).view.ty) (X_arg5 : BufTy.Contents (Elt F) (st0_4 t).view.ty) (X_arg6 : BufTy.Contents (Elt F) (st0_5 t).view.ty) (Y_arg7 : BufTy.Contents (Elt F) (st0_6 t).view.ty) (Y_arg8 : BufTy.Contents (Elt F) (st0_7 t).view.ty) (Y_arg9 : BufTy.Contents (Elt F) (st0_8 t).view.ty) (Y_arg10 : BufTy.Contents (Elt F) (st0_9 t).view.ty) (Y_arg11 : BufTy.Contents (Elt F) (Memref.whole cc0_scratch0 : Memref sig .tc .vmem _ _).view.ty) (Y_arg12 : BufTy.Contents (Elt F) (Memref.whole cc0_scratch1 : Memref sig .tc .vmem _ _).view.ty) (Y_arg13 : BufTy.Contents (Elt F) (Memref.whole cc0_scratch2 : Memref sig .tc .vmem _ _).view.ty) (Y_arg14 : BufTy.Contents (Elt F) (Memref.whole cc0_scratch3 : Memref sig .tc .vmem _ _).view.ty) (Y_arg15 : BufTy.Contents (Elt F) (Memref.whole cc0_scratch4 : Memref sig .tc .vmem _ _).view.ty) (Y_arg16 : BufTy.Contents (Elt F) (Memref.whole cc0_scratch5 : Memref sig .tc .vmem _ _).view.ty) (Y_arg17 : BufTy.Contents (Elt F) (Memref.whole cc0_scratch6 : Memref sig .tc .vmem _ _).view.ty) (Y_arg18 : BufTy.Contents (Elt F) (Memref.whole cc0_scratch7 : Memref sig .tc .vmem _ _).view.ty),
      (st0_0 t).view.read (Elt F) X_arg1 = Y 0 → (st0_1 t).view.read (Elt F) X_arg2 = Y 1 → (st0_2 t).view.read (Elt F) X_arg3 = Y 2 → (st0_3 t).view.read (Elt F) X_arg4 = Y 3 → (st0_4 t).view.read (Elt F) X_arg5 = Y 4 → (st0_5 t).view.read (Elt F) X_arg6 = Y 5 →
      (st0_6 t).view.read (Elt F) Y_arg7 = Y 6 → (st0_7 t).view.read (Elt F) Y_arg8 = Y 7 → (st0_8 t).view.read (Elt F) Y_arg9 = Y 8 → (st0_9 t).view.read (Elt F) Y_arg10 = Y 9 →
      Inv c t.val Y_arg11 Y_arg12 Y_arg13 Y_arg14 Y_arg15 Y_arg16 Y_arg17 Y_arg18 →
    ∀ (Z_arg7 : BufTy.Contents (Elt F) (st0_6 t).view.ty) (Z_arg8 : BufTy.Contents (Elt F) (st0_7 t).view.ty) (Z_arg9 : BufTy.Contents (Elt F) (st0_8 t).view.ty) (Z_arg10 : BufTy.Contents (Elt F) (st0_9 t).view.ty) (Z_arg11 : BufTy.Contents (Elt F) (Memref.whole cc0_scratch0 : Memref sig .tc .vmem _ _).view.ty) (Z_arg12 : BufTy.Contents (Elt F) (Memref.whole cc0_scratch1 : Memref sig .tc .vmem _ _).view.ty) (Z_arg13 : BufTy.Contents (Elt F) (Memref.whole cc0_scratch2 : Memref sig .tc .vmem _ _).view.ty) (Z_arg14 : BufTy.Contents (Elt F) (Memref.whole cc0_scratch3 : Memref sig .tc .vmem _ _).view.ty) (Z_arg15 : BufTy.Contents (Elt F) (Memref.whole cc0_scratch4 : Memref sig .tc .vmem _ _).view.ty) (Z_arg16 : BufTy.Contents (Elt F) (Memref.whole cc0_scratch5 : Memref sig .tc .vmem _ _).view.ty) (Z_arg17 : BufTy.Contents (Elt F) (Memref.whole cc0_scratch6 : Memref sig .tc .vmem _ _).view.ty) (Z_arg18 : BufTy.Contents (Elt F) (Memref.whole cc0_scratch7 : Memref sig .tc .vmem _ _).view.ty), (Z_arg7, Z_arg8, Z_arg9, Z_arg10, Z_arg11, Z_arg12, Z_arg13, Z_arg14, Z_arg15, Z_arg16, Z_arg17, Z_arg18) = stepAt c t X_arg1 X_arg2 X_arg3 X_arg4 X_arg5 X_arg6 Y_arg7 Y_arg8 Y_arg9 Y_arg10 Y_arg11 Y_arg12 Y_arg13 Y_arg14 Y_arg15 Y_arg16 Y_arg17 Y_arg18 →
      aft c 6 t (Y 6) ((st0_6 t).view.read (Elt F) Z_arg7) ∧ aft c 7 t (Y 7) ((st0_7 t).view.read (Elt F) Z_arg8) ∧ aft c 8 t (Y 8) ((st0_8 t).view.read (Elt F) Z_arg9) ∧ aft c 9 t (Y 9) ((st0_9 t).view.read (Elt F) Z_arg10) ∧ Inv c (t.val + 1) Z_arg11 Z_arg12 Z_arg13 Z_arg14 Z_arg15 Z_arg16 Z_arg17 Z_arg18

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, from `StepOk`. -/
theorem body_obligation (c : Dev nD) (hok : StepOk m Inv aft c) (hin : ∀ w t Y, w.val < 6 → aft c w t Y Y) :
    (rdat m Inv aft c).BodyObligation (defs₀ (F := F)) Variants.none () Set.univ := fun t Y hY => by
  rw [bigSep_W0, bigSep_W0, defs₀_row]
  unfold bodyAt0
  rw [cc0_tp_layernorm_q_eq_skeleton]
  rw [show (rdat m Inv aft c).owesAt () t.succ = (rdat m Inv aft c).owesAt () t.castSucc from rfl]
  unfold owns
  rw [show (rdat m Inv aft c).Φ t.castSucc = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c t.val S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl,
    show (rdat m Inv aft c).Φ t.succ = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c (t.val + 1) S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl]
  unfold scrPts
  iintro ⟨⟨⟨%Y_arg11, %Y_arg12, %Y_arg13, %Y_arg14, %Y_arg15, %Y_arg16, %Y_arg17, %Y_arg18, %hI, HY_arg11, HY_arg12, HY_arg13, HY_arg14, HY_arg15, HY_arg16, HY_arg17, HY_arg18⟩, Hg⟩, HO, ⟨%X_arg1, %h_arg1, HX_arg1⟩, ⟨%X_arg2, %h_arg2, HX_arg2⟩, ⟨%X_arg3, %h_arg3, HX_arg3⟩, ⟨%X_arg4, %h_arg4, HX_arg4⟩, ⟨%X_arg5, %h_arg5, HX_arg5⟩, ⟨%X_arg6, %h_arg6, HX_arg6⟩, ⟨%Y_arg7, %h_arg7, HY_arg7⟩, ⟨%Y_arg8, %h_arg8, HY_arg8⟩, ⟨%Y_arg9, %h_arg9, HY_arg9⟩, ⟨%Y_arg10, %h_arg10, HY_arg10⟩⟩
  iapply (wp_wand_r Idealize.ShloMosaic.frame (wpE (defs₀ (F := F)) Variants.none (c : Thread nD τ) none) Set.univ)
  isplitl [HX_arg1 HX_arg2 HX_arg3 HX_arg4 HX_arg5 HX_arg6 HY_arg7 HY_arg8 HY_arg9 HY_arg10 HY_arg11 HY_arg12 HY_arg13 HY_arg14 HY_arg15 HY_arg16 HY_arg17 HY_arg18]
  · iapply (step_run (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (first_not_last t) X_arg1 X_arg2 X_arg3 X_arg4 X_arg5 X_arg6 Y_arg7 Y_arg8 Y_arg9 Y_arg10 Y_arg11 Y_arg12 Y_arg13 Y_arg14 Y_arg15 Y_arg16 Y_arg17 Y_arg18 Set.univ) $$ [HX_arg1 HX_arg2 HX_arg3 HX_arg4 HX_arg5 HX_arg6 HY_arg7 HY_arg8 HY_arg9 HY_arg10 HY_arg11 HY_arg12 HY_arg13 HY_arg14 HY_arg15 HY_arg16 HY_arg17 HY_arg18]
    isplitl [HX_arg1]; · iexact HX_arg1
    isplitl [HX_arg2]; · iexact HX_arg2
    isplitl [HX_arg3]; · iexact HX_arg3
    isplitl [HX_arg4]; · iexact HX_arg4
    isplitl [HX_arg5]; · iexact HX_arg5
    isplitl [HX_arg6]; · iexact HX_arg6
    isplitl [HY_arg7]; · iexact HY_arg7
    isplitl [HY_arg8]; · iexact HY_arg8
    isplitl [HY_arg9]; · iexact HY_arg9
    isplitl [HY_arg10]; · iexact HY_arg10
    isplitl [HY_arg11]; · iexact HY_arg11
    isplitl [HY_arg12]; · iexact HY_arg12
    isplitl [HY_arg13]; · iexact HY_arg13
    isplitl [HY_arg14]; · iexact HY_arg14
    isplitl [HY_arg15]; · iexact HY_arg15
    isplitl [HY_arg16]; · iexact HY_arg16
    isplitl [HY_arg17]; · iexact HY_arg17
    iexact HY_arg18
  · iintro %r ⟨⟨HX_arg1, HX_arg2, HX_arg3, HX_arg4, HX_arg5, HX_arg6⟩, %Z_arg7, %Z_arg8, %Z_arg9, %Z_arg10, %Z_arg11, %Z_arg12, %Z_arg13, %Z_arg14, %Z_arg15, %Z_arg16, %Z_arg17, %Z_arg18, %hZ, HZ_arg7, HZ_arg8, HZ_arg9, HZ_arg10, HZ_arg11, HZ_arg12, HZ_arg13, HZ_arg14, HZ_arg15, HZ_arg16, HZ_arg17, HZ_arg18⟩
    have hk := hok t Y hY X_arg1 X_arg2 X_arg3 X_arg4 X_arg5 X_arg6 Y_arg7 Y_arg8 Y_arg9 Y_arg10 Y_arg11 Y_arg12 Y_arg13 Y_arg14 Y_arg15 Y_arg16 Y_arg17 Y_arg18 h_arg1 h_arg2 h_arg3 h_arg4 h_arg5 h_arg6 h_arg7 h_arg8 h_arg9 h_arg10 hI Z_arg7 Z_arg8 Z_arg9 Z_arg10 Z_arg11 Z_arg12 Z_arg13 Z_arg14 Z_arg15 Z_arg16 Z_arg17 Z_arg18 hZ
    isplitl [Hg HZ_arg11 HZ_arg12 HZ_arg13 HZ_arg14 HZ_arg15 HZ_arg16 HZ_arg17 HZ_arg18]
    · isplitr [Hg]
      · iexists Z_arg11, Z_arg12, Z_arg13, Z_arg14, Z_arg15, Z_arg16, Z_arg17, Z_arg18
        isplitr
        · ipureintro; exact hk.2.2.2.2
        isplitl [HZ_arg11]; · iexact HZ_arg11
        isplitl [HZ_arg12]; · iexact HZ_arg12
        isplitl [HZ_arg13]; · iexact HZ_arg13
        isplitl [HZ_arg14]; · iexact HZ_arg14
        isplitl [HZ_arg15]; · iexact HZ_arg15
        isplitl [HZ_arg16]; · iexact HZ_arg16
        isplitl [HZ_arg17]; · iexact HZ_arg17
        iexact HZ_arg18
      · iexact Hg
    isplitl [HO]; · iexact HO
    isplitl [HX_arg1]
    · iexists ((st0_0 t).view.read (Elt F) X_arg1)
      isplitr
      · ipureintro; exact ⟨fun _ => h_arg1, by rw [h_arg1]; exact hin _ _ _ (by decide)⟩
      iexists X_arg1
      isplitr
      · ipureintro; rfl
      iexact HX_arg1
    isplitl [HX_arg2]
    · iexists ((st0_1 t).view.read (Elt F) X_arg2)
      isplitr
      · ipureintro; exact ⟨fun _ => h_arg2, by rw [h_arg2]; exact hin _ _ _ (by decide)⟩
      iexists X_arg2
      isplitr
      · ipureintro; rfl
      iexact HX_arg2
    isplitl [HX_arg3]
    · iexists ((st0_2 t).view.read (Elt F) X_arg3)
      isplitr
      · ipureintro; exact ⟨fun _ => h_arg3, by rw [h_arg3]; exact hin _ _ _ (by decide)⟩
      iexists X_arg3
      isplitr
      · ipureintro; rfl
      iexact HX_arg3
    isplitl [HX_arg4]
    · iexists ((st0_3 t).view.read (Elt F) X_arg4)
      isplitr
      · ipureintro; exact ⟨fun _ => h_arg4, by rw [h_arg4]; exact hin _ _ _ (by decide)⟩
      iexists X_arg4
      isplitr
      · ipureintro; rfl
      iexact HX_arg4
    isplitl [HX_arg5]
    · iexists ((st0_4 t).view.read (Elt F) X_arg5)
      isplitr
      · ipureintro; exact ⟨fun _ => h_arg5, by rw [h_arg5]; exact hin _ _ _ (by decide)⟩
      iexists X_arg5
      isplitr
      · ipureintro; rfl
      iexact HX_arg5
    isplitl [HX_arg6]
    · iexists ((st0_5 t).view.read (Elt F) X_arg6)
      isplitr
      · ipureintro; exact ⟨fun _ => h_arg6, by rw [h_arg6]; exact hin _ _ _ (by decide)⟩
      iexists X_arg6
      isplitr
      · ipureintro; rfl
      iexact HX_arg6
    isplitl [HZ_arg7]
    · iexists ((st0_6 t).view.read (Elt F) Z_arg7)
      isplitr
      · ipureintro; exact ⟨fun h => absurd h (by decide), hk.1⟩
      iexists Z_arg7
      isplitr
      · ipureintro; rfl
      iexact HZ_arg7
    isplitl [HZ_arg8]
    · iexists ((st0_7 t).view.read (Elt F) Z_arg8)
      isplitr
      · ipureintro; exact ⟨fun h => absurd h (by decide), hk.2.1⟩
      iexists Z_arg8
      isplitr
      · ipureintro; rfl
      iexact HZ_arg8
    isplitl [HZ_arg9]
    · iexists ((st0_8 t).view.read (Elt F) Z_arg9)
      isplitr
      · ipureintro; exact ⟨fun h => absurd h (by decide), hk.2.2.1⟩
      iexists Z_arg9
      isplitr
      · ipureintro; rfl
      iexact HZ_arg9
    iexists ((st0_9 t).view.read (Elt F) Z_arg10)
    isplitr
    · ipureintro; exact ⟨fun h => absurd h (by decide), hk.2.2.2.1⟩
    iexists Z_arg10
    isplitr
    · ipureintro; rfl
    iexact HZ_arg10

/-- The scratch at anything is the invariant's scratch at some contents. -/
theorem scr_eq (c : Dev nD) :
    (Pipeline.ΦA (U := UR sig nD τ) (Val := Elt F) cfg0.spec c : sProp 𝕄G)
      = iprop(((∃ S : BufTy.Contents (Elt F) (Memref.whole cc0_scratch0 : Memref sig .tc .vmem _ _).view.ty, ((Memref.whole cc0_scratch0 : Memref sig .tc .vmem _ _).view.loc (c : Thread nD τ) ↦[(Memref.whole cc0_scratch0 : Memref sig .tc .vmem _ _).view.set]{fullShare} S)) ∗ (∃ S : BufTy.Contents (Elt F) (Memref.whole cc0_scratch1 : Memref sig .tc .vmem _ _).view.ty, ((Memref.whole cc0_scratch1 : Memref sig .tc .vmem _ _).view.loc (c : Thread nD τ) ↦[(Memref.whole cc0_scratch1 : Memref sig .tc .vmem _ _).view.set]{fullShare} S)) ∗ (∃ S : BufTy.Contents (Elt F) (Memref.whole cc0_scratch2 : Memref sig .tc .vmem _ _).view.ty, ((Memref.whole cc0_scratch2 : Memref sig .tc .vmem _ _).view.loc (c : Thread nD τ) ↦[(Memref.whole cc0_scratch2 : Memref sig .tc .vmem _ _).view.set]{fullShare} S)) ∗ (∃ S : BufTy.Contents (Elt F) (Memref.whole cc0_scratch3 : Memref sig .tc .vmem _ _).view.ty, ((Memref.whole cc0_scratch3 : Memref sig .tc .vmem _ _).view.loc (c : Thread nD τ) ↦[(Memref.whole cc0_scratch3 : Memref sig .tc .vmem _ _).view.set]{fullShare} S)) ∗ (∃ S : BufTy.Contents (Elt F) (Memref.whole cc0_scratch4 : Memref sig .tc .vmem _ _).view.ty, ((Memref.whole cc0_scratch4 : Memref sig .tc .vmem _ _).view.loc (c : Thread nD τ) ↦[(Memref.whole cc0_scratch4 : Memref sig .tc .vmem _ _).view.set]{fullShare} S)) ∗ (∃ S : BufTy.Contents (Elt F) (Memref.whole cc0_scratch5 : Memref sig .tc .vmem _ _).view.ty, ((Memref.whole cc0_scratch5 : Memref sig .tc .vmem _ _).view.loc (c : Thread nD τ) ↦[(Memref.whole cc0_scratch5 : Memref sig .tc .vmem _ _).view.set]{fullShare} S)) ∗ (∃ S : BufTy.Contents (Elt F) (Memref.whole cc0_scratch6 : Memref sig .tc .vmem _ _).view.ty, ((Memref.whole cc0_scratch6 : Memref sig .tc .vmem _ _).view.loc (c : Thread nD τ) ↦[(Memref.whole cc0_scratch6 : Memref sig .tc .vmem _ _).view.set]{fullShare} S)) ∗ (∃ S : BufTy.Contents (Elt F) (Memref.whole cc0_scratch7 : Memref sig .tc .vmem _ _).view.ty, ((Memref.whole cc0_scratch7 : Memref sig .tc .vmem _ _).view.loc (c : Thread nD τ) ↦[(Memref.whole cc0_scratch7 : Memref sig .tc .vmem _ _).view.set]{fullShare} S))) ∗ ∃ r, prngReg c r) := by
  unfold Pipeline.ΦA
  rw [show cfg0.spec = spec0 from rfl, scopedRest0_eq]
  simp only [Memref.whole, View.set_whole]

set_option backward.isDefEq.respectTransparency.types false in
/-- Every weakly fair execution of @main ends, every array satisfies what the write-backs of outputs satisfying `aft` leave, and
    every semaphore is at zero. -/
theorem run_main (hok : ∀ c, StepOk m Inv aft c) (hin : ∀ c w t Y, w.val < 6 → aft c w t Y Y) (h0 : ∀ c S_arg11 S_arg12 S_arg13 S_arg14 S_arg15 S_arg16 S_arg17 S_arg18, Inv c 0 S_arg11 S_arg12 S_arg13 S_arg14 S_arg15 S_arg16 S_arg17 S_arg18) :
    θ_run defs (onTc (τ := τ) (main (F := F))) (s₀ m ρ)
      (fun r => Pipeline.RDat.FramePost (cfgs 0) (rdat m Inv aft) (V m) r ∧ r.2.sem = fun _ => 0) :=
  Pipeline.RDat.θ_run_frame_track (Q' := _) cfgs (0 : Fin 1) launch0 defs₀ Variants.none (rdat m Inv aft) m ρ main
    (hbody := fun c => body_obligation m Inv aft c (hok c) (hin c)) (hshare := fun c w => (by unfold Pipeline.RDat.share; split <;> rfl))
    (howed := fun _ _ => rfl) (V := V m) (hmain := hmain m Variants.none) (hA := fun _ _ => rfl)
    (hin := fun c => by
      rw [show (cfgs 0).spec = cfg0.spec from rfl, scr_eq]
      rw [show (rdat m Inv aft c).Φ 0 = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c 0 S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl]
      unfold scrPts
      iintro ⟨⟨⟨%S_arg11, H_arg11⟩, ⟨%S_arg12, H_arg12⟩, ⟨%S_arg13, H_arg13⟩, ⟨%S_arg14, H_arg14⟩, ⟨%S_arg15, H_arg15⟩, ⟨%S_arg16, H_arg16⟩, ⟨%S_arg17, H_arg17⟩, ⟨%S_arg18, H_arg18⟩⟩, Hg⟩
      isplitr [Hg]
      · iexists S_arg11, S_arg12, S_arg13, S_arg14, S_arg15, S_arg16, S_arg17, S_arg18
        isplitr
        · ipureintro; exact h0 c S_arg11 S_arg12 S_arg13 S_arg14 S_arg15 S_arg16 S_arg17 S_arg18
        isplitl [H_arg11]; · iexact H_arg11
        isplitl [H_arg12]; · iexact H_arg12
        isplitl [H_arg13]; · iexact H_arg13
        isplitl [H_arg14]; · iexact H_arg14
        isplitl [H_arg15]; · iexact H_arg15
        isplitl [H_arg16]; · iexact H_arg16
        isplitl [H_arg17]; · iexact H_arg17
        iexact H_arg18
      · iexact Hg)
    (hout := fun c => by
      rw [show (cfgs 0).spec = cfg0.spec from rfl, scr_eq]
      rw [show (rdat m Inv aft c).Φ (Fin.last _) = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c (Fin.last cfg0.N).val S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl]
      unfold scrPts
      iintro ⟨⟨%S_arg11, %S_arg12, %S_arg13, %S_arg14, %S_arg15, %S_arg16, %S_arg17, %S_arg18, %hI, H_arg11, H_arg12, H_arg13, H_arg14, H_arg15, H_arg16, H_arg17, H_arg18⟩, Hg⟩
      isplitr [Hg]
      · isplitl [H_arg11]; · iexists S_arg11; iexact H_arg11
        isplitl [H_arg12]; · iexists S_arg12; iexact H_arg12
        isplitl [H_arg13]; · iexists S_arg13; iexact H_arg13
        isplitl [H_arg14]; · iexists S_arg14; iexact H_arg14
        isplitl [H_arg15]; · iexists S_arg15; iexact H_arg15
        isplitl [H_arg16]; · iexists S_arg16; iexact H_arg16
        isplitl [H_arg17]; · iexists S_arg17; iexact H_arg17
        iexists S_arg18; iexact H_arg18
      · iexact Hg)

variable {m Inv aft}

/-- After the run each argument array is as at the launch. -/
theorem args_of_framePost {r : PUnit × MemSt nD τ sig (Elt F)} (h : Pipeline.RDat.FramePost (cfgs 0) (rdat m Inv aft) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    (Pipeline.RDat.FramePost.arr_in h c 0 rfl).trans (V_main_arg1 m c),
    (Pipeline.RDat.FramePost.arr_in h c 2 rfl).trans (V_main_arg2 m c),
    (Pipeline.RDat.FramePost.arr_in h c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

variable (m)

/-- THE FRAME: @main runs, its arguments end as they began, every semaphore is at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of_framePost h.1 c, h.2⟩)
    (run_main m ρ (fun _ _ _ _ _ _ _ _ _ _ => True) (fun _ _ _ _ _ => True)
      (fun c t Y hY _ _ _ _ _ _ _ _ _ _ _ _ _ _ _ _ _ _ _ _ _ _ _ _ _ _ _ _ _ _ _ _ _ _ _ _ _ _ _ _ _ _ => ⟨trivial, trivial, trivial, trivial, trivial⟩)
      (fun _ _ _ _ _ => trivial) (fun _ _ _ _ _ _ _ _ _ => trivial))

end Cert.Proof.Kernel
end
-- ==== Proof.Ideal.Offsets.lean ====
module

public import proofs.«01_k».proof.Proof.Gen.KernelIdeal.Loops

/-! The offsets of the loads and stores of `KernelIdeal`'s main loop, in closed form: trip `k` treats the 256 tokens from
`256 * (k / 14)` on and the 256 channels from `256 * (k % 14)` on. -/

@[expose] public section
noncomputable section
namespace Cert.Proof.KernelIdeal
open Cert.KernelIdeal Cert.KernelIdeal.Gen
open Idealize.ShloMosaic Idealize.ShloMosaic.TcCoe Idealize.ShloMosaic.Tactic

theorem off1_eq : ∀ (k0_t1 : Fin k0_t1_loop.trips), k0_off1 k0_t1 = ![256 * (k0_t1.val / 14), 256 * (k0_t1.val % 14)] := by decide +kernel
instance closed_off1 (k0_t1 : Fin k0_t1_loop.trips) : ClosedOff (k0_off1 k0_t1) := ⟨![256 * (k0_t1.val / 14), 256 * (k0_t1.val % 14)], off1_eq k0_t1⟩
theorem off2_eq : ∀ (i : grid0.Coords) (k0_t1 : Fin k0_t1_loop.trips), k0_off2 i k0_t1 = ![(i 0).val % 2, 256 * (k0_t1.val % 14), 256 * (k0_t1.val / 14)] := by decide +kernel
instance closed_off2 (i : grid0.Coords) (k0_t1 : Fin k0_t1_loop.trips) : ClosedOff (k0_off2 i k0_t1) := ⟨![(i 0).val % 2, 256 * (k0_t1.val % 14), 256 * (k0_t1.val / 14)], off2_eq i k0_t1⟩
theorem off3_eq : ∀ (k0_t1 : Fin k0_t1_loop.trips), k0_off3 k0_t1 = ![0, 0, 256 * (k0_t1.val / 14)] := by decide +kernel
instance closed_off3 (k0_t1 : Fin k0_t1_loop.trips) : ClosedOff (k0_off3 k0_t1) := ⟨![0, 0, 256 * (k0_t1.val / 14)], off3_eq k0_t1⟩
theorem off4_eq : ∀ (k0_t1 : Fin k0_t1_loop.trips), k0_off4 k0_t1 = ![1, 0, 256 * (k0_t1.val / 14)] := by decide +kernel
instance closed_off4 (k0_t1 : Fin k0_t1_loop.trips) : ClosedOff (k0_off4 k0_t1) := ⟨![1, 0, 256 * (k0_t1.val / 14)], off4_eq k0_t1⟩
theorem off5_eq : ∀ (k0_t1 : Fin k0_t1_loop.trips), k0_off5 k0_t1 = ![256 * (k0_t1.val % 14), 0] := by decide +kernel
instance closed_off5 (k0_t1 : Fin k0_t1_loop.trips) : ClosedOff (k0_off5 k0_t1) := ⟨![256 * (k0_t1.val % 14), 0], off5_eq k0_t1⟩
theorem off6_eq : ∀ (k0_t1 : Fin k0_t1_loop.trips), k0_off6 k0_t1 = ![0, 256 * (k0_t1.val / 14)] := by decide +kernel
instance closed_off6 (k0_t1 : Fin k0_t1_loop.trips) : ClosedOff (k0_off6 k0_t1) := ⟨![0, 256 * (k0_t1.val / 14)], off6_eq k0_t1⟩
theorem off7_0_eq : ∀ (i : grid0.Coords) (k0_t1 : Fin k0_t1_loop.trips), k0_off7 i k0_t1 0#32 = ![1 - (i 0).val % 2, 256 * (k0_t1.val % 14), 256 * (k0_t1.val / 14) + 0] := by decide +kernel
instance closed_off7_0 (i : grid0.Coords) (k0_t1 : Fin k0_t1_loop.trips) : ClosedOff (k0_off7 i k0_t1 0#32) := ⟨![1 - (i 0).val % 2, 256 * (k0_t1.val % 14), 256 * (k0_t1.val / 14) + 0], off7_0_eq i k0_t1⟩
theorem off7_1_eq : ∀ (i : grid0.Coords) (k0_t1 : Fin k0_t1_loop.trips), k0_off7 i k0_t1 128#32 = ![1 - (i 0).val % 2, 256 * (k0_t1.val % 14), 256 * (k0_t1.val / 14) + 128] := by decide +kernel
instance closed_off7_1 (i : grid0.Coords) (k0_t1 : Fin k0_t1_loop.trips) : ClosedOff (k0_off7 i k0_t1 128#32) := ⟨![1 - (i 0).val % 2, 256 * (k0_t1.val % 14), 256 * (k0_t1.val / 14) + 128], off7_1_eq i k0_t1⟩
theorem off8_0_eq : ∀ (k0_t1 : Fin k0_t1_loop.trips), k0_off8 k0_t1 0#32 = ![0, 256 * (k0_t1.val / 14) + 0] := by decide +kernel
instance closed_off8_0 (k0_t1 : Fin k0_t1_loop.trips) : ClosedOff (k0_off8 k0_t1 0#32) := ⟨![0, 256 * (k0_t1.val / 14) + 0], off8_0_eq k0_t1⟩
theorem off8_1_eq : ∀ (k0_t1 : Fin k0_t1_loop.trips), k0_off8 k0_t1 128#32 = ![0, 256 * (k0_t1.val / 14) + 128] := by decide +kernel
instance closed_off8_1 (k0_t1 : Fin k0_t1_loop.trips) : ClosedOff (k0_off8 k0_t1 128#32) := ⟨![0, 256 * (k0_t1.val / 14) + 128], off8_1_eq k0_t1⟩
theorem off9_0_eq : ∀ (k0_t1 : Fin k0_t1_loop.trips), k0_off9 k0_t1 0#32 = ![8 * (k0_t1.val % 14), 256 * (k0_t1.val / 14) + 0] := by decide +kernel
instance closed_off9_0 (k0_t1 : Fin k0_t1_loop.trips) : ClosedOff (k0_off9 k0_t1 0#32) := ⟨![8 * (k0_t1.val % 14), 256 * (k0_t1.val / 14) + 0], off9_0_eq k0_t1⟩
theorem off9_1_eq : ∀ (k0_t1 : Fin k0_t1_loop.trips), k0_off9 k0_t1 128#32 = ![8 * (k0_t1.val % 14), 256 * (k0_t1.val / 14) + 128] := by decide +kernel
instance closed_off9_1 (k0_t1 : Fin k0_t1_loop.trips) : ClosedOff (k0_off9 k0_t1 128#32) := ⟨![8 * (k0_t1.val % 14), 256 * (k0_t1.val / 14) + 128], off9_1_eq k0_t1⟩
theorem off10_0_eq : ∀ (k0_t1 : Fin k0_t1_loop.trips), k0_off10 k0_t1 0#32 = ![256 * (k0_t1.val / 14) + 0, 256 * (k0_t1.val % 14)] := by decide +kernel
instance closed_off10_0 (k0_t1 : Fin k0_t1_loop.trips) : ClosedOff (k0_off10 k0_t1 0#32) := ⟨![256 * (k0_t1.val / 14) + 0, 256 * (k0_t1.val % 14)], off10_0_eq k0_t1⟩
theorem off10_1_eq : ∀ (k0_t1 : Fin k0_t1_loop.trips), k0_off10 k0_t1 128#32 = ![256 * (k0_t1.val / 14) + 128, 256 * (k0_t1.val % 14)] := by decide +kernel
instance closed_off10_1 (k0_t1 : Fin k0_t1_loop.trips) : ClosedOff (k0_off10 k0_t1 128#32) := ⟨![256 * (k0_t1.val / 14) + 128, 256 * (k0_t1.val % 14)], off10_1_eq k0_t1⟩

end Cert.Proof.KernelIdeal
end
-- ==== Proof.Ideal.Loop.lean ====
module

public import proofs.«01_k».proof.Proof.Ideal.Offsets

/-! One trip of the main loop, and the loop by its invariant: the contents of the five memrefs that a trip writes (the
transposed tokens `arg11`, the two running sums `arg16`, the staging of the block maxima `arg18`, the exponents `arg17`
and the codes `arg7`), as a function of what they held before it. -/

@[expose] public section
set_option maxRecDepth 8192
set_option maxHeartbeats 4000000
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)
variable (v3 : BitVec 32)
variable (v4 : BitVec 32)

local notation "𝕄G" => MT nD τ sig Unit (Elt F) ℕ (UR sig nD τ) ℕ

/-- The contents of the five memrefs that the loop writes. -/
abbrev LoopState : Type := BufTy.Contents (Elt F) arg11.view.ty × BufTy.Contents (Elt F) arg16.view.ty × BufTy.Contents (Elt F) arg18.view.ty × BufTy.Contents (Elt F) arg17.view.ty × BufTy.Contents (Elt F) arg7.view.ty

/-- What the loop only reads, at the given contents. -/
abbrev Reads (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) : sProp 𝕄G :=
  iprop((arg2.view.loc (c : Thread nD τ) ↦[arg2.view.set]{fullShare} X_arg2) ∗ (arg13.view.loc (c : Thread nD τ) ↦[arg13.view.set]{fullShare} X_arg13) ∗ (arg14.view.loc (c : Thread nD τ) ↦[arg14.view.set]{fullShare} X_arg14) ∗ (arg12.view.loc (c : Thread nD τ) ↦[arg12.view.set]{fullShare} X_arg12) ∗ (arg15.view.loc (c : Thread nD τ) ↦[arg15.view.set]{fullShare} X_arg15))

/-- What the loop writes, at the contents `s`. -/
abbrev Writes (s : LoopState (F := F) arg7 arg11 arg16 arg17 arg18) : sProp 𝕄G :=
  iprop((arg11.view.loc (c : Thread nD τ) ↦[arg11.view.set]{fullShare} s.1) ∗ (arg16.view.loc (c : Thread nD τ) ↦[arg16.view.set]{fullShare} s.2.1) ∗ (arg18.view.loc (c : Thread nD τ) ↦[arg18.view.set]{fullShare} s.2.2.1) ∗ (arg17.view.loc (c : Thread nD τ) ↦[arg17.view.set]{fullShare} s.2.2.2.1) ∗ (arg7.view.loc (c : Thread nD τ) ↦[arg7.view.set]{fullShare} s.2.2.2.2))

/-- ONE TRIP, at a symbolic trip number: the contents that it leaves are the function `R` that the run finds. -/
@[irreducible] def trip (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (k : Fin k0_t1_loop.trips) :
    { R : (BufTy.Contents (Elt F) arg11.view.ty → BufTy.Contents (Elt F) arg16.view.ty → BufTy.Contents (Elt F) arg18.view.ty → BufTy.Contents (Elt F) arg17.view.ty → BufTy.Contents (Elt F) arg7.view.ty → LoopState (F := F) arg7 arg11 arg16 arg17 arg18) // ∀ (E : Set ℕ) (Y_arg11 : BufTy.Contents (Elt F) arg11.view.ty) (Y_arg16 : BufTy.Contents (Elt F) arg16.view.ty) (Y_arg18 : BufTy.Contents (Elt F) arg18.view.ty) (Y_arg17 : BufTy.Contents (Elt F) arg17.view.ty) (Y_arg7 : BufTy.Contents (Elt F) arg7.view.ty),
      (iprop(Reads c arg2 arg12 arg13 arg14 arg15 X_arg2 X_arg13 X_arg14 X_arg12 X_arg15 ∗ (arg11.view.loc (c : Thread nD τ) ↦[arg11.view.set]{fullShare} Y_arg11) ∗ (arg16.view.loc (c : Thread nD τ) ↦[arg16.view.set]{fullShare} Y_arg16) ∗ (arg18.view.loc (c : Thread nD τ) ↦[arg18.view.set]{fullShare} Y_arg18) ∗ (arg17.view.loc (c : Thread nD τ) ↦[arg17.view.set]{fullShare} Y_arg17) ∗ (arg7.view.loc (c : Thread nD τ) ↦[arg7.view.set]{fullShare} Y_arg7)) : sProp 𝕄G)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 k ())
          (fun _ => iprop(Reads c arg2 arg12 arg13 arg14 arg15 X_arg2 X_arg13 X_arg14 X_arg12 X_arg15 ∗ ∃ (Z_arg11 : BufTy.Contents (Elt F) arg11.view.ty) (Z_arg16 : BufTy.Contents (Elt F) arg16.view.ty) (Z_arg18 : BufTy.Contents (Elt F) arg18.view.ty) (Z_arg17 : BufTy.Contents (Elt F) arg17.view.ty) (Z_arg7 : BufTy.Contents (Elt F) arg7.view.ty), ⌜(Z_arg11, Z_arg16, Z_arg18, Z_arg17, Z_arg7) = R Y_arg11 Y_arg16 Y_arg18 Y_arg17 Y_arg7⌝ ∗ (arg11.view.loc (c : Thread nD τ) ↦[arg11.view.set]{fullShare} Z_arg11) ∗ (arg16.view.loc (c : Thread nD τ) ↦[arg16.view.set]{fullShare} Z_arg16) ∗ (arg18.view.loc (c : Thread nD τ) ↦[arg18.view.set]{fullShare} Z_arg18) ∗ (arg17.view.loc (c : Thread nD τ) ↦[arg17.view.set]{fullShare} Z_arg17) ∗ (arg7.view.loc (c : Thread nD τ) ↦[arg7.view.set]{fullShare} Z_arg7))) } := by
  have hk : k.val < 28 := Nat.lt_of_lt_of_le k.isLt k0_t1_abs.2.1
  refine ⟨?_, fun E Y_arg11 Y_arg16 Y_arg18 Y_arg17 Y_arg7 => ?run⟩
  case run =>
    unfold k0_t1_body Reads
    iintro ⟨⟨HX_arg2, HX_arg13, HX_arg14, HX_arg12, HX_arg15⟩, HY_arg11, HY_arg16, HY_arg18, HY_arg17, HY_arg7⟩
    sl_exec
    sl_step
    sl_close

/-- What trip `k` makes of the state `s`. -/
def tripR (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (k : Fin k0_t1_loop.trips)
    (s : LoopState (F := F) arg7 arg11 arg16 arg17 arg18) : LoopState (F := F) arg7 arg11 arg16 arg17 arg18 :=
  (trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k).1 s.1 s.2.1 s.2.2.1 s.2.2.2.1 s.2.2.2.2

/-- The state before trip `k`, from the state `g` that the loop is entered with. -/
def st (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty)
    (g : LoopState (F := F) arg7 arg11 arg16 arg17 arg18) : ℕ → LoopState (F := F) arg7 arg11 arg16 arg17 arg18
  | 0 => g
  | k + 1 =>
    if h : k < k0_t1_loop.trips then
      tripR (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 ⟨k, h⟩ (st X_arg2 X_arg13 X_arg14 X_arg12 X_arg15 g k)
    else st X_arg2 X_arg13 X_arg14 X_arg12 X_arg15 g k

theorem st_succ (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (g : LoopState (F := F) arg7 arg11 arg16 arg17 arg18) (k : Fin k0_t1_loop.trips) :
    st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g (k.val + 1)
      = tripR (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k (st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g k.val) := by
  rw [st.eq_2]; exact dif_pos k.isLt

/-- The invariant before trip `k`. -/
abbrev inv (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (G_arg11 : BufTy.Contents (Elt F) arg11.view.ty) (G_arg16 : BufTy.Contents (Elt F) arg16.view.ty) (G_arg18 : BufTy.Contents (Elt F) arg18.view.ty) (G_arg17 : BufTy.Contents (Elt F) arg17.view.ty) (G_arg7 : BufTy.Contents (Elt F) arg7.view.ty) (k : Nat) (acc : Unit) : sProp 𝕄G :=
  iprop(Reads c arg2 arg12 arg13 arg14 arg15 X_arg2 X_arg13 X_arg14 X_arg12 X_arg15
    ∗ (arg11.view.loc (c : Thread nD τ) ↦[arg11.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).1)) ∗ (arg16.view.loc (c : Thread nD τ) ↦[arg16.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.1)) ∗ (arg18.view.loc (c : Thread nD τ) ↦[arg18.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.2.1)) ∗ (arg17.view.loc (c : Thread nD τ) ↦[arg17.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.2.2.1)) ∗ (arg7.view.loc (c : Thread nD τ) ↦[arg7.view.set]{fullShare} ((st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).2.2.2.2)))

set_option warn.classDefReducibility false in
/-- The loop by its invariant. -/
@[sl_loop] def loopInv (E : Set ℕ) (X_arg2 : BufTy.Contents (Elt F) arg2.view.ty) (X_arg13 : BufTy.Contents (Elt F) arg13.view.ty) (X_arg14 : BufTy.Contents (Elt F) arg14.view.ty) (X_arg12 : BufTy.Contents (Elt F) arg12.view.ty) (X_arg15 : BufTy.Contents (Elt F) arg15.view.ty) (G_arg11 : BufTy.Contents (Elt F) arg11.view.ty) (G_arg16 : BufTy.Contents (Elt F) arg16.view.ty) (G_arg18 : BufTy.Contents (Elt F) arg18.view.ty) (G_arg17 : BufTy.Contents (Elt F) arg17.view.ty) (G_arg7 : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 where
  inv := inv (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 G_arg11 G_arg16 G_arg18 G_arg17 G_arg7
  step k acc := by
    iintro ⟨HR, HW⟩
    iapply (wp_wand_r Idealize.ShloMosaic.frame (wpE (defs₀ (F := F)) 𝒱 (c : Thread nD τ) bd) E)
    isplitl [HR HW]
    · iapply ((trip (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k).2 E _ _ _ _ _)
      isplitl [HR]; · iexact HR
      iexact HW
    · iintro %_ ⟨HR, %W_arg11, %W_arg16, %W_arg18, %W_arg17, %W_arg7, %hW, HW⟩
      replace hW := hW.trans (st_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 (G_arg11, G_arg16, G_arg18, G_arg17, G_arg7) k).symm
      isplitl [HR]; · iexact HR
      rw [← hW]
      iexact HW

end Cert.Proof.KernelIdeal
end
-- ==== Proof.Ideal.Stats.lean ====
module

public import proofs.«01_k».proof.Proof.Ideal.Loop

@[expose] public section
set_option maxRecDepth 65536
set_option maxHeartbeats 40000000
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

/-- The contents of the memrefs that the body writes. -/
abbrev BodyState : Type := BufTy.Contents (Elt F) arg7.view.ty × BufTy.Contents (Elt F) arg8.view.ty × BufTy.Contents (Elt F) arg9.view.ty × BufTy.Contents (Elt F) arg10.view.ty × BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty × BufTy.Contents (Elt F) arg17.view.ty × BufTy.Contents (Elt F) arg18.view.ty

/-- The row of sums, as the statistics read it. -/
abbrev sumRow (Y_arg16 : BufTy.Contents (Elt F) arg16.view.ty) : FVec F S1x8x512 .f32 :=
  View.readAt (Elt F) arg16.view (Rect.unit (s := S2x8x512) ![0, 0, 0] S1x8x512.size inb_S2x8x512_S1x8x512_0_0_0).toLoadRect Y_arg16

/-- The row of sums of squares, as the statistics read it. -/
abbrev sqRow (Y_arg16 : BufTy.Contents (Elt F) arg16.view.ty) : FVec F S1x8x512 .f32 :=
  View.readAt (Elt F) arg16.view (Rect.unit (s := S2x8x512) ![1, 0, 0] S1x8x512.size inb_S2x8x512_S1x8x512_1_0_0).toLoadRect Y_arg16

/-- Whether some token of the block fails the test on its one-pass sum of squared deviations. -/
abbrev isBad (Y_arg16 : BufTy.Contents (Elt F) arg16.view.ty) : BitVec 1 :=
  Scalar.cmpi .ne (Scalar.extui (Scalar.cmpf .ogt (k0_pay388 (sumRow (F := F) arg16 Y_arg16) (sqRow (F := F) arg16 Y_arg16))
    (Scalar.ofBits (F := F) .f32 0x00000000#32)) : BitVec 32) 0#32

/-- The sum of squared deviations, by the two-pass loop if the block is bad, by the one-pass formula if not. -/
def m2Row (k0_h2 : k0_cond2 i = 1#1) (v0 v3 : BitVec 32) (Y_arg11 : BufTy.Contents (Elt F) arg11.view.ty) (Y_arg16 : BufTy.Contents (Elt F) arg16.view.ty) : FVec F S1x512 .f32 :=
  if isBad (F := F) arg16 Y_arg16 = 1#1 then
    View.readCov (Val := Elt F) arg15.view [
      ⟨Rect.unit (s := S8x512) ![0, 0] S1x512.size inb_S8x512_S1x512_0_0, k0_pay391 (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v3 k0_h2 (sumRow (F := F) arg16 Y_arg16) Y_arg11 (k0_pay389 (F := F)) k0_t2_loop.trips)⟩,
      ⟨Rect.unit (s := S8x512) ![0, 0] S1x512.size inb_S8x512_S1x512_0_0, k0_pay387 (sumRow (F := F) arg16 Y_arg16) (sqRow (F := F) arg16 Y_arg16)⟩]
      (Rect.unit (s := S8x512) ![0, 0] S1x512.size inb_S8x512_S1x512_0_0).toLoadRect
  else
    View.readCov (Val := Elt F) arg15.view [
      ⟨Rect.unit (s := S8x512) ![0, 0] S1x512.size inb_S8x512_S1x512_0_0, k0_pay387 (sumRow (F := F) arg16 Y_arg16) (sqRow (F := F) arg16 Y_arg16)⟩]
      (Rect.unit (s := S8x512) ![0, 0] S1x512.size inb_S8x512_S1x512_0_0).toLoadRect

/-- What the first statement list of the statistics writes to the scratch of the rows. -/
def m2Writes (k0_h2 : k0_cond2 i = 1#1) (v0 v3 : BitVec 32) (Y_arg11 : BufTy.Contents (Elt F) arg11.view.ty) (Y_arg15 : BufTy.Contents (Elt F) arg15.view.ty) (Y_arg16 : BufTy.Contents (Elt F) arg16.view.ty) : BufTy.Contents (Elt F) arg15.view.ty :=
  if isBad (F := F) arg16 Y_arg16 = 1#1 then
    View.writes arg15.view (Elt F) Y_arg15 [
      ⟨Rect.unit (s := S8x512) ![0, 0] S1x512.size inb_S8x512_S1x512_0_0, k0_pay391 (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v3 k0_h2 (sumRow (F := F) arg16 Y_arg16) Y_arg11 (k0_pay389 (F := F)) k0_t2_loop.trips)⟩,
      ⟨Rect.unit (s := S8x512) ![0, 0] S1x512.size inb_S8x512_S1x512_0_0, k0_pay387 (sumRow (F := F) arg16 Y_arg16) (sqRow (F := F) arg16 Y_arg16)⟩]
  else
    View.writes arg15.view (Elt F) Y_arg15 [
      ⟨Rect.unit (s := S8x512) ![0, 0] S1x512.size inb_S8x512_S1x512_0_0, k0_pay387 (sumRow (F := F) arg16 Y_arg16) (sqRow (F := F) arg16 Y_arg16)⟩]

/-- The statistics' first statement list: the sum of squared deviations to row 0 of the scratch of the rows. -/
theorem part54 (k0_h2 : k0_cond2 i = 1#1) (v0 v3 : BitVec 32) (Y_arg11 : BufTy.Contents (Elt F) arg11.view.ty) (Y_arg15 : BufTy.Contents (Elt F) arg15.view.ty) (Y_arg16 : BufTy.Contents (Elt F) arg16.view.ty) (E : Set ℕ) :
      (iprop((arg11.view.loc (c : Thread nD τ) ↦[arg11.view.set]{fullShare} Y_arg11) ∗ (arg15.view.loc (c : Thread nD τ) ↦[arg15.view.set]{fullShare} Y_arg15) ∗ (arg16.view.loc (c : Thread nD τ) ↦[arg16.view.set]{fullShare} Y_arg16)) : sProp 𝕄G)
      ⊢ wp frame (wpE (defs₀ (F := F)) 𝒱 (c : Thread nD τ) bd) E (k0_part54 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v0 v3 k0_h2)
          (fun r => iprop(⌜r = ⟨k0_pay384 (sumRow (F := F) arg16 Y_arg16), m2Row (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 v0 v3 Y_arg11 Y_arg16,
             Scalar.muli v0 512#32, 8192#32, Scalar.divsi (Scalar.muli v0 512#32) 8192#32,
             Scalar.extui (Scalar.cmpi .sgt (Scalar.muli v0 512#32) 0#32), Scalar.extui (Scalar.cmpi .slt (Scalar.muli v0 512#32) 0#32)⟩⌝
             ∗ (arg11.view.loc (c : Thread nD τ) ↦[arg11.view.set]{fullShare} Y_arg11) ∗ (arg15.view.loc (c : Thread nD τ) ↦[arg15.view.set]{fullShare} (m2Writes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 v0 v3 Y_arg11 Y_arg15 Y_arg16)) ∗ (arg16.view.loc (c : Thread nD τ) ↦[arg16.view.set]{fullShare} Y_arg16))) := by
    rw [k0_part54_eq_skeleton]
    unfold k0_part54_skel m2Row m2Writes
    iintro ⟨HY_arg11, HY_arg15, HY_arg16⟩
    sl_exec
    split
    next hbad =>
      have hb : isBad (F := F) arg16 Y_arg16 = 1#1 := hbad
      simp only [if_pos hb]
      sl_exec
      sl_step
      isplitl []
      · ipureintro
        rfl
      · isplitl [HY_arg11]
        · iexact HY_arg11
        · isplitl [HY_arg15]
          · iexact HY_arg15
          · iexact HY_arg16
    next hbad =>
      have hb : ¬ isBad (F := F) arg16 Y_arg16 = 1#1 := hbad
      simp only [if_neg hb]
      sl_exec
      sl_step
      isplitl []
      · ipureintro
        rfl
      · isplitl [HY_arg11]
        · iexact HY_arg11
        · isplitl [HY_arg15]
          · iexact HY_arg15
          · iexact HY_arg16
end Cert.Proof.KernelIdeal
end
-- ==== Proof.Ideal.First.lean ====
module

public import proofs.«01_k».proof.Proof.Ideal.Stats

@[expose] public section
set_option maxRecDepth 65536
set_option maxHeartbeats 40000000
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

set_option sl_exec.stopBefore "k0_part54" in
/-- THE BODY at the first point, which also writes the tables of the weights, run once: what it leaves in the memrefs that it writes. -/
@[irreducible] def first (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (h1 : (Scalar.cmpi .ne (Scalar.extui (Scalar.cmpi .eq (BitVec.ofNat 32 (i 0).val) 0#32)) 0#32 : BitVec 1) = 1#1) (k0_h2 : k0_cond2 i = 1#1) :
    { R : (BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BodyState (F := F) arg7 arg8 arg9 arg10 arg11 arg12 arg13 arg14 arg15 arg16 arg17 arg18) // ∀ (E : Set ℕ) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty),
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = R Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) } := by
  refine ⟨?_, fun E Y_arg7 Y_arg8 Y_arg9 Y_arg10 Y_arg11 Y_arg12 Y_arg13 Y_arg14 Y_arg15 Y_arg16 Y_arg17 Y_arg18 => ?run⟩
  case run =>
    unfold cc0_tp_layernorm_q_skel
    iintro ⟨HX_arg1, HX_arg2, HX_arg3, HX_arg4, HX_arg5, HX_arg6, HY_arg7, HY_arg8, HY_arg9, HY_arg10, HY_arg11, HY_arg12, HY_arg13, HY_arg14, HY_arg15, HY_arg16, HY_arg17, HY_arg18⟩
    sl_exec_parts
    generalize hg16 : View.writes arg16.view (Elt F) _ _ = G_arg16
    sl_exec_parts
    rw [wp_bind]
    iapply (wp_wand_r Idealize.ShloMosaic.frame (wpE (defs₀ (F := F)) 𝒱 (c : Thread nD τ) bd) E)
    isplitl [HY_arg11 HY_arg15 HY_arg16]
    · iapply (part54 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 _ _ _ _ _ E) $$ [HY_arg11 HY_arg15 HY_arg16]
      isplitl [HY_arg11]
      · iexact HY_arg11
      · isplitl [HY_arg15]
        · iexact HY_arg15
        · iexact HY_arg16
    · iintro %r ⟨%hr, HY_arg11, HY_arg15, HY_arg16⟩
      subst hr
      sl_exec_parts
      sl_step
      subst hg16
      sl_close

end Cert.Proof.KernelIdeal
end
-- ==== Proof.Ideal.Mid.lean ====
module

public import proofs.«01_k».proof.Proof.Ideal.Stats

@[expose] public section
set_option maxRecDepth 65536
set_option maxHeartbeats 40000000
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

set_option sl_exec.stopBefore "k0_part54" in
/-- THE BODY at a point that is neither the first nor the last, run once: what it leaves in the memrefs that it writes. -/
@[irreducible] def mid (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (h1 : ¬ (Scalar.cmpi .ne (Scalar.extui (Scalar.cmpi .eq (BitVec.ofNat 32 (i 0).val) 0#32)) 0#32 : BitVec 1) = 1#1) (k0_h2 : k0_cond2 i = 1#1) :
    { R : (BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BodyState (F := F) arg7 arg8 arg9 arg10 arg11 arg12 arg13 arg14 arg15 arg16 arg17 arg18) // ∀ (E : Set ℕ) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty),
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = R Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) } := by
  refine ⟨?_, fun E Y_arg7 Y_arg8 Y_arg9 Y_arg10 Y_arg11 Y_arg12 Y_arg13 Y_arg14 Y_arg15 Y_arg16 Y_arg17 Y_arg18 => ?run⟩
  case run =>
    unfold cc0_tp_layernorm_q_skel
    iintro ⟨HX_arg1, HX_arg2, HX_arg3, HX_arg4, HX_arg5, HX_arg6, HY_arg7, HY_arg8, HY_arg9, HY_arg10, HY_arg11, HY_arg12, HY_arg13, HY_arg14, HY_arg15, HY_arg16, HY_arg17, HY_arg18⟩
    sl_exec_parts
    generalize hg16 : View.writes arg16.view (Elt F) _ _ = G_arg16
    sl_exec_parts
    rw [wp_bind]
    iapply (wp_wand_r Idealize.ShloMosaic.frame (wpE (defs₀ (F := F)) 𝒱 (c : Thread nD τ) bd) E)
    isplitl [HY_arg11 HY_arg15 HY_arg16]
    · iapply (part54 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 k0_h2 _ _ _ _ _ E) $$ [HY_arg11 HY_arg15 HY_arg16]
      isplitl [HY_arg11]
      · iexact HY_arg11
      · isplitl [HY_arg15]
        · iexact HY_arg15
        · iexact HY_arg16
    · iintro %r ⟨%hr, HY_arg11, HY_arg15, HY_arg16⟩
      subst hr
      sl_exec_parts
      sl_step
      subst hg16
      sl_close

end Cert.Proof.KernelIdeal
end
-- ==== Proof.Ideal.Last.lean ====
module

public import proofs.«01_k».proof.Proof.Ideal.Stats

@[expose] public section
set_option maxRecDepth 65536
set_option maxHeartbeats 40000000
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

set_option sl_exec.stopBefore "k0_part54" in
/-- THE BODY at the last point, which only emits the outputs of the last block, run once: what it leaves in the memrefs that it writes. -/
@[irreducible] def last (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (h1 : ¬ (Scalar.cmpi .ne (Scalar.extui (Scalar.cmpi .eq (BitVec.ofNat 32 (i 0).val) 0#32)) 0#32 : BitVec 1) = 1#1) (k0_h2 : ¬ k0_cond2 i = 1#1) :
    { R : (BufTy.Contents (Elt F) arg7.view.ty → BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BodyState (F := F) arg7 arg8 arg9 arg10 arg11 arg12 arg13 arg14 arg15 arg16 arg17 arg18) // ∀ (E : Set ℕ) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty),
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = R Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) } := by
  refine ⟨?_, fun E Y_arg7 Y_arg8 Y_arg9 Y_arg10 Y_arg11 Y_arg12 Y_arg13 Y_arg14 Y_arg15 Y_arg16 Y_arg17 Y_arg18 => ?run⟩
  case run =>
    unfold cc0_tp_layernorm_q_skel
    iintro ⟨HX_arg1, HX_arg2, HX_arg3, HX_arg4, HX_arg5, HX_arg6, HY_arg7, HY_arg8, HY_arg9, HY_arg10, HY_arg11, HY_arg12, HY_arg13, HY_arg14, HY_arg15, HY_arg16, HY_arg17, HY_arg18⟩
    sl_exec_parts
    generalize hg16 : View.writes arg16.view (Elt F) _ _ = G_arg16
    sl_exec_parts
    sl_step
    subst hg16
    sl_close

end Cert.Proof.KernelIdeal
end
-- ==== Proof.Ideal.Step.lean ====
module

public import proofs.«01_k».proof.Proof.Ideal.First
public import proofs.«01_k».proof.Proof.Ideal.Mid
public import proofs.«01_k».proof.Proof.Ideal.Last

@[expose] public section
set_option maxRecDepth 65536
set_option maxHeartbeats 4000000
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

local notation "𝕄G" => MT nD τ sig Unit (Elt F) ℕ (UR sig nD τ) ℕ

/-- What the body leaves in the memrefs that it writes, at any point: the run of the first point, of one in the
    middle, or of the last (a point that would be both first and last does not occur). -/
def step (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty) : BodyState (F := F) arg7 arg8 arg9 arg10 arg11 arg12 arg13 arg14 arg15 arg16 arg17 arg18 :=
  open Classical in
  if h1 : (Scalar.cmpi .ne (Scalar.extui (Scalar.cmpi .eq (BitVec.ofNat 32 (i 0).val) 0#32)) 0#32 : BitVec 1) = 1#1 then
    if h2 : k0_cond2 i = 1#1 then (first 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18
    else (Y_arg7, Y_arg8, Y_arg9, Y_arg10, Y_arg11, Y_arg12, Y_arg13, Y_arg14, Y_arg15, Y_arg16, Y_arg17, Y_arg18)
  else if h2 : k0_cond2 i = 1#1 then (mid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18
  else (last 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18

/-- THE BODY at any point that runs to `step`. -/
theorem step_run (hi : (Scalar.cmpi .ne (Scalar.extui (Scalar.cmpi .eq (BitVec.ofNat 32 (i 0).val) 0#32)) 0#32 : BitVec 1) = 1#1 → k0_cond2 i = 1#1) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty) (E : Set ℕ) :
      (iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} Y_arg7) ∗ (arg8.view.loc (c : Thread nD τ) ↦[arg8.view.set]{fullShare} Y_arg8) ∗ (arg9.view.loc (c : Thread nD τ) ↦[arg9.view.set]{fullShare} Y_arg9) ∗ (arg10.view.loc (c : Thread nD τ) ↦[arg10.view.set]{fullShare} Y_arg10) ∗ (arg11.view.loc (c : Thread nD τ) ↦[arg11.view.set]{fullShare} Y_arg11) ∗ (arg12.view.loc (c : Thread nD τ) ↦[arg12.view.set]{fullShare} Y_arg12) ∗ (arg13.view.loc (c : Thread nD τ) ↦[arg13.view.set]{fullShare} Y_arg13) ∗ (arg14.view.loc (c : Thread nD τ) ↦[arg14.view.set]{fullShare} Y_arg14) ∗ (arg15.view.loc (c : Thread nD τ) ↦[arg15.view.set]{fullShare} Y_arg15) ∗ (arg16.view.loc (c : Thread nD τ) ↦[arg16.view.set]{fullShare} Y_arg16) ∗ (arg17.view.loc (c : Thread nD τ) ↦[arg17.view.set]{fullShare} Y_arg17) ∗ (arg18.view.loc (c : Thread nD τ) ↦[arg18.view.set]{fullShare} Y_arg18)) : sProp 𝕄G)
      ⊢ wp frame (wpE (defs₀ (F := F)) 𝒱 (c : Thread nD τ) bd) E (cc0_tp_layernorm_q_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop(((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6)) ∗ ∃ (Z_arg7 : BufTy.Contents (Elt F) arg7.view.ty) (Z_arg8 : BufTy.Contents (Elt F) arg8.view.ty) (Z_arg9 : BufTy.Contents (Elt F) arg9.view.ty) (Z_arg10 : BufTy.Contents (Elt F) arg10.view.ty) (Z_arg11 : BufTy.Contents (Elt F) arg11.view.ty) (Z_arg12 : BufTy.Contents (Elt F) arg12.view.ty) (Z_arg13 : BufTy.Contents (Elt F) arg13.view.ty) (Z_arg14 : BufTy.Contents (Elt F) arg14.view.ty) (Z_arg15 : BufTy.Contents (Elt F) arg15.view.ty) (Z_arg16 : BufTy.Contents (Elt F) arg16.view.ty) (Z_arg17 : BufTy.Contents (Elt F) arg17.view.ty) (Z_arg18 : BufTy.Contents (Elt F) arg18.view.ty), ⌜(Z_arg7, Z_arg8, Z_arg9, Z_arg10, Z_arg11, Z_arg12, Z_arg13, Z_arg14, Z_arg15, Z_arg16, Z_arg17, Z_arg18) = step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18⌝ ∗ (arg7.view.loc (c : Thread nD τ) ↦[arg7.view.set]{fullShare} Z_arg7) ∗ (arg8.view.loc (c : Thread nD τ) ↦[arg8.view.set]{fullShare} Z_arg8) ∗ (arg9.view.loc (c : Thread nD τ) ↦[arg9.view.set]{fullShare} Z_arg9) ∗ (arg10.view.loc (c : Thread nD τ) ↦[arg10.view.set]{fullShare} Z_arg10) ∗ (arg11.view.loc (c : Thread nD τ) ↦[arg11.view.set]{fullShare} Z_arg11) ∗ (arg12.view.loc (c : Thread nD τ) ↦[arg12.view.set]{fullShare} Z_arg12) ∗ (arg13.view.loc (c : Thread nD τ) ↦[arg13.view.set]{fullShare} Z_arg13) ∗ (arg14.view.loc (c : Thread nD τ) ↦[arg14.view.set]{fullShare} Z_arg14) ∗ (arg15.view.loc (c : Thread nD τ) ↦[arg15.view.set]{fullShare} Z_arg15) ∗ (arg16.view.loc (c : Thread nD τ) ↦[arg16.view.set]{fullShare} Z_arg16) ∗ (arg17.view.loc (c : Thread nD τ) ↦[arg17.view.set]{fullShare} Z_arg17) ∗ (arg18.view.loc (c : Thread nD τ) ↦[arg18.view.set]{fullShare} Z_arg18))) := by
  by_cases h1 : (Scalar.cmpi .ne (Scalar.extui (Scalar.cmpi .eq (BitVec.ofNat 32 (i 0).val) 0#32)) 0#32 : BitVec 1) = 1#1
  · have hs : step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18 = (first 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 (hi h1)).1 Y_arg7 Y_arg8 Y_arg9 Y_arg10 Y_arg11 Y_arg12 Y_arg13 Y_arg14 Y_arg15 Y_arg16 Y_arg17 Y_arg18 := by
      unfold step; rw [dif_pos h1, dif_pos (hi h1)]
    rw [hs]; exact (first 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 (hi h1)).2 E Y_arg7 Y_arg8 Y_arg9 Y_arg10 Y_arg11 Y_arg12 Y_arg13 Y_arg14 Y_arg15 Y_arg16 Y_arg17 Y_arg18
  · by_cases h2 : k0_cond2 i = 1#1
    · have hs : step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18 = (mid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18 := by
        unfold step; rw [dif_neg h1, dif_pos h2]
      rw [hs]; exact (mid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).2 E Y_arg7 Y_arg8 Y_arg9 Y_arg10 Y_arg11 Y_arg12 Y_arg13 Y_arg14 Y_arg15 Y_arg16 Y_arg17 Y_arg18
    · have hs : step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18 = (last 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18 := by
        unfold step; rw [dif_neg h1, dif_neg h2]
      rw [hs]; exact (last 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).2 E Y_arg7 Y_arg8 Y_arg9 Y_arg10 Y_arg11 Y_arg12 Y_arg13 Y_arg14 Y_arg15 Y_arg16 Y_arg17 Y_arg18

end Cert.Proof.KernelIdeal
end
-- ==== Proof.Ideal.Frame.lean ====
module

public import proofs.«01_k».proof.Proof.Ideal.Step
public import proofs.«01_k».proof.Proof.Gen.KernelIdeal.Frame
public import Idealize.ShloMosaic.Lib.Pipeline.Frame

@[expose] public section
set_option maxRecDepth 65536
set_option maxHeartbeats 4000000
noncomputable section
namespace Cert.Proof.KernelIdeal
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- A predicate of the eight scratch buffers' contents. -/
abbrev ScrPred (F : FTy → Type) : Type := BufTy.Contents (Elt F) (Memref.whole cc0_scratch0 : Memref sig .tc .vmem _ _).view.ty → BufTy.Contents (Elt F) (Memref.whole cc0_scratch1 : Memref sig .tc .vmem _ _).view.ty → BufTy.Contents (Elt F) (Memref.whole cc0_scratch2 : Memref sig .tc .vmem _ _).view.ty → BufTy.Contents (Elt F) (Memref.whole cc0_scratch3 : Memref sig .tc .vmem _ _).view.ty → BufTy.Contents (Elt F) (Memref.whole cc0_scratch4 : Memref sig .tc .vmem _ _).view.ty → BufTy.Contents (Elt F) (Memref.whole cc0_scratch5 : Memref sig .tc .vmem _ _).view.ty → BufTy.Contents (Elt F) (Memref.whole cc0_scratch6 : Memref sig .tc .vmem _ _).view.ty → BufTy.Contents (Elt F) (Memref.whole cc0_scratch7 : Memref sig .tc .vmem _ _).view.ty → Prop

/-- The eight scratch buffers whole, at given contents. -/
def scrPts (c : Dev nD) (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty) : sProp 𝕄G :=
  iprop(((Memref.whole cc0_scratch0 : Memref sig .tc .vmem _ _).view.loc (c : Thread nD τ) ↦[(Memref.whole cc0_scratch0 : Memref sig .tc .vmem _ _).view.set]{fullShare} S_arg11) ∗ ((Memref.whole cc0_scratch1 : Memref sig .tc .vmem _ _).view.loc (c : Thread nD τ) ↦[(Memref.whole cc0_scratch1 : Memref sig .tc .vmem _ _).view.set]{fullShare} S_arg12) ∗ ((Memref.whole cc0_scratch2 : Memref sig .tc .vmem _ _).view.loc (c : Thread nD τ) ↦[(Memref.whole cc0_scratch2 : Memref sig .tc .vmem _ _).view.set]{fullShare} S_arg13) ∗ ((Memref.whole cc0_scratch3 : Memref sig .tc .vmem _ _).view.loc (c : Thread nD τ) ↦[(Memref.whole cc0_scratch3 : Memref sig .tc .vmem _ _).view.set]{fullShare} S_arg14) ∗ ((Memref.whole cc0_scratch4 : Memref sig .tc .vmem _ _).view.loc (c : Thread nD τ) ↦[(Memref.whole cc0_scratch4 : Memref sig .tc .vmem _ _).view.set]{fullShare} S_arg15) ∗ ((Memref.whole cc0_scratch5 : Memref sig .tc .vmem _ _).view.loc (c : Thread nD τ) ↦[(Memref.whole cc0_scratch5 : Memref sig .tc .vmem _ _).view.set]{fullShare} S_arg16) ∗ ((Memref.whole cc0_scratch6 : Memref sig .tc .vmem _ _).view.loc (c : Thread nD τ) ↦[(Memref.whole cc0_scratch6 : Memref sig .tc .vmem _ _).view.set]{fullShare} S_arg17) ∗ ((Memref.whole cc0_scratch7 : Memref sig .tc .vmem _ _).view.loc (c : Thread nD τ) ↦[(Memref.whole cc0_scratch7 : Memref sig .tc .vmem _ _).view.set]{fullShare} S_arg18))

/-- What is said of what the body leaves in each window: an input is as it was handed, an output satisfies `aft`. -/
abbrev Aft (F : FTy → Type) : Type := (w : Fin cfg0.W) → Fin cfg0.N → (Y X : (cfg0.win w).block.Idx → Elt F (cfg0.win w).elt) → Prop

variable (Inv : Dev nD → ℕ → ScrPred F) (aft : Dev nD → Aft F)

/-- The proof data: before point `t` the scratch is at some contents of which `Inv` holds; what the body leaves in an
    output window satisfies `aft`, what it leaves in an input window is what it found. -/
def rdat (c : Dev nD) : Pipeline.RDat τ (Elt F) Unit ℕ (UR sig nD τ) ℕ cfg0 c where
  A w := V m c (Pipeline.arrRef spec0 w)
  after w t Y X := (w.val < 6 → X = Y) ∧ aft c w t Y X
  Φ t := iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c t.val S_arg11 S_arg12 S_arg13 S_arg14 S_arg15 S_arg16 S_arg17 S_arg18⌝ ∗ scrPts c S_arg11 S_arg12 S_arg13 S_arg14 S_arg15 S_arg16 S_arg17 S_arg18) ∗ ∃ r, prngReg c r)
  q _ := fullShare
  owed _ := 0

/-- `stepAt c t`: what the body leaves in the memrefs that it writes, at point `t` of core `c`. -/
def stepAt (c : Dev nD) (t : Fin cfg0.N) (X_arg1 : BufTy.Contents (Elt F) (st0_0 t).view.ty) (X_arg2 : BufTy.Contents (Elt F) (st0_1 t).view.ty) (X_arg3 : BufTy.Contents (Elt F) (st0_2 t).view.ty) (X_arg4 : BufTy.Contents (Elt F) (st0_3 t).view.ty) (X_arg5 : BufTy.Contents (Elt F) (st0_4 t).view.ty) (X_arg6 : BufTy.Contents (Elt F) (st0_5 t).view.ty) (Y_arg7 : BufTy.Contents (Elt F) (st0_6 t).view.ty) (Y_arg8 : BufTy.Contents (Elt F) (st0_7 t).view.ty) (Y_arg9 : BufTy.Contents (Elt F) (st0_8 t).view.ty) (Y_arg10 : BufTy.Contents (Elt F) (st0_9 t).view.ty) (Y_arg11 : BufTy.Contents (Elt F) (Memref.whole cc0_scratch0 : Memref sig .tc .vmem _ _).view.ty) (Y_arg12 : BufTy.Contents (Elt F) (Memref.whole cc0_scratch1 : Memref sig .tc .vmem _ _).view.ty) (Y_arg13 : BufTy.Contents (Elt F) (Memref.whole cc0_scratch2 : Memref sig .tc .vmem _ _).view.ty) (Y_arg14 : BufTy.Contents (Elt F) (Memref.whole cc0_scratch3 : Memref sig .tc .vmem _ _).view.ty) (Y_arg15 : BufTy.Contents (Elt F) (Memref.whole cc0_scratch4 : Memref sig .tc .vmem _ _).view.ty) (Y_arg16 : BufTy.Contents (Elt F) (Memref.whole cc0_scratch5 : Memref sig .tc .vmem _ _).view.ty) (Y_arg17 : BufTy.Contents (Elt F) (Memref.whole cc0_scratch6 : Memref sig .tc .vmem _ _).view.ty) (Y_arg18 : BufTy.Contents (Elt F) (Memref.whole cc0_scratch7 : Memref sig .tc .vmem _ _).view.ty) : BodyState (F := F) (st0_6 t) (st0_7 t) (st0_8 t) (st0_9 t) (Memref.whole cc0_scratch0 : Memref sig .tc .vmem _ _) (Memref.whole cc0_scratch1 : Memref sig .tc .vmem _ _) (Memref.whole cc0_scratch2 : Memref sig .tc .vmem _ _) (Memref.whole cc0_scratch3 : Memref sig .tc .vmem _ _) (Memref.whole cc0_scratch4 : Memref sig .tc .vmem _ _) (Memref.whole cc0_scratch5 : Memref sig .tc .vmem _ _) (Memref.whole cc0_scratch6 : Memref sig .tc .vmem _ _) (Memref.whole cc0_scratch7 : Memref sig .tc .vmem _ _) :=
  step Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) X_arg1 X_arg2 X_arg3 X_arg4 X_arg5 X_arg6 Y_arg7 Y_arg8 Y_arg9 Y_arg10 Y_arg11 Y_arg12 Y_arg13 Y_arg14 Y_arg15 Y_arg16 Y_arg17 Y_arg18

/-- The two conditions of the body never make a first point that is also the last. -/
theorem first_not_last : ∀ t : Fin cfg0.N, (Scalar.cmpi .ne (Scalar.extui (Scalar.cmpi .eq (BitVec.ofNat 32 (grid0.coords t 0).val) 0#32)) 0#32 : BitVec 1) = 1#1 → k0_cond2 (grid0.coords t) = 1#1 := by
  decide

/-- The hypothesis of the run: from contents which the windows may hold and scratch contents of which `Inv` holds, the
    body leaves outputs satisfying `aft` and scratch contents of which `Inv` holds at the next point. -/
def StepOk (c : Dev nD) : Prop :=
  ∀ (t : Fin cfg0.N) (Y : (w : Fin cfg0.W) → (cfg0.win w).block.Idx → Elt F (cfg0.win w).elt), (∀ w, (rdat m Inv aft c).Finds w t (Y w)) →
    ∀ (X_arg1 : BufTy.Contents (Elt F) (st0_0 t).view.ty) (X_arg2 : BufTy.Contents (Elt F) (st0_1 t).view.ty) (X_arg3 : BufTy.Contents (Elt F) (st0_2 t).view.ty) (X_arg4 : BufTy.Contents (Elt F) (st0_3 t).view.ty) (X_arg5 : BufTy.Contents (Elt F) (st0_4 t).view.ty) (X_arg6 : BufTy.Contents (Elt F) (st0_5 t).view.ty) (Y_arg7 : BufTy.Contents (Elt F) (st0_6 t).view.ty) (Y_arg8 : BufTy.Contents (Elt F) (st0_7 t).view.ty) (Y_arg9 : BufTy.Contents (Elt F) (st0_8 t).view.ty) (Y_arg10 : BufTy.Contents (Elt F) (st0_9 t).view.ty) (Y_arg11 : BufTy.Contents (Elt F) (Memref.whole cc0_scratch0 : Memref sig .tc .vmem _ _).view.ty) (Y_arg12 : BufTy.Contents (Elt F) (Memref.whole cc0_scratch1 : Memref sig .tc .vmem _ _).view.ty) (Y_arg13 : BufTy.Contents (Elt F) (Memref.whole cc0_scratch2 : Memref sig .tc .vmem _ _).view.ty) (Y_arg14 : BufTy.Contents (Elt F) (Memref.whole cc0_scratch3 : Memref sig .tc .vmem _ _).view.ty) (Y_arg15 : BufTy.Contents (Elt F) (Memref.whole cc0_scratch4 : Memref sig .tc .vmem _ _).view.ty) (Y_arg16 : BufTy.Contents (Elt F) (Memref.whole cc0_scratch5 : Memref sig .tc .vmem _ _).view.ty) (Y_arg17 : BufTy.Contents (Elt F) (Memref.whole cc0_scratch6 : Memref sig .tc .vmem _ _).view.ty) (Y_arg18 : BufTy.Contents (Elt F) (Memref.whole cc0_scratch7 : Memref sig .tc .vmem _ _).view.ty),
      (st0_0 t).view.read (Elt F) X_arg1 = Y 0 → (st0_1 t).view.read (Elt F) X_arg2 = Y 1 → (st0_2 t).view.read (Elt F) X_arg3 = Y 2 → (st0_3 t).view.read (Elt F) X_arg4 = Y 3 → (st0_4 t).view.read (Elt F) X_arg5 = Y 4 → (st0_5 t).view.read (Elt F) X_arg6 = Y 5 →
      (st0_6 t).view.read (Elt F) Y_arg7 = Y 6 → (st0_7 t).view.read (Elt F) Y_arg8 = Y 7 → (st0_8 t).view.read (Elt F) Y_arg9 = Y 8 → (st0_9 t).view.read (Elt F) Y_arg10 = Y 9 →
      Inv c t.val Y_arg11 Y_arg12 Y_arg13 Y_arg14 Y_arg15 Y_arg16 Y_arg17 Y_arg18 →
    ∀ (Z_arg7 : BufTy.Contents (Elt F) (st0_6 t).view.ty) (Z_arg8 : BufTy.Contents (Elt F) (st0_7 t).view.ty) (Z_arg9 : BufTy.Contents (Elt F) (st0_8 t).view.ty) (Z_arg10 : BufTy.Contents (Elt F) (st0_9 t).view.ty) (Z_arg11 : BufTy.Contents (Elt F) (Memref.whole cc0_scratch0 : Memref sig .tc .vmem _ _).view.ty) (Z_arg12 : BufTy.Contents (Elt F) (Memref.whole cc0_scratch1 : Memref sig .tc .vmem _ _).view.ty) (Z_arg13 : BufTy.Contents (Elt F) (Memref.whole cc0_scratch2 : Memref sig .tc .vmem _ _).view.ty) (Z_arg14 : BufTy.Contents (Elt F) (Memref.whole cc0_scratch3 : Memref sig .tc .vmem _ _).view.ty) (Z_arg15 : BufTy.Contents (Elt F) (Memref.whole cc0_scratch4 : Memref sig .tc .vmem _ _).view.ty) (Z_arg16 : BufTy.Contents (Elt F) (Memref.whole cc0_scratch5 : Memref sig .tc .vmem _ _).view.ty) (Z_arg17 : BufTy.Contents (Elt F) (Memref.whole cc0_scratch6 : Memref sig .tc .vmem _ _).view.ty) (Z_arg18 : BufTy.Contents (Elt F) (Memref.whole cc0_scratch7 : Memref sig .tc .vmem _ _).view.ty), (Z_arg7, Z_arg8, Z_arg9, Z_arg10, Z_arg11, Z_arg12, Z_arg13, Z_arg14, Z_arg15, Z_arg16, Z_arg17, Z_arg18) = stepAt c t X_arg1 X_arg2 X_arg3 X_arg4 X_arg5 X_arg6 Y_arg7 Y_arg8 Y_arg9 Y_arg10 Y_arg11 Y_arg12 Y_arg13 Y_arg14 Y_arg15 Y_arg16 Y_arg17 Y_arg18 →
      aft c 6 t (Y 6) ((st0_6 t).view.read (Elt F) Z_arg7) ∧ aft c 7 t (Y 7) ((st0_7 t).view.read (Elt F) Z_arg8) ∧ aft c 8 t (Y 8) ((st0_8 t).view.read (Elt F) Z_arg9) ∧ aft c 9 t (Y 9) ((st0_9 t).view.read (Elt F) Z_arg10) ∧ Inv c (t.val + 1) Z_arg11 Z_arg12 Z_arg13 Z_arg14 Z_arg15 Z_arg16 Z_arg17 Z_arg18

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation, from `StepOk`. -/
theorem body_obligation (c : Dev nD) (hok : StepOk m Inv aft c) (hin : ∀ w t Y, w.val < 6 → aft c w t Y Y) :
    (rdat m Inv aft c).BodyObligation (defs₀ (F := F)) Variants.none () Set.univ := fun t Y hY => by
  rw [bigSep_W0, bigSep_W0, defs₀_row]
  unfold bodyAt0
  rw [cc0_tp_layernorm_q_eq_skeleton]
  rw [show (rdat m Inv aft c).owesAt () t.succ = (rdat m Inv aft c).owesAt () t.castSucc from rfl]
  unfold owns
  rw [show (rdat m Inv aft c).Φ t.castSucc = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c t.val S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl,
    show (rdat m Inv aft c).Φ t.succ = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c (t.val + 1) S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl]
  unfold scrPts
  iintro ⟨⟨⟨%Y_arg11, %Y_arg12, %Y_arg13, %Y_arg14, %Y_arg15, %Y_arg16, %Y_arg17, %Y_arg18, %hI, HY_arg11, HY_arg12, HY_arg13, HY_arg14, HY_arg15, HY_arg16, HY_arg17, HY_arg18⟩, Hg⟩, HO, ⟨%X_arg1, %h_arg1, HX_arg1⟩, ⟨%X_arg2, %h_arg2, HX_arg2⟩, ⟨%X_arg3, %h_arg3, HX_arg3⟩, ⟨%X_arg4, %h_arg4, HX_arg4⟩, ⟨%X_arg5, %h_arg5, HX_arg5⟩, ⟨%X_arg6, %h_arg6, HX_arg6⟩, ⟨%Y_arg7, %h_arg7, HY_arg7⟩, ⟨%Y_arg8, %h_arg8, HY_arg8⟩, ⟨%Y_arg9, %h_arg9, HY_arg9⟩, ⟨%Y_arg10, %h_arg10, HY_arg10⟩⟩
  iapply (wp_wand_r Idealize.ShloMosaic.frame (wpE (defs₀ (F := F)) Variants.none (c : Thread nD τ) none) Set.univ)
  isplitl [HX_arg1 HX_arg2 HX_arg3 HX_arg4 HX_arg5 HX_arg6 HY_arg7 HY_arg8 HY_arg9 HY_arg10 HY_arg11 HY_arg12 HY_arg13 HY_arg14 HY_arg15 HY_arg16 HY_arg17 HY_arg18]
  · iapply (step_run (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (first_not_last t) X_arg1 X_arg2 X_arg3 X_arg4 X_arg5 X_arg6 Y_arg7 Y_arg8 Y_arg9 Y_arg10 Y_arg11 Y_arg12 Y_arg13 Y_arg14 Y_arg15 Y_arg16 Y_arg17 Y_arg18 Set.univ) $$ [HX_arg1 HX_arg2 HX_arg3 HX_arg4 HX_arg5 HX_arg6 HY_arg7 HY_arg8 HY_arg9 HY_arg10 HY_arg11 HY_arg12 HY_arg13 HY_arg14 HY_arg15 HY_arg16 HY_arg17 HY_arg18]
    isplitl [HX_arg1]; · iexact HX_arg1
    isplitl [HX_arg2]; · iexact HX_arg2
    isplitl [HX_arg3]; · iexact HX_arg3
    isplitl [HX_arg4]; · iexact HX_arg4
    isplitl [HX_arg5]; · iexact HX_arg5
    isplitl [HX_arg6]; · iexact HX_arg6
    isplitl [HY_arg7]; · iexact HY_arg7
    isplitl [HY_arg8]; · iexact HY_arg8
    isplitl [HY_arg9]; · iexact HY_arg9
    isplitl [HY_arg10]; · iexact HY_arg10
    isplitl [HY_arg11]; · iexact HY_arg11
    isplitl [HY_arg12]; · iexact HY_arg12
    isplitl [HY_arg13]; · iexact HY_arg13
    isplitl [HY_arg14]; · iexact HY_arg14
    isplitl [HY_arg15]; · iexact HY_arg15
    isplitl [HY_arg16]; · iexact HY_arg16
    isplitl [HY_arg17]; · iexact HY_arg17
    iexact HY_arg18
  · iintro %r ⟨⟨HX_arg1, HX_arg2, HX_arg3, HX_arg4, HX_arg5, HX_arg6⟩, %Z_arg7, %Z_arg8, %Z_arg9, %Z_arg10, %Z_arg11, %Z_arg12, %Z_arg13, %Z_arg14, %Z_arg15, %Z_arg16, %Z_arg17, %Z_arg18, %hZ, HZ_arg7, HZ_arg8, HZ_arg9, HZ_arg10, HZ_arg11, HZ_arg12, HZ_arg13, HZ_arg14, HZ_arg15, HZ_arg16, HZ_arg17, HZ_arg18⟩
    have hk := hok t Y hY X_arg1 X_arg2 X_arg3 X_arg4 X_arg5 X_arg6 Y_arg7 Y_arg8 Y_arg9 Y_arg10 Y_arg11 Y_arg12 Y_arg13 Y_arg14 Y_arg15 Y_arg16 Y_arg17 Y_arg18 h_arg1 h_arg2 h_arg3 h_arg4 h_arg5 h_arg6 h_arg7 h_arg8 h_arg9 h_arg10 hI Z_arg7 Z_arg8 Z_arg9 Z_arg10 Z_arg11 Z_arg12 Z_arg13 Z_arg14 Z_arg15 Z_arg16 Z_arg17 Z_arg18 hZ
    isplitl [Hg HZ_arg11 HZ_arg12 HZ_arg13 HZ_arg14 HZ_arg15 HZ_arg16 HZ_arg17 HZ_arg18]
    · isplitr [Hg]
      · iexists Z_arg11, Z_arg12, Z_arg13, Z_arg14, Z_arg15, Z_arg16, Z_arg17, Z_arg18
        isplitr
        · ipureintro; exact hk.2.2.2.2
        isplitl [HZ_arg11]; · iexact HZ_arg11
        isplitl [HZ_arg12]; · iexact HZ_arg12
        isplitl [HZ_arg13]; · iexact HZ_arg13
        isplitl [HZ_arg14]; · iexact HZ_arg14
        isplitl [HZ_arg15]; · iexact HZ_arg15
        isplitl [HZ_arg16]; · iexact HZ_arg16
        isplitl [HZ_arg17]; · iexact HZ_arg17
        iexact HZ_arg18
      · iexact Hg
    isplitl [HO]; · iexact HO
    isplitl [HX_arg1]
    · iexists ((st0_0 t).view.read (Elt F) X_arg1)
      isplitr
      · ipureintro; exact ⟨fun _ => h_arg1, by rw [h_arg1]; exact hin _ _ _ (by decide)⟩
      iexists X_arg1
      isplitr
      · ipureintro; rfl
      iexact HX_arg1
    isplitl [HX_arg2]
    · iexists ((st0_1 t).view.read (Elt F) X_arg2)
      isplitr
      · ipureintro; exact ⟨fun _ => h_arg2, by rw [h_arg2]; exact hin _ _ _ (by decide)⟩
      iexists X_arg2
      isplitr
      · ipureintro; rfl
      iexact HX_arg2
    isplitl [HX_arg3]
    · iexists ((st0_2 t).view.read (Elt F) X_arg3)
      isplitr
      · ipureintro; exact ⟨fun _ => h_arg3, by rw [h_arg3]; exact hin _ _ _ (by decide)⟩
      iexists X_arg3
      isplitr
      · ipureintro; rfl
      iexact HX_arg3
    isplitl [HX_arg4]
    · iexists ((st0_3 t).view.read (Elt F) X_arg4)
      isplitr
      · ipureintro; exact ⟨fun _ => h_arg4, by rw [h_arg4]; exact hin _ _ _ (by decide)⟩
      iexists X_arg4
      isplitr
      · ipureintro; rfl
      iexact HX_arg4
    isplitl [HX_arg5]
    · iexists ((st0_4 t).view.read (Elt F) X_arg5)
      isplitr
      · ipureintro; exact ⟨fun _ => h_arg5, by rw [h_arg5]; exact hin _ _ _ (by decide)⟩
      iexists X_arg5
      isplitr
      · ipureintro; rfl
      iexact HX_arg5
    isplitl [HX_arg6]
    · iexists ((st0_5 t).view.read (Elt F) X_arg6)
      isplitr
      · ipureintro; exact ⟨fun _ => h_arg6, by rw [h_arg6]; exact hin _ _ _ (by decide)⟩
      iexists X_arg6
      isplitr
      · ipureintro; rfl
      iexact HX_arg6
    isplitl [HZ_arg7]
    · iexists ((st0_6 t).view.read (Elt F) Z_arg7)
      isplitr
      · ipureintro; exact ⟨fun h => absurd h (by decide), hk.1⟩
      iexists Z_arg7
      isplitr
      · ipureintro; rfl
      iexact HZ_arg7
    isplitl [HZ_arg8]
    · iexists ((st0_7 t).view.read (Elt F) Z_arg8)
      isplitr
      · ipureintro; exact ⟨fun h => absurd h (by decide), hk.2.1⟩
      iexists Z_arg8
      isplitr
      · ipureintro; rfl
      iexact HZ_arg8
    isplitl [HZ_arg9]
    · iexists ((st0_8 t).view.read (Elt F) Z_arg9)
      isplitr
      · ipureintro; exact ⟨fun h => absurd h (by decide), hk.2.2.1⟩
      iexists Z_arg9
      isplitr
      · ipureintro; rfl
      iexact HZ_arg9
    iexists ((st0_9 t).view.read (Elt F) Z_arg10)
    isplitr
    · ipureintro; exact ⟨fun h => absurd h (by decide), hk.2.2.2.1⟩
    iexists Z_arg10
    isplitr
    · ipureintro; rfl
    iexact HZ_arg10

/-- The scratch at anything is the invariant's scratch at some contents. -/
theorem scr_eq (c : Dev nD) :
    (Pipeline.ΦA (U := UR sig nD τ) (Val := Elt F) cfg0.spec c : sProp 𝕄G)
      = iprop(((∃ S : BufTy.Contents (Elt F) (Memref.whole cc0_scratch0 : Memref sig .tc .vmem _ _).view.ty, ((Memref.whole cc0_scratch0 : Memref sig .tc .vmem _ _).view.loc (c : Thread nD τ) ↦[(Memref.whole cc0_scratch0 : Memref sig .tc .vmem _ _).view.set]{fullShare} S)) ∗ (∃ S : BufTy.Contents (Elt F) (Memref.whole cc0_scratch1 : Memref sig .tc .vmem _ _).view.ty, ((Memref.whole cc0_scratch1 : Memref sig .tc .vmem _ _).view.loc (c : Thread nD τ) ↦[(Memref.whole cc0_scratch1 : Memref sig .tc .vmem _ _).view.set]{fullShare} S)) ∗ (∃ S : BufTy.Contents (Elt F) (Memref.whole cc0_scratch2 : Memref sig .tc .vmem _ _).view.ty, ((Memref.whole cc0_scratch2 : Memref sig .tc .vmem _ _).view.loc (c : Thread nD τ) ↦[(Memref.whole cc0_scratch2 : Memref sig .tc .vmem _ _).view.set]{fullShare} S)) ∗ (∃ S : BufTy.Contents (Elt F) (Memref.whole cc0_scratch3 : Memref sig .tc .vmem _ _).view.ty, ((Memref.whole cc0_scratch3 : Memref sig .tc .vmem _ _).view.loc (c : Thread nD τ) ↦[(Memref.whole cc0_scratch3 : Memref sig .tc .vmem _ _).view.set]{fullShare} S)) ∗ (∃ S : BufTy.Contents (Elt F) (Memref.whole cc0_scratch4 : Memref sig .tc .vmem _ _).view.ty, ((Memref.whole cc0_scratch4 : Memref sig .tc .vmem _ _).view.loc (c : Thread nD τ) ↦[(Memref.whole cc0_scratch4 : Memref sig .tc .vmem _ _).view.set]{fullShare} S)) ∗ (∃ S : BufTy.Contents (Elt F) (Memref.whole cc0_scratch5 : Memref sig .tc .vmem _ _).view.ty, ((Memref.whole cc0_scratch5 : Memref sig .tc .vmem _ _).view.loc (c : Thread nD τ) ↦[(Memref.whole cc0_scratch5 : Memref sig .tc .vmem _ _).view.set]{fullShare} S)) ∗ (∃ S : BufTy.Contents (Elt F) (Memref.whole cc0_scratch6 : Memref sig .tc .vmem _ _).view.ty, ((Memref.whole cc0_scratch6 : Memref sig .tc .vmem _ _).view.loc (c : Thread nD τ) ↦[(Memref.whole cc0_scratch6 : Memref sig .tc .vmem _ _).view.set]{fullShare} S)) ∗ (∃ S : BufTy.Contents (Elt F) (Memref.whole cc0_scratch7 : Memref sig .tc .vmem _ _).view.ty, ((Memref.whole cc0_scratch7 : Memref sig .tc .vmem _ _).view.loc (c : Thread nD τ) ↦[(Memref.whole cc0_scratch7 : Memref sig .tc .vmem _ _).view.set]{fullShare} S))) ∗ ∃ r, prngReg c r) := by
  unfold Pipeline.ΦA
  rw [show cfg0.spec = spec0 from rfl, scopedRest0_eq]
  simp only [Memref.whole, View.set_whole]

set_option backward.isDefEq.respectTransparency.types false in
/-- Every weakly fair execution of @main ends, every array satisfies what the write-backs of outputs satisfying `aft` leave, and
    every semaphore is at zero. -/
theorem run_main (hok : ∀ c, StepOk m Inv aft c) (hin : ∀ c w t Y, w.val < 6 → aft c w t Y Y) (h0 : ∀ c S_arg11 S_arg12 S_arg13 S_arg14 S_arg15 S_arg16 S_arg17 S_arg18, Inv c 0 S_arg11 S_arg12 S_arg13 S_arg14 S_arg15 S_arg16 S_arg17 S_arg18) :
    θ_run defs (onTc (τ := τ) (main (F := F))) (s₀ m ρ)
      (fun r => Pipeline.RDat.FramePost (cfgs 0) (rdat m Inv aft) (V m) r ∧ r.2.sem = fun _ => 0) :=
  Pipeline.RDat.θ_run_frame_track (Q' := _) cfgs (0 : Fin 1) launch0 defs₀ Variants.none (rdat m Inv aft) m ρ main
    (hbody := fun c => body_obligation m Inv aft c (hok c) (hin c)) (hshare := fun c w => (by unfold Pipeline.RDat.share; split <;> rfl))
    (howed := fun _ _ => rfl) (V := V m) (hmain := hmain m Variants.none) (hA := fun _ _ => rfl)
    (hin := fun c => by
      rw [show (cfgs 0).spec = cfg0.spec from rfl, scr_eq]
      rw [show (rdat m Inv aft c).Φ 0 = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c 0 S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl]
      unfold scrPts
      iintro ⟨⟨⟨%S_arg11, H_arg11⟩, ⟨%S_arg12, H_arg12⟩, ⟨%S_arg13, H_arg13⟩, ⟨%S_arg14, H_arg14⟩, ⟨%S_arg15, H_arg15⟩, ⟨%S_arg16, H_arg16⟩, ⟨%S_arg17, H_arg17⟩, ⟨%S_arg18, H_arg18⟩⟩, Hg⟩
      isplitr [Hg]
      · iexists S_arg11, S_arg12, S_arg13, S_arg14, S_arg15, S_arg16, S_arg17, S_arg18
        isplitr
        · ipureintro; exact h0 c S_arg11 S_arg12 S_arg13 S_arg14 S_arg15 S_arg16 S_arg17 S_arg18
        isplitl [H_arg11]; · iexact H_arg11
        isplitl [H_arg12]; · iexact H_arg12
        isplitl [H_arg13]; · iexact H_arg13
        isplitl [H_arg14]; · iexact H_arg14
        isplitl [H_arg15]; · iexact H_arg15
        isplitl [H_arg16]; · iexact H_arg16
        isplitl [H_arg17]; · iexact H_arg17
        iexact H_arg18
      · iexact Hg)
    (hout := fun c => by
      rw [show (cfgs 0).spec = cfg0.spec from rfl, scr_eq]
      rw [show (rdat m Inv aft c).Φ (Fin.last _) = iprop((∃ (S_arg11 : BufTy.Contents (Elt F) (Memref.whole cc0_scratch0 : Memref sig .tc .vmem _ _).view.ty) (S_arg12 : BufTy.Contents (Elt F) (Memref.whole cc0_scratch1 : Memref sig .tc .vmem _ _).view.ty) (S_arg13 : BufTy.Contents (Elt F) (Memref.whole cc0_scratch2 : Memref sig .tc .vmem _ _).view.ty) (S_arg14 : BufTy.Contents (Elt F) (Memref.whole cc0_scratch3 : Memref sig .tc .vmem _ _).view.ty) (S_arg15 : BufTy.Contents (Elt F) (Memref.whole cc0_scratch4 : Memref sig .tc .vmem _ _).view.ty) (S_arg16 : BufTy.Contents (Elt F) (Memref.whole cc0_scratch5 : Memref sig .tc .vmem _ _).view.ty) (S_arg17 : BufTy.Contents (Elt F) (Memref.whole cc0_scratch6 : Memref sig .tc .vmem _ _).view.ty) (S_arg18 : BufTy.Contents (Elt F) (Memref.whole cc0_scratch7 : Memref sig .tc .vmem _ _).view.ty), ⌜Inv c (Fin.last cfg0.N).val S_arg11 S_arg12 S_arg13 S_arg14 S_arg15 S_arg16 S_arg17 S_arg18⌝ ∗ scrPts c S_arg11 S_arg12 S_arg13 S_arg14 S_arg15 S_arg16 S_arg17 S_arg18) ∗ ∃ r, prngReg c r) from rfl]
      unfold scrPts
      iintro ⟨⟨%S_arg11, %S_arg12, %S_arg13, %S_arg14, %S_arg15, %S_arg16, %S_arg17, %S_arg18, %hI, H_arg11, H_arg12, H_arg13, H_arg14, H_arg15, H_arg16, H_arg17, H_arg18⟩, Hg⟩
      isplitr [Hg]
      · isplitl [H_arg11]; · iexists S_arg11; iexact H_arg11
        isplitl [H_arg12]; · iexists S_arg12; iexact H_arg12
        isplitl [H_arg13]; · iexists S_arg13; iexact H_arg13
        isplitl [H_arg14]; · iexists S_arg14; iexact H_arg14
        isplitl [H_arg15]; · iexists S_arg15; iexact H_arg15
        isplitl [H_arg16]; · iexists S_arg16; iexact H_arg16
        isplitl [H_arg17]; · iexists S_arg17; iexact H_arg17
        iexists S_arg18; iexact H_arg18
      · iexact Hg)

variable {m Inv aft}

/-- After the run each argument array is as at the launch. -/
theorem args_of_framePost {r : PUnit × MemSt nD τ sig (Elt F)} (h : Pipeline.RDat.FramePost (cfgs 0) (rdat m Inv aft) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    (Pipeline.RDat.FramePost.arr_in h c 0 rfl).trans (V_main_arg1 m c),
    (Pipeline.RDat.FramePost.arr_in h c 2 rfl).trans (V_main_arg2 m c),
    (Pipeline.RDat.FramePost.arr_in h c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

variable (m)

/-- THE FRAME: @main runs, its arguments end as they began, every semaphore is at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => args_of_framePost h.1 c, h.2⟩)
    (run_main m ρ (fun _ _ _ _ _ _ _ _ _ _ => True) (fun _ _ _ _ _ => True)
      (fun c t Y hY _ _ _ _ _ _ _ _ _ _ _ _ _ _ _ _ _ _ _ _ _ _ _ _ _ _ _ _ _ _ _ _ _ _ _ _ _ _ _ _ _ _ => ⟨trivial, trivial, trivial, trivial, trivial⟩)
      (fun _ _ _ _ _ => trivial) (fun _ _ _ _ _ _ _ _ _ => trivial))

end Cert.Proof.KernelIdeal
end
-- ==== Proof.Value.Spec.lean ====
module

public import Idealize.ShloMosaic.Lib.ValueIdx
public import Idealize.ShloMosaic.Lib.IdealHost
public import Mathlib.Algebra.BigOperators.Intervals
public import Mathlib.Tactic.FieldSimp
public import Mathlib.Tactic.Linarith
public import Mathlib.Tactic.Positivity
public import Mathlib.Tactic.Ring

/-!
# What the kernel computes, over the real numbers

The LayerNorm whose statistics four ranks share, and the quantisation of its blocks of 32 results, as
functions of real arguments; and the identities by which the kernel computes them another way.
-/

@[expose] public section
noncomputable section
namespace Cert.Proof.Value
open Finset

/-- The arguments as real numbers: token `n`, channel `ch`, peer `j`, row `b` and column `s` of the tokens. -/
structure Args where
  x : ℕ → ℕ → ℝ
  cnt : ℕ → ℝ
  pm : ℕ → ℕ → ℕ → ℝ
  pv : ℕ → ℕ → ℕ → ℝ
  g : ℕ → ℝ
  b : ℕ → ℝ
  hcnt : ∀ j, 0 ≤ cnt j
  hpv : ∀ j r s, 0 ≤ pv j r s

/-- The constant `1e-5` as a float32. -/
def eps : ℝ := 10995116 / 2 ^ 40
/-- The constant `1 / 448` as a float32. -/
def c448 : ℝ := 9586981 / 2 ^ 32

theorem eps_pos : 0 < eps := by unfold eps; norm_num
theorem c448_pos : 0 < c448 := by unfold c448; norm_num

/-- One step of the merge: the mean of two groups together. -/
def mergeMean (na ma nb mb : ℝ) : ℝ := ma + (mb - ma) * (nb / (na + nb))
/-- One step of the merge: the sum of squared deviations of two groups together. -/
def mergeM2 (na ma va nb mb vb : ℝ) : ℝ := va + vb + (mb - ma) * (mb - ma) * (na * nb / (na + nb))

namespace Args
variable (A : Args)

/-- This rank's mean of token `n`. -/
def meanL (n : ℕ) : ℝ := (∑ ch ∈ range 3584, A.x n ch) / 3584
/-- This rank's sum of squared deviations of token `n`. -/
def m2L (n : ℕ) : ℝ := ∑ ch ∈ range 3584, (A.x n ch - A.meanL n) * (A.x n ch - A.meanL n)

def n1 : ℝ := A.cnt 0 + 3584
def n2 : ℝ := A.n1 + A.cnt 1
def n3 : ℝ := A.n2 + A.cnt 2

def mean1 (n : ℕ) : ℝ := mergeMean (A.cnt 0) (A.pm 0 (n / 8192) (n % 8192)) 3584 (A.meanL n)
def mean2 (n : ℕ) : ℝ := mergeMean A.n1 (A.mean1 n) (A.cnt 1) (A.pm 1 (n / 8192) (n % 8192))
/-- The mean of token `n` over all ranks. -/
def mean (n : ℕ) : ℝ := mergeMean A.n2 (A.mean2 n) (A.cnt 2) (A.pm 2 (n / 8192) (n % 8192))

def v1 (n : ℕ) : ℝ :=
  mergeM2 (A.cnt 0) (A.pm 0 (n / 8192) (n % 8192)) (A.pv 0 (n / 8192) (n % 8192)) 3584 (A.meanL n) (A.m2L n)
def v2 (n : ℕ) : ℝ :=
  mergeM2 A.n1 (A.mean1 n) (A.v1 n) (A.cnt 1) (A.pm 1 (n / 8192) (n % 8192)) (A.pv 1 (n / 8192) (n % 8192))
def v3 (n : ℕ) : ℝ :=
  mergeM2 A.n2 (A.mean2 n) (A.v2 n) (A.cnt 2) (A.pm 2 (n / 8192) (n % 8192)) (A.pv 2 (n / 8192) (n % 8192))
/-- The variance of token `n` over all ranks, with the constant added. -/
def var (n : ℕ) : ℝ := A.v3 n / A.n3 + eps
/-- The reciprocal of the standard deviation. -/
def rstd (n : ℕ) : ℝ := (Real.sqrt (A.var n))⁻¹

/-- The normalised value. -/
def y (n ch : ℕ) : ℝ := (A.x n ch - A.mean n) * A.rstd n * A.g ch + A.b ch

/-- What the kernel multiplies with `rstd`. -/
def wh (n ch : ℕ) : ℝ := A.x n ch * A.g ch + (A.g ch * (-A.mean n) + A.b ch * (A.var n * A.rstd n))

theorem n1_pos : 0 < A.n1 := by unfold n1; have := A.hcnt 0; linarith
theorem n2_pos : 0 < A.n2 := by unfold n2; have := A.hcnt 1; have := A.n1_pos; linarith
theorem n3_pos : 0 < A.n3 := by unfold n3; have := A.hcnt 2; have := A.n2_pos; linarith

theorem m2L_nonneg (n : ℕ) : 0 ≤ A.m2L n := Finset.sum_nonneg fun _ _ => mul_self_nonneg _

theorem mergeM2_nonneg {na ma va nb mb vb : ℝ} (hna : 0 ≤ na) (hnb : 0 ≤ nb) (hva : 0 ≤ va) (hvb : 0 ≤ vb) :
    0 ≤ mergeM2 na ma va nb mb vb :=
  add_nonneg (add_nonneg hva hvb) (mul_nonneg (mul_self_nonneg _) (div_nonneg (mul_nonneg hna hnb) (add_nonneg hna hnb)))

theorem v3_nonneg (n : ℕ) : 0 ≤ A.v3 n :=
  mergeM2_nonneg A.n2_pos.le (A.hcnt 2)
    (mergeM2_nonneg A.n1_pos.le (A.hcnt 1)
      (mergeM2_nonneg (A.hcnt 0) (by norm_num) (A.hpv 0 _ _) (A.m2L_nonneg n)) (A.hpv 1 _ _)) (A.hpv 2 _ _)

theorem var_pos (n : ℕ) : 0 < A.var n :=
  add_pos_of_nonneg_of_pos (div_nonneg (A.v3_nonneg n) A.n3_pos.le) eps_pos

theorem rstd_pos (n : ℕ) : 0 < A.rstd n := inv_pos.mpr (Real.sqrt_pos.mpr (A.var_pos n))

theorem var_mul (n : ℕ) : A.var n * A.rstd n * A.rstd n = 1 := by
  have h := Real.mul_self_sqrt (A.var_pos n).le
  have h0 : Real.sqrt (A.var n) ≠ 0 := (Real.sqrt_pos.mpr (A.var_pos n)).ne'
  unfold rstd
  calc A.var n * (Real.sqrt (A.var n))⁻¹ * (Real.sqrt (A.var n))⁻¹
      = (Real.sqrt (A.var n) * Real.sqrt (A.var n)) * (Real.sqrt (A.var n))⁻¹ * (Real.sqrt (A.var n))⁻¹ := by rw [h]
    _ = 1 := by field_simp

/-- The kernel's factorisation gives the normalised value. -/
theorem wh_mul (n ch : ℕ) : A.wh n ch * A.rstd n = A.y n ch := by
  have h := A.var_mul n
  unfold wh y
  linear_combination A.b ch * h

/-- The sum of squared deviations in one pass. -/
theorem onePass (n : ℕ) :
    (∑ ch ∈ range 3584, A.x n ch * A.x n ch) - (∑ ch ∈ range 3584, A.x n ch) * A.meanL n = A.m2L n := by
  have h : ∀ ch, (A.x n ch - A.meanL n) * (A.x n ch - A.meanL n)
      = A.x n ch * A.x n ch - 2 * A.meanL n * A.x n ch + A.meanL n * A.meanL n := fun ch => by ring
  have hm : (∑ ch ∈ range 3584, A.x n ch) = 3584 * A.meanL n := by unfold meanL; ring
  unfold m2L
  simp only [h, Finset.sum_add_distrib, Finset.sum_sub_distrib, ← Finset.mul_sum, Finset.sum_const, Finset.card_range,
    nsmul_eq_mul, hm]
  push_cast
  ring

end Args

/-- The greatest magnitude of the 32 values `f 0, …, f 31`. -/
def amax (f : ℕ → ℝ) : ℝ := (range 32).sup' (Finset.nonempty_range_iff.mpr (by norm_num)) fun j => |f j|

theorem amax_le {f : ℕ → ℝ} {c : ℝ} : amax f ≤ c ↔ ∀ j, j < 32 → |f j| ≤ c := by
  unfold amax; rw [Finset.sup'_le_iff]; simp

theorem amax_mul (f : ℕ → ℝ) {r : ℝ} (hr : 0 < r) : amax (fun j => f j * r) = amax f * r := by
  refine eq_of_forall_ge_iff fun c => ?_
  rw [amax_le, ← le_div_iff₀ hr, amax_le]
  refine forall_congr' fun j => imp_congr_right fun _ => ?_
  rw [abs_mul, abs_of_pos hr, le_div_iff₀ hr]

theorem amax_nonneg (f : ℕ → ℝ) : 0 ≤ amax f :=
  (abs_nonneg (f 0)).trans (amax_le.mp le_rfl 0 (by norm_num))

/-- The threshold of the exponent field `k`: zero, the normal powers of two, and above them infinity. -/
def thr (k : ℕ) : EReal := if k = 0 then 0 else if k < 255 then (((2 : ℝ) ^ ((k : ℤ) - 127) : ℝ) : EReal) else ⊤

theorem thr_mono : Monotone thr := by
  intro a b hab
  unfold thr
  split_ifs <;> first
    | exact le_rfl | exact le_top | (exfalso; omega)
    | (exact EReal.coe_nonneg.mpr (zpow_nonneg (by norm_num) _))
    | (exact EReal.coe_le_coe_iff.mpr (zpow_le_zpow_right₀ (by norm_num) (by omega)))

/-- How many of the thresholds of the fields 1 to 246 are at most `u`. -/
def nle (u : ℝ) : ℕ := ((range 246).filter fun i => thr (i + 1) ≤ (u : EReal)).card

/-- A step of the binary search for the exponent field. -/
def gstep (u : EReal) (s f : ℕ) : ℕ := if u < thr (f + s) then f else f + s

/-- The binary search for the exponent field. -/
def greedy (u : EReal) : ℕ :=
  gstep u 1 (gstep u 2 (gstep u 4 (gstep u 8 (gstep u 16 (gstep u 32 (gstep u 64 (gstep u 128 0)))))))

theorem gstep_inv {u : EReal} {s f : ℕ} (h : thr f ≤ u ∧ u < thr (f + 2 * s)) :
    thr (gstep u s f) ≤ u ∧ u < thr (gstep u s f + s) := by
  unfold gstep
  split_ifs with hc
  · exact ⟨h.1, hc⟩
  · refine ⟨not_lt.mp hc, ?_⟩
    rw [add_assoc, ← two_mul]
    exact h.2

theorem greedy_inv {u : ℝ} (hu : 0 ≤ u) : thr (greedy u) ≤ u ∧ (u : EReal) < thr (greedy u + 1) := by
  have h0 : thr 0 ≤ (u : EReal) ∧ (u : EReal) < thr (0 + 2 * 128) := by
    refine ⟨by simpa [thr] using hu, ?_⟩
    simp [thr]
  exact gstep_inv (gstep_inv (gstep_inv (gstep_inv (gstep_inv (gstep_inv (gstep_inv (gstep_inv h0)))))))

/-- The search, cut off at 246, counts the thresholds that are at most `u`. -/
theorem min_greedy {u : ℝ} (hu : 0 ≤ u) : min (greedy u) 246 = nle u := by
  have h := greedy_inv hu
  have : ((range 246).filter fun i => thr (i + 1) ≤ (u : EReal)) = range (min (greedy u) 246) := by
    ext i
    simp only [mem_filter, mem_range]
    constructor
    · rintro ⟨hi, hle⟩
      have : i + 1 ≤ greedy u := by
        by_contra hc
        exact absurd (h.2.trans_le ((thr_mono (by omega)).trans hle)) (lt_irrefl _)
      omega
    · intro hi
      exact ⟨by omega, (thr_mono (by omega)).trans h.1⟩
  rw [nle, this, card_range]

theorem nle_le (u : ℝ) : nle u ≤ 246 := by
  unfold nle
  exact (card_filter_le _ _).trans (by simp)

/-- The exponent of a block whose field count is `k`. -/
def expo (k : ℕ) : ℤ := if k = 0 then 0 else (k : ℤ) - 126

namespace Args
variable (A : Args)

/-- The greatest magnitude of block `k` of token `n`, over 448. -/
def u (n k : ℕ) : ℝ := amax (fun j => A.y n (32 * k + j)) * c448
/-- The exponent of block `k` of token `n`. -/
def e (n k : ℕ) : ℤ := expo (nle (A.u n k))
/-- The code of channel `ch` of token `n`. -/
def code (n ch : ℕ) : ℝ := min (max (-448) (A.y n ch * (2 : ℝ) ^ (-(A.e n (ch / 32))))) 448

theorem u_nonneg (n k : ℕ) : 0 ≤ A.u n k := mul_nonneg (amax_nonneg _) c448_pos.le

theorem u_eq (n k : ℕ) : amax (fun j => A.wh n (32 * k + j)) * A.rstd n * c448 = A.u n k := by
  rw [← amax_mul _ (A.rstd_pos n)]
  unfold u
  simp only [wh_mul]

end Args
end Cert.Proof.Value
end
-- ==== Proof.Value.Ops.lean ====
module

public import proofs.«01_k».proof.Proof.Value.Spec

/-!
# The operations at extended reals, on real values

Each operation of the kernel and of the reference, on arguments that are real numbers, is the operation on the
reals; and the kernel's search for the exponent is the count of thresholds of `Spec`.
-/

@[expose] public section
noncomputable section
namespace Cert.Proof.Value
open Idealize.ShloMosaic Finset

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_coe {a b : ℝ} (hb : b ≠ 0) : Ideal.div (a : EReal) (b : EReal) = ((a / b : ℝ) : EReal) := by
  unfold Ideal.div
  rw [if_neg (by simpa using hb), ← EReal.coe_inv, ← EReal.coe_mul, div_eq_mul_inv]

theorem rsqrt_coe {a : ℝ} (ha : 0 < a) : Ideal.rsqrt (a : EReal) = (((Real.sqrt a)⁻¹ : ℝ) : EReal) := by
  show (if a < 0 then (⊥ : EReal) else if a = 0 then ⊤ else ((Real.sqrt a)⁻¹ : ℝ)) = _
  rw [if_neg (not_lt.mpr ha.le), if_neg ha.ne']

theorem abs_coe (a : ℝ) : max (a : EReal) (-(a : EReal)) = ((|a| : ℝ) : EReal) := by
  rw [← EReal.coe_neg, ← EReal.coe_strictMono.monotone.map_max]; rfl

theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem neg_coe (a : ℝ) : -(a : EReal) = ((-a : ℝ) : EReal) := (EReal.coe_neg a).symm
theorem max_coe (a b : ℝ) : max (a : EReal) (b : EReal) = ((max a b : ℝ) : EReal) :=
  (EReal.coe_strictMono.monotone.map_max).symm
theorem min_coe (a b : ℝ) : min (a : EReal) (b : EReal) = ((min a b : ℝ) : EReal) :=
  (EReal.coe_strictMono.monotone.map_min).symm

theorem bits_eps : Ideal.ofBits .f32 0x3727C5AC#32 = ((eps : ℝ) : EReal) := by
  simp [Ideal.ofBits, Ideal.ieee, -EReal.coe_mul, eps]; norm_num
theorem bits_c448 : Ideal.ofBits .f32 0x3B124925#32 = ((c448 : ℝ) : EReal) := by
  simp [Ideal.ofBits, Ideal.ieee, -EReal.coe_mul, c448]; norm_num
theorem bits_3584 : Ideal.ofBits .f32 0x45600000#32 = ((3584 : ℝ) : EReal) := by
  simp [Ideal.ofBits, Ideal.ieee, -EReal.coe_mul]; norm_num
theorem bits_448 : Ideal.ofBits .f32 0x43E00000#32 = ((448 : ℝ) : EReal) := by
  simp [Ideal.ofBits, Ideal.ieee, -EReal.coe_mul]; norm_num
theorem bits_neg448 : Ideal.ofBits .f32 0xC3E00000#32 = ((-448 : ℝ) : EReal) := by
  simp [Ideal.ofBits, Ideal.ieee, -EReal.coe_mul, -EReal.coe_neg]; norm_num
theorem bits_two : Ideal.ofBits .f32 0x40000000#32 = ((2 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num
theorem bits_zero : Ideal.ofBits .f32 0x00000000#32 = ((0 : ℝ) : EReal) := by simp
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

theorem word_shift {k : ℕ} (hk : k < 256) : (IntOp.shli .vector (BitVec.ofNat 32 k) 23#32).toNat = k * 8388608 := by
  simp only [IntOp.shli, BitVec.toNat_ofNat]
  rw [if_pos (by decide), BitVec.shiftLeft_eq', BitVec.toNat_shiftLeft, BitVec.toNat_ofNat, Nat.shiftLeft_eq]
  norm_num
  omega

theorem ieee_field (b : BitVec 32) {k : ℕ} (hk : k < 256) (hb : b.toNat = k * 8388608) : Ideal.ieee 8 23 b = thr k := by
  have hex : (b.extractLsb' 23 8).toNat = k := by
    rw [BitVec.extractLsb'_toNat, hb, Nat.shiftRight_eq_div_pow]; norm_num; omega
  have hfr : (b.extractLsb' 0 23).toNat = 0 := by
    rw [BitVec.extractLsb'_toNat, hb, Nat.shiftRight_eq_div_pow]; norm_num
  have hs : b.extractLsb' (8 + 23) 1 = 0#1 := by
    apply BitVec.eq_of_toNat_eq
    rw [BitVec.extractLsb'_toNat, hb, Nat.shiftRight_eq_div_pow]; norm_num; omega
  unfold Ideal.ieee thr
  rw [hex, hfr, hs]
  by_cases h1 : k = 0
  · subst h1; simp
  by_cases h2 : k < 255
  · simp only [h1, h2, if_false, if_true, show ¬ k = 2 ^ 8 - 1 by omega]
    congr 1
    rw [show ((k : ℤ) - (2 ^ (8 - 1) - 1) - (23 : ℕ)) = ((k : ℤ) - 127) - 23 by norm_num, zpow_sub₀ (by norm_num)]
    norm_num
    ring
  · simp [h1, h2, show k = 255 by omega]

/-- The bits of `k` shifted to the exponent field are the threshold `thr k`. -/
theorem bits_thr {k : ℕ} (hk : k < 256) :
    Ideal.ofBits .f32 (IntOp.shli .vector (BitVec.ofNat 32 k) 23#32) = thr k :=
  ieee_field _ hk (word_shift hk)

/-! ## The kernel's exponent of a block -/

/-- A step of the kernel's search. -/
def kstep (u : EReal) (s f : BitVec 32) : BitVec 32 :=
  Scalar.select (Ideal.cmp .olt u (Ideal.ofBits .f32 (IntOp.shli .vector (IntOp.addi f s) 23#32))) f (IntOp.addi f s)

/-- The kernel's search. -/
def kfield (u : EReal) : BitVec 32 :=
  kstep u 1#32 (kstep u 2#32 (kstep u 4#32 (kstep u 8#32 (kstep u 16#32 (kstep u 32#32 (kstep u 64#32 (kstep u 128#32 0#32)))))))

/-- The kernel's exponent from the field that it found. -/
def kexp (f : BitVec 32) : BitVec 32 :=
  Scalar.select (IntOp.cmpi .slt (IntOp.addi (IntOp.minsi f 246#32) 9#32) 10#32) 0#32
    (IntOp.subi (IntOp.addi (IntOp.minsi f 246#32) 9#32) 135#32)

theorem kstep_eq (u : EReal) {s f : ℕ} (h : f + s < 256) :
    kstep u (BitVec.ofNat 32 s) (BitVec.ofNat 32 f) = BitVec.ofNat 32 (gstep u s f) := by
  unfold kstep gstep IntOp.addi
  rw [← BitVec.ofNat_add, bits_thr h]
  unfold Ideal.cmp Scalar.select
  by_cases hc : u < thr (f + s) <;> simp [hc]

theorem gstep_le (u : EReal) (s f : ℕ) : gstep u s f ≤ f + s := by unfold gstep; split_ifs <;> omega

theorem kfield_eq (u : EReal) : kfield u = BitVec.ofNat 32 (greedy u) ∧ greedy u < 256 := by
  unfold kfield greedy
  have h1 := gstep_le u 128 0
  have h2 := gstep_le u 64 (gstep u 128 0)
  have h3 := gstep_le u 32 (gstep u 64 (gstep u 128 0))
  have h4 := gstep_le u 16 (gstep u 32 (gstep u 64 (gstep u 128 0)))
  have h5 := gstep_le u 8 (gstep u 16 (gstep u 32 (gstep u 64 (gstep u 128 0))))
  have h6 := gstep_le u 4 (gstep u 8 (gstep u 16 (gstep u 32 (gstep u 64 (gstep u 128 0)))))
  have h7 := gstep_le u 2 (gstep u 4 (gstep u 8 (gstep u 16 (gstep u 32 (gstep u 64 (gstep u 128 0))))))
  have h8 := gstep_le u 1 (gstep u 2 (gstep u 4 (gstep u 8 (gstep u 16 (gstep u 32 (gstep u 64 (gstep u 128 0)))))))
  refine ⟨?_, by omega⟩
  rw [kstep_eq u (s := 128) (f := 0) (by omega), kstep_eq u (by omega), kstep_eq u (by omega), kstep_eq u (by omega),
    kstep_eq u (by omega), kstep_eq u (by omega), kstep_eq u (by omega), kstep_eq u (by omega)]

theorem kexp_ofNat : ∀ k : Fin 256, kexp (BitVec.ofNat 32 k) = BitVec.ofInt 32 (expo (min k 246)) := by
  decide +kernel

/-- The kernel's exponent is that of the count. -/
theorem kexp_eq {u : ℝ} (hu : 0 ≤ u) : kexp (kfield u) = BitVec.ofInt 32 (expo (nle u)) := by
  obtain ⟨h, hlt⟩ := kfield_eq (u : EReal)
  rw [h, kexp_ofNat ⟨_, hlt⟩, ← min_greedy hu]

theorem kscale_ofNat : ∀ k : Fin 247, IntOp.subi 127#32 (BitVec.ofInt 32 (expo k)) = BitVec.ofNat 32 (127 - expo k).toNat := by
  decide +kernel

theorem expo_le {k : ℕ} (hk : k ≤ 246) : -125 ≤ expo k ∧ expo k ≤ 120 := by unfold expo; split_ifs <;> omega

/-- The kernel's scale of a block is the power of two of the negated exponent. -/
theorem kscale_eq {k : ℕ} (hk : k ≤ 246) :
    Ideal.ofBits .f32 (IntOp.shli .vector (IntOp.subi 127#32 (BitVec.ofInt 32 (expo k))) 23#32)
      = (((2 : ℝ) ^ (-expo k) : ℝ) : EReal) := by
  have h := expo_le hk
  rw [kscale_ofNat ⟨k, by omega⟩, bits_thr (by show (127 - expo k).toNat < 256; omega)]
  show thr (127 - expo k).toNat = _
  unfold thr
  rw [if_neg (by omega), if_pos (by omega)]
  congr 2
  omega

end Cert.Proof.Value
end
-- ==== Proof.Value.Tile.lean ====
module

public import proofs.«01_k».proof.Proof.Value.Ops
public import proofs.«01_k».proof.Proof.Gen.KernelIdeal.Skeleton
public import Idealize.ShloMosaic.Lib.ValueLayout
public import Idealize.ShloMosaic.Lib.Pipeline.Value

/-!
# Half a tile of the kernel, at real values

A trip of the main loop quantises two halves of 256 channels by 128 tokens. This module reads what it computes of one:
the values, the greatest magnitude of each block of 32, the exponent, and the codes.
-/

@[expose] public section
set_option maxRecDepth 8192
noncomputable section
namespace Cert.Proof.Value
open Cert.KernelIdeal Cert.KernelIdeal.Gen
open Idealize.ShloMosaic Idealize.ShloMosaic.ValueIdx Finset

theorem coe_amax_le {f : ℕ → ℝ} {c : EReal} : ((amax f : ℝ) : EReal) ≤ c ↔ ∀ j, j < 32 → ((|f j| : ℝ) : EReal) ≤ c := by
  constructor
  · intro h j hj
    exact (EReal.coe_le_coe_iff.mpr (amax_le.mp le_rfl j hj)).trans h
  · intro h
    obtain ⟨j, hj, hm⟩ := Finset.exists_mem_eq_sup' (s := range 32) (Finset.nonempty_range_iff.mpr (by norm_num)) fun j => |f j|
    rw [show amax f = |f j| from hm]
    exact h j (Finset.mem_range.mp hj)

/-- The greatest magnitude over the four groups of eight rows, of each row of a group. -/
def maxOf (wh : FVec Ideal S256x128 .f32) : FVec Ideal S8x8x128 .f32 :=
  multiReduction .maximumf [1] S8x8x128 (absf (shapeCast S8x4x8x128 wh shapeCasts_S256x128_S8x4x8x128)) 0xFF800000#32
    reduces_S8x4x8x128_S8x8x128 (.inl rfl) rfl

theorem fold_max_le {ι : Type*} (s : Finset ι) (f : ι → EReal) (c : EReal) :
    s.fold max ⊥ f ≤ c ↔ ∀ i ∈ s, f i ≤ c := by
  rw [Finset.fold_max_le]; simp

theorem maxOf_le (wh : FVec Ideal S256x128 .f32) {W : ℕ → ℕ → ℝ} (hW : ∀ y : S256x128.Idx, wh y = ((W (y 0) (y 1) : ℝ) : EReal))
    (g s : Fin 8) (l : Fin 128) (c : EReal) :
    maxOf wh (ix3 g s l) ≤ c ↔ ∀ j : Fin 4, ((|W (32 * g + 8 * j + s) l| : ℝ) : EReal) ≤ c := by
  have e : maxOf wh (ix3 g s l) = (Finset.univ.fold max (⊥ : EReal)
      (absf (shapeCast S8x4x8x128 wh shapeCasts_S256x128_S8x4x8x128) ∘ (reduces_S8x4x8x128_S8x8x128).lift (ix3 g s l))) :=
    (Ideal.multiReduction_maximumf_single _ _ _ _ _ _).trans (by rw [show (FloatOps.ofBits .f32 0xFF800000#32 : Ideal .f32) = (⊥ : EReal) from bits_bot])
  rw [e, fold_max_le]
  simp only [Finset.mem_univ, forall_true_left]
  refine forall_congr' fun (j : Fin 4) => ?_
  have : (absf (shapeCast S8x4x8x128 wh shapeCasts_S256x128_S8x4x8x128) ∘
      (reduces_S8x4x8x128_S8x8x128).lift (ix3 g s l)) j = ((|W (32 * g + 8 * j + s) l| : ℝ) : EReal) := by
    show max (shapeCast S8x4x8x128 wh shapeCasts_S256x128_S8x4x8x128 _) (-(shapeCast S8x4x8x128 wh shapeCasts_S256x128_S8x4x8x128 _)) = _
    rw [shapeCast_apply wh shapeCasts_S256x128_S8x4x8x128 _ (ix2 (⟨32 * g + 8 * j + s, by omega⟩ : Fin 256) l) ?_, hW]
    · exact abs_coe _
    · rw [Shape.rowMajor_val_two, Shape.rowMajor_val_four]
      show (32 * g.val + 8 * j.val + s.val) * 128 + l.val = ((g.val * 4 + j.val) * 8 + s.val) * 128 + l.val
      omega
  rw [this]

/-- The kernel's eightfold maximum is the greatest magnitude of the block. -/
theorem max_chain (wh : FVec Ideal S256x128 .f32) {W : ℕ → ℕ → ℝ} (hW : ∀ y : S256x128.Idx, wh y = ((W (y 0) (y 1) : ℝ) : EReal))
    (i : Fin 8) (l : Fin 128) :
    (max (max (max (max (max (max (max (maxOf wh (ix3 i 0 l)) (maxOf wh (ix3 i 1 l))) (maxOf wh (ix3 i 2 l)))
      (maxOf wh (ix3 i 3 l))) (maxOf wh (ix3 i 4 l))) (maxOf wh (ix3 i 5 l))) (maxOf wh (ix3 i 6 l))) (maxOf wh (ix3 i 7 l)) : EReal)
      = ((amax fun j => W (32 * i + j) l : ℝ) : EReal) := by
  refine eq_of_forall_ge_iff fun c => ?_
  rw [coe_amax_le]
  have key : (∀ s : Fin 8, maxOf wh (ix3 i s l) ≤ c) ↔ ∀ j, j < 32 → ((|W (32 * i + j) l| : ℝ) : EReal) ≤ c := by
    simp only [maxOf_le wh hW]
    constructor
    · intro h j hj
      have := h ⟨j % 8, by omega⟩ ⟨j / 8, by omega⟩
      rwa [show 32 * i.val + 8 * (j / 8) + j % 8 = 32 * i.val + j by omega] at this
    · intro h s j
      have := h (8 * j + s) (by omega)
      rwa [show 32 * i.val + (8 * j.val + s.val) = 32 * i.val + 8 * j.val + s.val by omega] at this
  rw [← key]
  simp only [max_le_iff]
  constructor
  · rintro ⟨⟨⟨⟨⟨⟨⟨h0, h1⟩, h2⟩, h3⟩, h4⟩, h5⟩, h6⟩, h7⟩ s
    match s with
    | 0 => exact h0 | 1 => exact h1 | 2 => exact h2 | 3 => exact h3 | 4 => exact h4 | 5 => exact h5 | 6 => exact h6 | 7 => exact h7
  · intro h
    exact ⟨⟨⟨⟨⟨⟨⟨h 0, h 1⟩, h 2⟩, h 3⟩, h 4⟩, h 5⟩, h 6⟩, h 7⟩

/-- One slab of the table of maxima, read as a matrix. -/
theorem slab_apply (m : FVec Ideal S8x8x128 .f32) (o : ℕ) (ho : o < 8) (h : S8x8x128.Slices ![o, 0, 0] S1x8x128) (x : S8x128.Idx) :
    shapeCast S8x128 (extractStridedSlice S1x8x128 ![o, 0, 0] m h) shapeCasts_S1x8x128_S8x128 x = m (ix3 ⟨o, ho⟩ (x 0) (x 1)) := by
  rw [eq_ix2 x]
  refine (shapeCast_1ab_ab_apply _ _ _ _).trans ?_
  refine extractStridedSlice_apply _ _ _ _ _ fun a => ?_
  match a with
  | ⟨0, _⟩ => rfl
  | ⟨1, _⟩ => show (x 0).val = 0 + (x 0).val; omega
  | ⟨2, _⟩ => show (x 1).val = 0 + (x 1).val; omega

theorem cast_self (m : FVec Ideal S8x128 .f32) (x : S8x128.Idx) : shapeCast S8x128 m shapeCasts_S8x128_S8x128 x = m x :=
  shapeCast_apply _ _ _ _ rfl

/-- Thirty-two rows of the values times one row of the scales. -/
theorem piece_apply (wh : FVec Ideal S256x128 .f32) (sc : FVec Ideal S8x128 .f32) (o : ℕ) (ho : o < 8)
    (h : S256x128.Slices ![32 * o, 0] S32x128) (h' : S8x128.Slices ![o, 0] S1x128) (hb : S1x128.Broadcasts S32x128) (x : S32x128.Idx) :
    mulf (extractStridedSlice S32x128 ![32 * o, 0] wh h) (broadcastTo S32x128 (extractStridedSlice S1x128 ![o, 0] sc h') hb) x
      = wh (ix2 (⟨32 * o + (x 0).val, by have := idx2_lt0 x; omega⟩ : Fin 256) (x 1)) * sc (ix2 (⟨o, ho⟩ : Fin 8) (x 1)) := by
  rw [mulf_apply]
  congr 1
  · refine extractStridedSlice_apply _ _ _ _ _ fun a => ?_
    match a with
    | ⟨0, _⟩ => rfl
    | ⟨1, _⟩ => show (x 1).val = 0 + (x 1).val; omega
  · refine (broadcastTo_apply _ _ _ (ix2 (0 : Fin 1) (x 1)) fun a => ?_).trans ?_
    · match a with
      | ⟨0, _⟩ => rfl
      | ⟨1, _⟩ => rfl
    · refine extractStridedSlice_apply _ _ _ _ _ fun a => ?_
      match a with
      | ⟨0, _⟩ => rfl
      | ⟨1, _⟩ => show (x 1).val = 0 + (x 1).val; omega

/-- Eight such pieces one below the other, clipped, narrowed and transposed: the codes. -/
theorem codes_apply (wh : FVec Ideal S256x128 .f32) (sc : FVec Ideal S8x128 .f32) (f : Fin 8 → FVec Ideal S32x128 .f32)
    (hf : ∀ (g : Fin 8) (x : S32x128.Idx), f g x
      = wh (ix2 (⟨32 * g + (x 0).val, by have := idx2_lt0 x; omega⟩ : Fin 256) (x 1)) * sc (ix2 g (x 1)))
    (h : Shape.Concatenates ((List.ofFn fun n : Fin 8 => (⟨S32x128, f n⟩ : (s : Shape) × (s.Idx → EReal))).map (·.1)) S256x128 0)
    (ht : S256x128.Transposes [1, 0] S128x256) (x : S128x256.Idx) :
    transpose S128x256 [1, 0] (truncf (F := Ideal) .fp8e4m3 (minimumf (broadcast S256x128 (Scalar.ofBits .f32 0x43E00000#32))
      (maximumf (broadcast S256x128 (Scalar.ofBits .f32 0xC3E00000#32))
        (concatenate S256x128 0 (List.ofFn fun n : Fin 8 => (⟨S32x128, f n⟩ : (s : Shape) × (s.Idx → EReal))) h : FVec Ideal S256x128 .f32)))
      bitsLt_fp8e4m3_f32) ht x
    = min ((448 : ℝ) : EReal) (max ((-448 : ℝ) : EReal)
        (wh (ix2 (x 1) (x 0)) * sc (ix2 (⟨(x 1).val / 32, by have := idx2_lt1 x; omega⟩ : Fin 8) (x 0)))) := by
  refine (transpose_apply _ _ _ _ (ix2 (x 1) (x 0)) fun b => ?_).trans ?_
  · match b with
    | ⟨0, _⟩ => rfl
    | ⟨1, _⟩ => rfl
  show min (Ideal.ofBits .f32 0x43E00000#32) (max (Ideal.ofBits .f32 0xC3E00000#32)
    (concatenate S256x128 0 (List.ofFn fun n : Fin 8 => (⟨S32x128, f n⟩ : (s : Shape) × (s.Idx → EReal))) h (ix2 (x 1) (x 0) : S256x128.Idx))) = _
  rw [show (Ideal.ofBits .f32 0x43E00000#32) = ((448 : ℝ) : EReal) from bits_448,
    show (Ideal.ofBits .f32 0xC3E00000#32) = ((-448 : ℝ) : EReal) from bits_neg448]
  have h1 := idx2_lt1 x
  rw [concatenate_ofFn_apply (t := S256x128) (s₁ := S32x128) 0 f h rfl 32 rfl (ix2 (x 1) (x 0)) ⟨(x 1).val / 32, by omega⟩ rfl
    (ix2 (⟨(x 1).val % 32, by omega⟩ : Fin 32) (x 0)) rfl (fun b hb => ?_), hf]
  · have : (⟨32 * ((x 1).val / 32) + (x 1).val % 32, by omega⟩ : Fin 256) = x 1 := Fin.ext (by show 32 * ((x 1).val / 32) + (x 1).val % 32 = (x 1).val; omega)
    show min _ (max _ (wh (ix2 (⟨32 * ((x 1).val / 32) + (x 1).val % 32, _⟩ : Fin 256) (x 0)) * _)) = _
    rw [this]
  · match b with
    | ⟨0, _⟩ => exact absurd rfl hb
    | ⟨1, _⟩ => rfl

end Cert.Proof.Value
end
-- ==== Proof.Value.Half.lean ====
module

public import proofs.«01_k».proof.Proof.Value.Tile

/-!
# The payloads of the two halves of a trip, at real values
-/

@[expose] public section
set_option maxRecDepth 8192
noncomputable section
namespace Cert.Proof.Value
open Cert.KernelIdeal Cert.KernelIdeal.Gen
open Idealize.ShloMosaic Idealize.ShloMosaic.ValueIdx Finset

variable (wh : FVec Ideal S256x128 .f32) (v0 v1 v2 v3 v4 v5 v6 v7 rs : FVec Ideal S8x128 .f32)

/-- The scaled greatest magnitude of block `i` of the half, at lane `l`. -/
def uAt (W : ℕ → ℕ → ℝ) (R : ℕ → ℝ) (i l : ℕ) : ℝ := amax (fun j => W (32 * i + j) l) * R l * c448

theorem uAt_nonneg {W : ℕ → ℕ → ℝ} {R : ℕ → ℝ} {l : ℕ} (hR : 0 ≤ R l) (i : ℕ) : 0 ≤ uAt W R i l :=
  mul_nonneg (mul_nonneg (amax_nonneg _) hR) (by unfold c448; norm_num)

theorem uAt_chain {W : ℕ → ℕ → ℝ} {R : ℕ → ℝ} (hW : ∀ y : S256x128.Idx, wh y = ((W (y 0) (y 1) : ℝ) : EReal)) (x : S8x128.Idx)
    (a0 a1 a2 a3 a4 a5 a6 a7 r : EReal)
    (h0 : a0 = maxOf wh (ix3 (x 0) 0 (x 1))) (h1 : a1 = maxOf wh (ix3 (x 0) 1 (x 1)))
    (h2 : a2 = maxOf wh (ix3 (x 0) 2 (x 1))) (h3 : a3 = maxOf wh (ix3 (x 0) 3 (x 1)))
    (h4 : a4 = maxOf wh (ix3 (x 0) 4 (x 1))) (h5 : a5 = maxOf wh (ix3 (x 0) 5 (x 1)))
    (h6 : a6 = maxOf wh (ix3 (x 0) 6 (x 1))) (h7 : a7 = maxOf wh (ix3 (x 0) 7 (x 1)))
    (hr : r = ((R (x 1) : ℝ) : EReal)) :
    max (max (max (max (max (max (max a0 a1) a2) a3) a4) a5) a6) a7 * r * Ideal.ofBits .f32 0x3B124925#32
      = ((uAt W R (x 0) (x 1) : ℝ) : EReal) := by
  rw [h0, h1, h2, h3, h4, h5, h6, h7, hr, max_chain wh hW (x 0) (x 1), bits_c448, ← EReal.coe_mul, ← EReal.coe_mul]
  rfl

/-- The threshold words of a step of the search. -/
def vthr (s : BitVec 32) (f : IVec S8x128 32) : IVec S8x128 32 := shli (addi f (broadcast S8x128 s)) (broadcast S8x128 23#32)
/-- A step of the search on vectors. -/
def vstep (U : FVec Ideal S8x128 .f32) (s : BitVec 32) (f : IVec S8x128 32) : IVec S8x128 32 :=
  select (cmpf .olt U (bitcastToFloat .f32 (vthr s f))) f (addi f (broadcast S8x128 s))
/-- The exponents from the fields. -/
def vexp (f : IVec S8x128 32) : IVec S8x128 32 :=
  select (cmpi .slt (addi (minsi f (broadcast S8x128 246#32)) (broadcast S8x128 9#32)) (broadcast S8x128 10#32)) (broadcast S8x128 0#32)
    (subi (addi (minsi f (broadcast S8x128 246#32)) (broadcast S8x128 9#32)) (broadcast S8x128 135#32))

theorem vstep_apply (U : FVec Ideal S8x128 .f32) (s : BitVec 32) (f : IVec S8x128 32) (x : S8x128.Idx) :
    vstep U s f x = kstep (U x) s (f x) := rfl
theorem vexp_apply (f : IVec S8x128 32) (x : S8x128.Idx) : vexp f x = kexp (f x) := rfl

theorem search1 (U : FVec Ideal S8x128 .f32) (T : IVec S8x128 32) :
    k0_pay347 (F := Ideal) U T (vthr 32#32 T) = vstep U 2#32 (vstep U 4#32 (vstep U 8#32 (vstep U 16#32 (vstep U 32#32 T)))) := rfl
theorem search2 (U : FVec Ideal S8x128 .f32) (T : IVec S8x128 32) :
    k0_pay373 (F := Ideal) U T (bitcastToFloat .f32 (vthr 32#32 T)) = vstep U 2#32 (vstep U 4#32 (vstep U 8#32 (vstep U 16#32 (vstep U 32#32 T)))) := rfl
theorem last1 (U : FVec Ideal S8x128 .f32) (P : IVec S8x128 32) :
    k0_pay349 (F := Ideal) U P (vthr 1#32 P) = vexp (vstep U 1#32 P) := rfl
theorem last2 (U : FVec Ideal S8x128 .f32) (P : IVec S8x128 32) :
    k0_pay375 (F := Ideal) U P (bitcastToFloat .f32 (vthr 1#32 P)) = vexp (vstep U 1#32 P) := rfl

/-- The scaled maxima of the first half. -/
def U1 : FVec Ideal S8x128 .f32 := k0_pay344 (F := Ideal) (k0_pay343 v0 v1) v2 v3 v4 v5 v6 v7 rs
/-- The search of the first half before its last step. -/
def P1 : IVec S8x128 32 := k0_pay347 (F := Ideal) (U1 v0 v1 v2 v3 v4 v5 v6 v7 rs) (k0_pay345 (F := Ideal) (k0_pay343 v0 v1) v2 v3 v4 v5 v6 v7 rs) (k0_pay346 (F := Ideal) (k0_pay343 v0 v1) v2 v3 v4 v5 v6 v7 rs)
/-- The last threshold of the first half. -/
def Q1 : IVec S8x128 32 := k0_pay348 (F := Ideal) (U1 v0 v1 v2 v3 v4 v5 v6 v7 rs) (k0_pay345 (F := Ideal) (k0_pay343 v0 v1) v2 v3 v4 v5 v6 v7 rs) (k0_pay346 (F := Ideal) (k0_pay343 v0 v1) v2 v3 v4 v5 v6 v7 rs)
/-- The scale of the first half. -/
def S1 : FVec Ideal S8x128 .f32 := k0_pay351 (F := Ideal) rs (U1 v0 v1 v2 v3 v4 v5 v6 v7 rs) (P1 v0 v1 v2 v3 v4 v5 v6 v7 rs) (Q1 v0 v1 v2 v3 v4 v5 v6 v7 rs)

theorem U1_apply {W : ℕ → ℕ → ℝ} {R : ℕ → ℝ} (hW : ∀ y : S256x128.Idx, wh y = ((W (y 0) (y 1) : ℝ) : EReal))
    (h0 : ∀ x : S8x128.Idx, v0 x = maxOf wh (ix3 (x 0) 0 (x 1))) (h1 : ∀ x : S8x128.Idx, v1 x = maxOf wh (ix3 (x 0) 1 (x 1)))
    (h2 : ∀ x : S8x128.Idx, v2 x = maxOf wh (ix3 (x 0) 2 (x 1))) (h3 : ∀ x : S8x128.Idx, v3 x = maxOf wh (ix3 (x 0) 3 (x 1)))
    (h4 : ∀ x : S8x128.Idx, v4 x = maxOf wh (ix3 (x 0) 4 (x 1))) (h5 : ∀ x : S8x128.Idx, v5 x = maxOf wh (ix3 (x 0) 5 (x 1)))
    (h6 : ∀ x : S8x128.Idx, v6 x = maxOf wh (ix3 (x 0) 6 (x 1))) (h7 : ∀ x : S8x128.Idx, v7 x = maxOf wh (ix3 (x 0) 7 (x 1)))
    (hr : ∀ x : S8x128.Idx, rs x = ((R (x 1) : ℝ) : EReal)) (x : S8x128.Idx) :
    U1 v0 v1 v2 v3 v4 v5 v6 v7 rs x = ((uAt W R (x 0) (x 1) : ℝ) : EReal) :=
  uAt_chain wh hW x _ _ _ _ _ _ _ _ _ (h0 x) (h1 x) (h2 x) (h3 x) (h4 x) (h5 x) (h6 x) (h7 x) (hr x)

theorem E1_apply (x : S8x128.Idx) {u : ℝ} (hu : 0 ≤ u) (h : U1 v0 v1 v2 v3 v4 v5 v6 v7 rs x = (u : EReal)) :
    k0_pay349 (F := Ideal) (U1 v0 v1 v2 v3 v4 v5 v6 v7 rs) (P1 v0 v1 v2 v3 v4 v5 v6 v7 rs) (Q1 v0 v1 v2 v3 v4 v5 v6 v7 rs) x = BitVec.ofInt 32 (expo (nle u)) := by
  have hT : k0_pay345 (F := Ideal) (k0_pay343 v0 v1) v2 v3 v4 v5 v6 v7 rs = vstep (U1 v0 v1 v2 v3 v4 v5 v6 v7 rs) 64#32 (vstep (U1 v0 v1 v2 v3 v4 v5 v6 v7 rs) 128#32 (broadcast S8x128 0#32)) := rfl
  have hQ : Q1 v0 v1 v2 v3 v4 v5 v6 v7 rs = (vthr 1#32 (P1 v0 v1 v2 v3 v4 v5 v6 v7 rs)) := rfl
  have hP : P1 v0 v1 v2 v3 v4 v5 v6 v7 rs = k0_pay347 (F := Ideal) (U1 v0 v1 v2 v3 v4 v5 v6 v7 rs) (k0_pay345 (F := Ideal) (k0_pay343 v0 v1) v2 v3 v4 v5 v6 v7 rs) ((vthr 32#32 (k0_pay345 (F := Ideal) (k0_pay343 v0 v1) v2 v3 v4 v5 v6 v7 rs))) := rfl
  rw [← kexp_eq hu, ← h, hQ, last1, hP, search1, hT, vexp_apply]
  simp only [vstep_apply]
  rfl

/-- The stored exponent of the first half. -/
theorem X1_apply (x : S8x128.Idx) {u : ℝ} (hu : 0 ≤ u) (h : U1 v0 v1 v2 v3 v4 v5 v6 v7 rs x = (u : EReal)) :
    k0_pay350 (F := Ideal) (U1 v0 v1 v2 v3 v4 v5 v6 v7 rs) (P1 v0 v1 v2 v3 v4 v5 v6 v7 rs) (Q1 v0 v1 v2 v3 v4 v5 v6 v7 rs) x = BitVec.ofInt 32 (expo (nle u)) + 127#32 := by
  unfold k0_pay350
  rw [shapeCast_apply _ shapeCasts_S8x128_S8x128 x x rfl]
  show k0_pay349 (F := Ideal) (U1 v0 v1 v2 v3 v4 v5 v6 v7 rs) (P1 v0 v1 v2 v3 v4 v5 v6 v7 rs) (Q1 v0 v1 v2 v3 v4 v5 v6 v7 rs) x + 127#32 = _
  rw [E1_apply v0 v1 v2 v3 v4 v5 v6 v7 rs x hu h]

/-- The scale of the first half is two to the negated exponent, times the reciprocal deviation. -/
theorem S1_apply (x : S8x128.Idx) {u r : ℝ} (hu : 0 ≤ u) (h : U1 v0 v1 v2 v3 v4 v5 v6 v7 rs x = (u : EReal)) (hr : rs x = (r : EReal)) :
    S1 v0 v1 v2 v3 v4 v5 v6 v7 rs x = (((2 : ℝ) ^ (-expo (nle u)) * r : ℝ) : EReal) := by
  show Ideal.ofBits .f32 (IntOp.shli .vector (IntOp.subi 127#32 (k0_pay349 (F := Ideal) (U1 v0 v1 v2 v3 v4 v5 v6 v7 rs) (P1 v0 v1 v2 v3 v4 v5 v6 v7 rs) (Q1 v0 v1 v2 v3 v4 v5 v6 v7 rs) x)) 23#32) * rs x = _
  rw [E1_apply v0 v1 v2 v3 v4 v5 v6 v7 rs x hu h, kscale_eq (nle_le u), hr, ← EReal.coe_mul]

/-- The codes of the first half. -/
theorem C1_apply {W : ℕ → ℕ → ℝ} {R : ℕ → ℝ} (hW : ∀ y : S256x128.Idx, wh y = ((W (y 0) (y 1) : ℝ) : EReal))
    (hR : ∀ l, 0 ≤ R l) (hU : ∀ x : S8x128.Idx, U1 v0 v1 v2 v3 v4 v5 v6 v7 rs x = ((uAt W R (x 0) (x 1) : ℝ) : EReal))
    (hr : ∀ x : S8x128.Idx, rs x = ((R (x 1) : ℝ) : EReal)) (x : S128x256.Idx) :
    k0_pay358 (F := Ideal) wh (S1 v0 v1 v2 v3 v4 v5 v6 v7 rs) (k0_pay352 wh rs (U1 v0 v1 v2 v3 v4 v5 v6 v7 rs) (P1 v0 v1 v2 v3 v4 v5 v6 v7 rs) (Q1 v0 v1 v2 v3 v4 v5 v6 v7 rs)) (k0_pay353 wh rs (U1 v0 v1 v2 v3 v4 v5 v6 v7 rs) (P1 v0 v1 v2 v3 v4 v5 v6 v7 rs) (Q1 v0 v1 v2 v3 v4 v5 v6 v7 rs)) (k0_pay354 wh rs (U1 v0 v1 v2 v3 v4 v5 v6 v7 rs) (P1 v0 v1 v2 v3 v4 v5 v6 v7 rs) (Q1 v0 v1 v2 v3 v4 v5 v6 v7 rs)) (k0_pay355 wh rs (U1 v0 v1 v2 v3 v4 v5 v6 v7 rs) (P1 v0 v1 v2 v3 v4 v5 v6 v7 rs) (Q1 v0 v1 v2 v3 v4 v5 v6 v7 rs)) (k0_pay356 wh) (k0_pay357 rs (U1 v0 v1 v2 v3 v4 v5 v6 v7 rs) (P1 v0 v1 v2 v3 v4 v5 v6 v7 rs) (Q1 v0 v1 v2 v3 v4 v5 v6 v7 rs)) x
      = ((min 448 (max (-448) (W (x 1) (x 0) * ((2 : ℝ) ^ (-expo (nle (uAt W R ((x 1).val / 32) (x 0)))) * R (x 0)))) : ℝ) : EReal) := by
  have h1 := idx2_lt1 x
  refine (codes_apply wh (S1 v0 v1 v2 v3 v4 v5 v6 v7 rs) ![_, _, _, _, _, _, _, _] (fun g y => ?_) _ _ x).trans ?_
  · match g with
    | 0 => exact piece_apply wh (S1 v0 v1 v2 v3 v4 v5 v6 v7 rs) 0 (by norm_num) slices_S256x128_o0_0_S32x128 slices_S8x128_o0_0_S1x128 broadcasts_S1x128_S32x128 y
    | 1 => exact piece_apply wh (S1 v0 v1 v2 v3 v4 v5 v6 v7 rs) 1 (by norm_num) slices_S256x128_o32_0_S32x128 slices_S8x128_o1_0_S1x128 broadcasts_S1x128_S32x128 y
    | 2 => exact piece_apply wh (S1 v0 v1 v2 v3 v4 v5 v6 v7 rs) 2 (by norm_num) slices_S256x128_o64_0_S32x128 slices_S8x128_o2_0_S1x128 broadcasts_S1x128_S32x128 y
    | 3 => exact piece_apply wh (S1 v0 v1 v2 v3 v4 v5 v6 v7 rs) 3 (by norm_num) slices_S256x128_o96_0_S32x128 slices_S8x128_o3_0_S1x128 broadcasts_S1x128_S32x128 y
    | 4 => exact piece_apply wh (S1 v0 v1 v2 v3 v4 v5 v6 v7 rs) 4 (by norm_num) slices_S256x128_o128_0_S32x128 slices_S8x128_o4_0_S1x128 broadcasts_S1x128_S32x128 y
    | 5 => exact piece_apply wh (S1 v0 v1 v2 v3 v4 v5 v6 v7 rs) 5 (by norm_num) slices_S256x128_o160_0_S32x128 slices_S8x128_o5_0_S1x128 broadcasts_S1x128_S32x128 y
    | 6 => exact piece_apply wh (S1 v0 v1 v2 v3 v4 v5 v6 v7 rs) 6 (by norm_num) slices_S256x128_o192_0_S32x128 slices_S8x128_o6_0_S1x128 broadcasts_S1x128_S32x128 y
    | 7 => exact piece_apply wh (S1 v0 v1 v2 v3 v4 v5 v6 v7 rs) 7 (by norm_num) slices_S256x128_o224_0_S32x128 slices_S8x128_o7_0_S1x128 broadcasts_S1x128_S32x128 y
  · rw [hW, S1_apply v0 v1 v2 v3 v4 v5 v6 v7 rs _ (uAt_nonneg (hR _) _) (hU _) (hr _), ← EReal.coe_mul]
    exact (congrArg (min _) (max_coe _ _)).trans (min_coe _ _)

/-- The scaled maxima of the second half. -/
def U2 : FVec Ideal S8x128 .f32 := k0_pay370 (F := Ideal) (k0_pay369 v0 v1 v2) v3 v4 v5 v6 v7 rs
/-- The search of the second half before its last step. -/
def P2 : IVec S8x128 32 := k0_pay373 (F := Ideal) (U2 v0 v1 v2 v3 v4 v5 v6 v7 rs) (k0_pay371 (F := Ideal) (k0_pay369 v0 v1 v2) v3 v4 v5 v6 v7 rs) (k0_pay372 (F := Ideal) (k0_pay369 v0 v1 v2) v3 v4 v5 v6 v7 rs)
/-- The last threshold of the second half. -/
def Q2 : FVec Ideal S8x128 .f32 := k0_pay374 (F := Ideal) (U2 v0 v1 v2 v3 v4 v5 v6 v7 rs) (k0_pay371 (F := Ideal) (k0_pay369 v0 v1 v2) v3 v4 v5 v6 v7 rs) (k0_pay372 (F := Ideal) (k0_pay369 v0 v1 v2) v3 v4 v5 v6 v7 rs)
/-- The scale of the second half. -/
def S2 : FVec Ideal S8x128 .f32 := k0_pay377 (F := Ideal) rs (U2 v0 v1 v2 v3 v4 v5 v6 v7 rs) (P2 v0 v1 v2 v3 v4 v5 v6 v7 rs) (Q2 v0 v1 v2 v3 v4 v5 v6 v7 rs)

theorem U2_apply {W : ℕ → ℕ → ℝ} {R : ℕ → ℝ} (hW : ∀ y : S256x128.Idx, wh y = ((W (y 0) (y 1) : ℝ) : EReal))
    (h0 : ∀ x : S8x128.Idx, v0 x = maxOf wh (ix3 (x 0) 0 (x 1))) (h1 : ∀ x : S8x128.Idx, v1 x = maxOf wh (ix3 (x 0) 1 (x 1)))
    (h2 : ∀ x : S8x128.Idx, v2 x = maxOf wh (ix3 (x 0) 2 (x 1))) (h3 : ∀ x : S8x128.Idx, v3 x = maxOf wh (ix3 (x 0) 3 (x 1)))
    (h4 : ∀ x : S8x128.Idx, v4 x = maxOf wh (ix3 (x 0) 4 (x 1))) (h5 : ∀ x : S8x128.Idx, v5 x = maxOf wh (ix3 (x 0) 5 (x 1)))
    (h6 : ∀ x : S8x128.Idx, v6 x = maxOf wh (ix3 (x 0) 6 (x 1))) (h7 : ∀ x : S8x128.Idx, v7 x = maxOf wh (ix3 (x 0) 7 (x 1)))
    (hr : ∀ x : S8x128.Idx, rs x = ((R (x 1) : ℝ) : EReal)) (x : S8x128.Idx) :
    U2 v0 v1 v2 v3 v4 v5 v6 v7 rs x = ((uAt W R (x 0) (x 1) : ℝ) : EReal) :=
  uAt_chain wh hW x _ _ _ _ _ _ _ _ _ (h0 x) (h1 x) (h2 x) (h3 x) (h4 x) (h5 x) (h6 x) (h7 x) (hr x)

theorem E2_apply (x : S8x128.Idx) {u : ℝ} (hu : 0 ≤ u) (h : U2 v0 v1 v2 v3 v4 v5 v6 v7 rs x = (u : EReal)) :
    k0_pay375 (F := Ideal) (U2 v0 v1 v2 v3 v4 v5 v6 v7 rs) (P2 v0 v1 v2 v3 v4 v5 v6 v7 rs) (Q2 v0 v1 v2 v3 v4 v5 v6 v7 rs) x = BitVec.ofInt 32 (expo (nle u)) := by
  have hT : k0_pay371 (F := Ideal) (k0_pay369 v0 v1 v2) v3 v4 v5 v6 v7 rs = vstep (U2 v0 v1 v2 v3 v4 v5 v6 v7 rs) 64#32 (vstep (U2 v0 v1 v2 v3 v4 v5 v6 v7 rs) 128#32 (broadcast S8x128 0#32)) := rfl
  have hQ : Q2 v0 v1 v2 v3 v4 v5 v6 v7 rs = bitcastToFloat .f32 (vthr 1#32 (P2 v0 v1 v2 v3 v4 v5 v6 v7 rs)) := rfl
  have hP : P2 v0 v1 v2 v3 v4 v5 v6 v7 rs = k0_pay373 (F := Ideal) (U2 v0 v1 v2 v3 v4 v5 v6 v7 rs) (k0_pay371 (F := Ideal) (k0_pay369 v0 v1 v2) v3 v4 v5 v6 v7 rs) (bitcastToFloat .f32 (vthr 32#32 (k0_pay371 (F := Ideal) (k0_pay369 v0 v1 v2) v3 v4 v5 v6 v7 rs))) := rfl
  rw [← kexp_eq hu, ← h, hQ, last2, hP, search2, hT, vexp_apply]
  simp only [vstep_apply]
  rfl

/-- The stored exponent of the second half. -/
theorem X2_apply (x : S8x128.Idx) {u : ℝ} (hu : 0 ≤ u) (h : U2 v0 v1 v2 v3 v4 v5 v6 v7 rs x = (u : EReal)) :
    k0_pay376 (F := Ideal) (U2 v0 v1 v2 v3 v4 v5 v6 v7 rs) (P2 v0 v1 v2 v3 v4 v5 v6 v7 rs) (Q2 v0 v1 v2 v3 v4 v5 v6 v7 rs) x = BitVec.ofInt 32 (expo (nle u)) + 127#32 := by
  unfold k0_pay376
  rw [shapeCast_apply _ shapeCasts_S8x128_S8x128 x x rfl]
  show k0_pay375 (F := Ideal) (U2 v0 v1 v2 v3 v4 v5 v6 v7 rs) (P2 v0 v1 v2 v3 v4 v5 v6 v7 rs) (Q2 v0 v1 v2 v3 v4 v5 v6 v7 rs) x + 127#32 = _
  rw [E2_apply v0 v1 v2 v3 v4 v5 v6 v7 rs x hu h]

/-- The scale of the second half is two to the negated exponent, times the reciprocal deviation. -/
theorem S2_apply (x : S8x128.Idx) {u r : ℝ} (hu : 0 ≤ u) (h : U2 v0 v1 v2 v3 v4 v5 v6 v7 rs x = (u : EReal)) (hr : rs x = (r : EReal)) :
    S2 v0 v1 v2 v3 v4 v5 v6 v7 rs x = (((2 : ℝ) ^ (-expo (nle u)) * r : ℝ) : EReal) := by
  show Ideal.ofBits .f32 (IntOp.shli .vector (IntOp.subi 127#32 (k0_pay375 (F := Ideal) (U2 v0 v1 v2 v3 v4 v5 v6 v7 rs) (P2 v0 v1 v2 v3 v4 v5 v6 v7 rs) (Q2 v0 v1 v2 v3 v4 v5 v6 v7 rs) x)) 23#32) * rs x = _
  rw [E2_apply v0 v1 v2 v3 v4 v5 v6 v7 rs x hu h, kscale_eq (nle_le u), hr, ← EReal.coe_mul]

/-- The codes of the second half. -/
theorem C2_apply {W : ℕ → ℕ → ℝ} {R : ℕ → ℝ} (hW : ∀ y : S256x128.Idx, wh y = ((W (y 0) (y 1) : ℝ) : EReal))
    (hR : ∀ l, 0 ≤ R l) (hU : ∀ x : S8x128.Idx, U2 v0 v1 v2 v3 v4 v5 v6 v7 rs x = ((uAt W R (x 0) (x 1) : ℝ) : EReal))
    (hr : ∀ x : S8x128.Idx, rs x = ((R (x 1) : ℝ) : EReal)) (x : S128x256.Idx) :
    k0_pay3 (F := Ideal) wh (S2 v0 v1 v2 v3 v4 v5 v6 v7 rs) (k0_pay378 wh rs (U2 v0 v1 v2 v3 v4 v5 v6 v7 rs) (P2 v0 v1 v2 v3 v4 v5 v6 v7 rs) (Q2 v0 v1 v2 v3 v4 v5 v6 v7 rs)) (k0_pay379 wh rs (U2 v0 v1 v2 v3 v4 v5 v6 v7 rs) (P2 v0 v1 v2 v3 v4 v5 v6 v7 rs) (Q2 v0 v1 v2 v3 v4 v5 v6 v7 rs)) (k0_pay380 wh rs (U2 v0 v1 v2 v3 v4 v5 v6 v7 rs) (P2 v0 v1 v2 v3 v4 v5 v6 v7 rs) (Q2 v0 v1 v2 v3 v4 v5 v6 v7 rs)) (k0_pay381 wh rs (U2 v0 v1 v2 v3 v4 v5 v6 v7 rs) (P2 v0 v1 v2 v3 v4 v5 v6 v7 rs) (Q2 v0 v1 v2 v3 v4 v5 v6 v7 rs)) (k0_pay382 wh rs (U2 v0 v1 v2 v3 v4 v5 v6 v7 rs) (P2 v0 v1 v2 v3 v4 v5 v6 v7 rs) (Q2 v0 v1 v2 v3 v4 v5 v6 v7 rs)) x
      = ((min 448 (max (-448) (W (x 1) (x 0) * ((2 : ℝ) ^ (-expo (nle (uAt W R ((x 1).val / 32) (x 0)))) * R (x 0)))) : ℝ) : EReal) := by
  have h1 := idx2_lt1 x
  refine (codes_apply wh (S2 v0 v1 v2 v3 v4 v5 v6 v7 rs) ![_, _, _, _, _, _, _, _] (fun g y => ?_) _ _ x).trans ?_
  · match g with
    | 0 => exact piece_apply wh (S2 v0 v1 v2 v3 v4 v5 v6 v7 rs) 0 (by norm_num) slices_S256x128_o0_0_S32x128 slices_S8x128_o0_0_S1x128 broadcasts_S1x128_S32x128 y
    | 1 => exact piece_apply wh (S2 v0 v1 v2 v3 v4 v5 v6 v7 rs) 1 (by norm_num) slices_S256x128_o32_0_S32x128 slices_S8x128_o1_0_S1x128 broadcasts_S1x128_S32x128 y
    | 2 => exact piece_apply wh (S2 v0 v1 v2 v3 v4 v5 v6 v7 rs) 2 (by norm_num) slices_S256x128_o64_0_S32x128 slices_S8x128_o2_0_S1x128 broadcasts_S1x128_S32x128 y
    | 3 => exact piece_apply wh (S2 v0 v1 v2 v3 v4 v5 v6 v7 rs) 3 (by norm_num) slices_S256x128_o96_0_S32x128 slices_S8x128_o3_0_S1x128 broadcasts_S1x128_S32x128 y
    | 4 => exact piece_apply wh (S2 v0 v1 v2 v3 v4 v5 v6 v7 rs) 4 (by norm_num) slices_S256x128_o128_0_S32x128 slices_S8x128_o4_0_S1x128 broadcasts_S1x128_S32x128 y
    | 5 => exact piece_apply wh (S2 v0 v1 v2 v3 v4 v5 v6 v7 rs) 5 (by norm_num) slices_S256x128_o160_0_S32x128 slices_S8x128_o5_0_S1x128 broadcasts_S1x128_S32x128 y
    | 6 => exact piece_apply wh (S2 v0 v1 v2 v3 v4 v5 v6 v7 rs) 6 (by norm_num) slices_S256x128_o192_0_S32x128 slices_S8x128_o6_0_S1x128 broadcasts_S1x128_S32x128 y
    | 7 => exact piece_apply wh (S2 v0 v1 v2 v3 v4 v5 v6 v7 rs) 7 (by norm_num) slices_S256x128_o224_0_S32x128 slices_S8x128_o7_0_S1x128 broadcasts_S1x128_S32x128 y
  · rw [hW, S2_apply v0 v1 v2 v3 v4 v5 v6 v7 rs _ (uAt_nonneg (hR _) _) (hU _) (hr _), ← EReal.coe_mul]
    exact (congrArg (min _) (max_coe _ _)).trans (min_coe _ _)

end Cert.Proof.Value
end
-- ==== Proof.Value.Wh.lean ====
module

public import proofs.«01_k».proof.Proof.Value.Half
public import Idealize.ShloMosaic.Lib.MatmulPlain

/-!
# What a trip reads from the tables: the weighted values, and the sums of a tile
-/

@[expose] public section
set_option maxRecDepth 8192
noncomputable section
namespace Cert.Proof.Value
open Cert.KernelIdeal Cert.KernelIdeal.Gen
open Idealize.ShloMosaic Idealize.ShloMosaic.ValueIdx Finset

/-- The lanes of the left table: the weight in three, nothing in three, the offset in three, nothing after. -/
def laneL (g b : ℝ) (j : ℕ) : ℝ := if j < 3 then g else if j < 6 then 0 else if j < 9 then b else 0
/-- The rows of the right table: the negated mean where the left holds the weight's first part, the deviation where it holds the offset's. -/
def laneR (m s : ℝ) (j : ℕ) : ℝ :=
  if j = 0 ∨ j = 3 ∨ j = 5 then -m else if j = 6 ∨ j = 9 ∨ j = 11 then s else 0

theorem sum_lanes (g b m s : ℝ) : ∑ j ∈ range 128, laneL g b j * laneR m s j = g * -m + b * s := by
  rw [← Finset.sum_subset (s₁ := range 9) (by intro x; simp; omega) (fun j _ hj => ?_)]
  · simp [Finset.sum_range_succ, laneL, laneR]
  · have : 9 ≤ j := by simpa using hj
    unfold laneL
    rw [if_neg (by omega), if_neg (by omega), if_neg (by omega), zero_mul]

/-- The product of the tables. -/
theorem w_apply (v74 : FVec Ideal S256x128 .bf16) (v76 : FVec Ideal S128x256 .bf16) {G B M S : ℕ → ℝ}
    (hl : ∀ y : S256x128.Idx, v74 y = ((laneL (G (y 0)) (B (y 0)) (y 1) : ℝ) : EReal))
    (hr : ∀ y : S128x256.Idx, v76 y = ((laneR (M (y 1)) (S (y 1)) (y 0) : ℝ) : EReal)) (r c : Fin 256) :
    k0_pay331 (F := Ideal) v74 v76 (ix2 r c) = ((G r * -M c + B r * S c : ℝ) : EReal) := by
  unfold k0_pay331
  refine (Ideal.matmul_plain_apply (M := 256) (K := 128) (N := 256) none v74 v76 _ r c).trans ?_
  rw [show (constant S256x256 .f32 0x00000000#32 : FVec Ideal S256x256 .f32) (ix2 r c) = ((0 : ℝ) : EReal) from bits_zero, EReal.coe_zero, zero_add,
    ← sum_lanes, ← Fin.sum_univ_eq_sum_range (fun j => laneL (G r) (B r) j * laneR (M c) (S c) j), ← coe_sum]
  refine Finset.sum_congr rfl fun k _ => ?_
  rw [hl, hr, ← EReal.coe_mul]

/-- The weighted values of the first half. -/
theorem wh1_apply (v74 : FVec Ideal S256x128 .bf16) (v76 : FVec Ideal S128x256 .bf16) (v83 : FVec Ideal S1x256x128 .bf16)
    (v87 : FVec Ideal S256x128 .f32) {X : ℕ → ℕ → ℝ} {G B M S : ℕ → ℝ}
    (hl : ∀ y : S256x128.Idx, v74 y = ((laneL (G (y 0)) (B (y 0)) (y 1) : ℝ) : EReal))
    (hr : ∀ y : S128x256.Idx, v76 y = ((laneR (M (y 1)) (S (y 1)) (y 0) : ℝ) : EReal))
    (hx : ∀ y : S1x256x128.Idx, v83 y = ((X (y 1) (y 2) : ℝ) : EReal)) (hg : ∀ y : S256x128.Idx, v87 y = ((G (y 0) : ℝ) : EReal))
    (y : S256x128.Idx) : k0_pay332 (F := Ideal) v74 v76 v83 v87 y = ((X (y 0) (y 1) * G (y 0) + (G (y 0) * -M (y 1) + B (y 0) * S (y 1)) : ℝ) : EReal) := by
  have h0 := idx2_lt0 y
  have h1 := idx2_lt1 y
  show shapeCast S256x128 v83 shapeCasts_S1x256x128_S256x128 y * v87 y
    + extractStridedSlice S256x128 ![0, 0] (k0_pay331 (F := Ideal) v74 v76) slices_S256x256_o0_0_S256x128 y = _
  rw [extractStridedSlice_apply _ _ _ _ (ix2 (⟨(y 0).val, by omega⟩ : Fin 256) (⟨(y 1).val, by omega⟩ : Fin 256)) (fun a => by
      match a with
      | ⟨0, _⟩ => show (y 0).val = 0 + (y 0).val; omega
      | ⟨1, _⟩ => show (y 1).val = 0 + (y 1).val; omega), w_apply v74 v76 hl hr, hg,
    show shapeCast S256x128 v83 shapeCasts_S1x256x128_S256x128 y = ((X (y 0) (y 1) : ℝ) : EReal) by
      rw [eq_ix2 y]; exact (shapeCast_1ab_ab_apply _ _ _ _).trans (hx _), ← EReal.coe_mul, ← EReal.coe_add]

/-- The weighted values of the second half. -/
theorem wh2_apply (v74 : FVec Ideal S256x128 .bf16) (v76 : FVec Ideal S128x256 .bf16) (v83 : FVec Ideal S1x256x128 .bf16)
    (v87 : FVec Ideal S256x128 .f32) {X : ℕ → ℕ → ℝ} {G B M S : ℕ → ℝ}
    (hl : ∀ y : S256x128.Idx, v74 y = ((laneL (G (y 0)) (B (y 0)) (y 1) : ℝ) : EReal))
    (hr : ∀ y : S128x256.Idx, v76 y = ((laneR (M (y 1)) (S (y 1)) (y 0) : ℝ) : EReal))
    (hx : ∀ y : S1x256x128.Idx, v83 y = ((X (y 1) (y 2) : ℝ) : EReal)) (hg : ∀ y : S256x128.Idx, v87 y = ((G (y 0) : ℝ) : EReal))
    (y : S256x128.Idx) : k0_pay359 (F := Ideal) (k0_pay331 v74 v76) v83 v87 y
      = ((X (y 0) (y 1) * G (y 0) + (G (y 0) * -M (128 + (y 1).val) + B (y 0) * S (128 + (y 1).val)) : ℝ) : EReal) := by
  have h0 := idx2_lt0 y
  have h1 := idx2_lt1 y
  show shapeCast S256x128 v83 shapeCasts_S1x256x128_S256x128 y * v87 y
    + extractStridedSlice S256x128 ![0, 128] (k0_pay331 (F := Ideal) v74 v76) slices_S256x256_o0_128_S256x128 y = _
  rw [extractStridedSlice_apply _ _ _ _ (ix2 (⟨(y 0).val, by omega⟩ : Fin 256) (⟨128 + (y 1).val, by omega⟩ : Fin 256)) (fun a => by
      match a with
      | ⟨0, _⟩ => show (y 0).val = 0 + (y 0).val; omega
      | ⟨1, _⟩ => rfl), w_apply v74 v76 hl hr, hg,
    show shapeCast S256x128 v83 shapeCasts_S1x256x128_S256x128 y = ((X (y 0) (y 1) : ℝ) : EReal) by
      rw [eq_ix2 y]; exact (shapeCast_1ab_ab_apply _ _ _ _).trans (hx _), ← EReal.coe_mul, ← EReal.coe_add]

/-- The block of inputs turned around, channels before tokens. -/
theorem pay325_apply (v43 : FVec Ideal S256x256 .bf16) {X : ℕ → ℕ → ℝ} (hx : ∀ y : S256x256.Idx, v43 y = ((X (y 1) (y 0) : ℝ) : EReal))
    (y : S256x256.Idx) : k0_pay325 (F := Ideal) v43 y = ((X (y 0) (y 1) : ℝ) : EReal) := by
  unfold k0_pay325
  exact (transpose_apply _ _ _ _ (ix2 (y 1) (y 0)) fun b => by
    match b with
    | ⟨0, _⟩ => rfl
    | ⟨1, _⟩ => rfl).trans ((shapeCast_apply _ _ _ _ rfl).trans (hx _))

theorem pay326_apply (v43 : FVec Ideal S256x256 .bf16) {X : ℕ → ℕ → ℝ} (hx : ∀ y : S256x256.Idx, v43 y = ((X (y 1) (y 0) : ℝ) : EReal))
    (y : S1x256x256.Idx) : k0_pay326 (F := Ideal) v43 y = ((X (y 1) (y 2) : ℝ) : EReal) := by
  unfold k0_pay326
  rw [eq_ix3 y]
  exact (shapeCast_ab_1ab_apply _ _ _ _ _).trans (pay325_apply v43 hx _)

theorem pay327_apply (v43 : FVec Ideal S256x256 .bf16) {X : ℕ → ℕ → ℝ} (hx : ∀ y : S256x256.Idx, v43 y = ((X (y 1) (y 0) : ℝ) : EReal))
    (y : S32x8x256.Idx) : k0_pay327 (F := Ideal) v43 y = ((X (8 * (y 0).val + (y 1).val) (y 2) : ℝ) : EReal) := by
  unfold k0_pay327
  have h0 : (y 0).val < 32 := (y 0).isLt
  have h1 : (y 1).val < 8 := (y 1).isLt
  have h2 : (y 2).val < 256 := (y 2).isLt
  refine (shapeCast_apply _ _ _ (ix2 (⟨8 * (y 0).val + (y 1).val, by omega⟩ : Fin 256) (⟨(y 2).val, h2⟩ : Fin 256)) ?_).trans (pay325_apply v43 hx _)
  rw [Shape.rowMajor_val_two, Shape.rowMajor_val_three]
  show (8 * (y 0).val + (y 1).val) * 256 + (y 2).val = ((y 0).val * 8 + (y 1).val) * 256 + (y 2).val
  omega

theorem sum8_apply (s : FVec Ideal S32x8x256 .f32) {X : ℕ → ℕ → ℕ → ℝ} (hs : ∀ y : S32x8x256.Idx, s y = ((X (y 0) (y 1) (y 2) : ℝ) : EReal)) (y : S8x256.Idx) :
    multiReduction (F := Ideal) .add [0] S8x256 s 0x00000000#32 reduces_S32x8x256_S8x256 (.inl rfl) rfl y
      = ((∑ k ∈ range 32, X k (y 0) (y 1) : ℝ) : EReal) := by
  refine (Ideal.multiReduction_add_single _ _ _ _ _ _).trans ?_
  rw [← Fin.sum_univ_eq_sum_range (fun k => X k (y 0) (y 1)), ← coe_sum]
  exact Finset.sum_congr rfl fun (k : Fin 32) _ => hs _

/-- The running sums after a tile. -/
theorem acc1_apply (v43 : FVec Ideal S256x256 .bf16) (v55 : FVec Ideal S1x8x256 .f32) {X : ℕ → ℕ → ℝ} {C : ℕ → ℕ → ℝ}
    (hx : ∀ y : S256x256.Idx, v43 y = ((X (y 1) (y 0) : ℝ) : EReal)) (hc : ∀ y : S1x8x256.Idx, v55 y = ((C (y 1) (y 2) : ℝ) : EReal))
    (y : S1x8x256.Idx) : k0_pay329 (k0_pay328 (F := Ideal) v43 v55) y
      = ((C (y 1) (y 2) + ∑ k ∈ range 32, X (8 * k + (y 1).val) (y 2) : ℝ) : EReal) := by
  unfold k0_pay329
  rw [eq_ix3 y]
  refine (shapeCast_ab_1ab_apply _ _ _ _ _).trans ?_
  show shapeCast S8x256 v55 shapeCasts_S1x8x256_S8x256 _ + multiReduction .add [0] S8x256 (k0_pay327 v43) 0x00000000#32 reduces_S32x8x256_S8x256 (.inl rfl) rfl _ = _
  rw [EReal.coe_add]
  congr 1
  · exact (shapeCast_1ab_ab_apply _ _ _ _).trans (hc _)
  · exact sum8_apply _ (X := fun k r t => X (8 * k + r) t) (pay327_apply v43 hx) _

/-- The running sums of squares after a tile. -/
theorem acc2_apply (v43 : FVec Ideal S256x256 .bf16) (v64 : FVec Ideal S1x8x256 .f32) {X : ℕ → ℕ → ℝ} {C : ℕ → ℕ → ℝ}
    (hx : ∀ y : S256x256.Idx, v43 y = ((X (y 1) (y 0) : ℝ) : EReal)) (hc : ∀ y : S1x8x256.Idx, v64 y = ((C (y 1) (y 2) : ℝ) : EReal))
    (y : S1x8x256.Idx) : k0_pay330 (F := Ideal) (k0_pay327 v43) v64 y
      = ((C (y 1) (y 2) + ∑ k ∈ range 32, X (8 * k + (y 1).val) (y 2) * X (8 * k + (y 1).val) (y 2) : ℝ) : EReal) := by
  unfold k0_pay330
  rw [eq_ix3 y]
  refine (shapeCast_ab_1ab_apply _ _ _ _ _).trans ?_
  show shapeCast S8x256 v64 shapeCasts_S1x8x256_S8x256 _ + multiReduction .add [0] S8x256 (mulf (k0_pay327 v43) (k0_pay327 v43)) 0x00000000#32 reduces_S32x8x256_S8x256 (.inl rfl) rfl _ = _
  rw [EReal.coe_add]
  congr 1
  · exact (shapeCast_1ab_ab_apply _ _ _ _).trans (hc _)
  · refine sum8_apply _ (X := fun k r t => X (8 * k + r) t * X (8 * k + r) t) (fun z => ?_) _
    rw [mulf_apply, pay327_apply v43 hx, ← EReal.coe_mul]

end Cert.Proof.Value
end
-- ==== Proof.Value.Scr.lean ====
module

public import proofs.«01_k».proof.Proof.Value.Wh
public import Idealize.ShloMosaic.Lib.WritesUnit
public import Idealize.ShloMosaic.Lib.Exec.Geometry

/-!
# The scratch rows of the maxima

Eight strided stores of a half's maxima, read back in blocks of eight rows: the stores put the maximum of row `s` of
group `g` at row `9 s + g`, the loads read rows `9 s .. 9 s + 7`.
-/

@[expose] public section
set_option maxRecDepth 8192
noncomputable section
namespace Cert.Proof.Value
open Cert.KernelIdeal Cert.KernelIdeal.Gen
open Idealize.ShloMosaic Idealize.ShloMosaic.ValueIdx Finset

variable {sig : RefSig} {κ : Kind} {sp : Space}

/-- A load at a window reads the view there. -/
theorem readAt_unit_apply {s : Shape} {e : EltTy} {Val : EltTy → Type} (v : View sig κ sp s e) (f : v.ty.Contents Val) {off off' size : Fin s.rank → ℕ}
    (inb : ∀ a, off a + size a ≤ s.size a) (h : off = off') (x : (Rect.unit off size inb).shape.Idx) (k : s.Idx)
    (hk : ∀ a, (k a).val = off' a + (x a).val) :
    v.readAt Val (Rect.unit off size inb).toLoadRect f x = v.read Val f k := by
  subst h
  exact congrArg (v.read Val f) (funext fun a => Fin.ext ((show off a + 1 * (x a).val = off a + (x a).val by omega).trans (hk a).symm))

/-- The rows of the scratch that hold maxima. -/
def scrG (m : S8x8x128.Idx → EReal) (y : S80x128.Idx) : EReal :=
  if h : (y 0).val % 9 < 8 ∧ (y 0).val / 9 < 8 then m (ix3 ⟨(y 0).val % 9, h.1⟩ ⟨(y 0).val / 9, h.2⟩ (y 1)) else 0

/-- The rectangle of the rows `g`, `g + 9`, …. -/
abbrev strided (g : ℕ) (inb : ∀ a : Fin S80x128.rank, S8x128.size a = 0 ∨ ![g, 0] a + (![9, 1] a) * (S8x128.size a - 1) < S80x128.size a) : Rect S80x128 :=
  { off := ![g, 0], size := S8x128.size, stride := ![9, 1], inb := inb, stride_pos := spos_9_1 }

theorem strided_emb0 {g : ℕ} {inb} (x : S8x128.Idx) : ((strided g inb).emb x 0).val = g + 9 * (x 0).val := rfl
theorem strided_emb1 {g : ℕ} {inb} (x : S8x128.Idx) : ((strided g inb).emb x 1).val = 0 + 1 * (x 1).val := rfl

theorem scrG_emb (m : S8x8x128.Idx → EReal) (g : ℕ) (hg : g < 8) (inb) (x : S8x128.Idx) :
    scrG m ((strided g inb).emb x) = m (ix3 ⟨g, hg⟩ (x 0) (x 1)) := by
  have h0 := idx2_lt0 x
  have e0 := strided_emb0 (inb := inb) x
  unfold scrG
  rw [dif_pos (by rw [e0]; omega)]
  congr 1
  refine congr (congr (congrArg ix3 (Fin.ext ?_)) (Fin.ext ?_)) (Fin.ext ?_)
  · show ((strided g inb).emb x 0).val % 9 = g; omega
  · show ((strided g inb).emb x 0).val / 9 = (x 0).val; omega
  · exact (strided_emb1 (inb := inb) x).trans (by omega)

theorem mem_strided (g : ℕ) (inb) (s : ℕ) (hs : s < 8) (y : S80x128.Idx) (h : (y 0).val = g + 9 * s) : y ∈ (strided g inb).set := by
  rw [← Rect.map_emb_univ]
  refine Finset.mem_map.mpr ⟨ix2 (⟨s, hs⟩ : Fin 8) (y 1), Finset.mem_univ _, Rect.emb_eq_of_coords _ _ _ fun a => ?_⟩
  match a with
  | ⟨0, _⟩ => exact h
  | ⟨1, _⟩ => show (y 1).val = 0 + 1 * (y 1).val; omega

/-- Eight strided stores, and a load of eight rows. -/
theorem scr_read (v : View sig κ sp S80x128 .f32) (f : v.ty.Contents (Elt Ideal)) (m : FVec Ideal S8x8x128 .f32)
    (w0 w1 w2 w3 w4 w5 w6 w7 : FVec Ideal S8x128 .f32)
    (h0 : ∀ x : S8x128.Idx, w0 x = m (ix3 0 (x 0) (x 1))) (h1 : ∀ x : S8x128.Idx, w1 x = m (ix3 1 (x 0) (x 1)))
    (h2 : ∀ x : S8x128.Idx, w2 x = m (ix3 2 (x 0) (x 1))) (h3 : ∀ x : S8x128.Idx, w3 x = m (ix3 3 (x 0) (x 1)))
    (h4 : ∀ x : S8x128.Idx, w4 x = m (ix3 4 (x 0) (x 1))) (h5 : ∀ x : S8x128.Idx, w5 x = m (ix3 5 (x 0) (x 1)))
    (h6 : ∀ x : S8x128.Idx, w6 x = m (ix3 6 (x 0) (x 1))) (h7 : ∀ x : S8x128.Idx, w7 x = m (ix3 7 (x 0) (x 1)))
    (i0 i1 i2 i3 i4 i5 i6 i7) (L : List (View.Piece (Elt Ideal) S80x128 .f32)) (s : Fin 8) (inb : ∀ a : Fin S80x128.rank, ![9 * s.val, 0] a + S8x128.size a ≤ S80x128.size a)
    (x : S8x128.Idx) :
    v.readAt (Elt Ideal) (Rect.unit (s := S80x128) ![9 * s.val, 0] S8x128.size inb).toLoadRect
      (v.writes (Elt Ideal) f (⟨strided 7 i7, w7⟩ :: ⟨strided 6 i6, w6⟩ :: ⟨strided 5 i5, w5⟩ :: ⟨strided 4 i4, w4⟩
        :: ⟨strided 3 i3, w3⟩ :: ⟨strided 2 i2, w2⟩ :: ⟨strided 1 i1, w1⟩ :: ⟨strided 0 i0, w0⟩ :: L)) x
      = m (ix3 (x 0) s (x 1)) := by
  have hx0 := idx2_lt0 x
  have hs := s.isLt
  rw [readAt_unit_apply v _ inb rfl x (ix2 (⟨9 * s.val + (x 0).val, by omega⟩ : Fin 80) (x 1)) (fun a => by
    match a with
    | ⟨0, _⟩ => rfl
    | ⟨1, _⟩ => show (x 1).val = 0 + (x 1).val; omega)]
  have hG : m (ix3 (x 0) s (x 1)) = scrG m (ix2 (⟨9 * s.val + (x 0).val, by omega⟩ : Fin 80) (x 1)) := by
    unfold scrG
    rw [dif_pos (by show (9 * s.val + (x 0).val) % 9 < 8 ∧ (9 * s.val + (x 0).val) / 9 < 8; omega)]
    congr 1
    refine congr (congr (congrArg ix3 (Fin.ext ?_)) (Fin.ext ?_)) rfl
    · show (x 0).val = (9 * s.val + (x 0).val) % 9; omega
    · show s.val = (9 * s.val + (x 0).val) / 9; omega
  rw [hG]
  refine View.read_writes_apply_of_pieces v (v.writes (Elt Ideal) f L) (scrG m) [⟨strided 7 i7, w7⟩, ⟨strided 6 i6, w6⟩, ⟨strided 5 i5, w5⟩, ⟨strided 4 i4, w4⟩,
        ⟨strided 3 i3, w3⟩, ⟨strided 2 i2, w2⟩, ⟨strided 1 i1, w1⟩, ⟨strided 0 i0, w0⟩] (fun p hp z => ?_) _ ?_
  · simp only [List.mem_cons, List.not_mem_nil, or_false] at hp
    rcases hp with rfl | rfl | rfl | rfl | rfl | rfl | rfl | rfl
    · exact (h7 z).trans (scrG_emb m 7 (by norm_num) i7 z).symm
    · exact (h6 z).trans (scrG_emb m 6 (by norm_num) i6 z).symm
    · exact (h5 z).trans (scrG_emb m 5 (by norm_num) i5 z).symm
    · exact (h4 z).trans (scrG_emb m 4 (by norm_num) i4 z).symm
    · exact (h3 z).trans (scrG_emb m 3 (by norm_num) i3 z).symm
    · exact (h2 z).trans (scrG_emb m 2 (by norm_num) i2 z).symm
    · exact (h1 z).trans (scrG_emb m 1 (by norm_num) i1 z).symm
    · exact (h0 z).trans (scrG_emb m 0 (by norm_num) i0 z).symm
  · have key : ∀ g, (x 0).val = g → (9 * s.val + (x 0).val) = g + 9 * s.val := fun g hg => by omega
    have : (x 0).val = 7 ∨ (x 0).val = 6 ∨ (x 0).val = 5 ∨ (x 0).val = 4 ∨ (x 0).val = 3 ∨ (x 0).val = 2 ∨ (x 0).val = 1 ∨ (x 0).val = 0 := by omega
    rcases this with h | h | h | h | h | h | h | h
    · exact ⟨⟨strided 7 i7, w7⟩, by simp, mem_strided 7 i7 s.val hs _ (key 7 h)⟩
    · exact ⟨⟨strided 6 i6, w6⟩, by simp, mem_strided 6 i6 s.val hs _ (key 6 h)⟩
    · exact ⟨⟨strided 5 i5, w5⟩, by simp, mem_strided 5 i5 s.val hs _ (key 5 h)⟩
    · exact ⟨⟨strided 4 i4, w4⟩, by simp, mem_strided 4 i4 s.val hs _ (key 4 h)⟩
    · exact ⟨⟨strided 3 i3, w3⟩, by simp, mem_strided 3 i3 s.val hs _ (key 3 h)⟩
    · exact ⟨⟨strided 2 i2, w2⟩, by simp, mem_strided 2 i2 s.val hs _ (key 2 h)⟩
    · exact ⟨⟨strided 1 i1, w1⟩, by simp, mem_strided 1 i1 s.val hs _ (key 1 h)⟩
    · exact ⟨⟨strided 0 i0, w0⟩, by simp, mem_strided 0 i0 s.val hs _ (key 0 h)⟩

end Cert.Proof.Value
end
-- ==== Proof.Value.Trip.lean ====
module

public import proofs.«01_k».proof.Proof.Value.Scr
public import proofs.«01_k».proof.Proof.Ideal.Loop

/-!
# One trip of the main loop, at real values

The block that arrives is `B` (token, channel), the block that is emitted `P`; `G` and `Bt` are the weights, `M`, `S` and
`R` the mean, the deviation and its reciprocal of the emitted tokens.
-/

@[expose] public section
set_option maxRecDepth 8192
noncomputable section
namespace Cert.Proof.Value
open Cert.KernelIdeal Cert.KernelIdeal.Gen Cert.Proof.KernelIdeal
open Idealize.ShloMosaic Idealize.ShloMosaic.ValueIdx Finset

/-- The numbers that a point of the grid works on. -/
structure Blk where
  /-- the block that arrives -/
  B : ℕ → ℕ → ℝ
  /-- the block that is emitted -/
  P : ℕ → ℕ → ℝ
  /-- the weights -/
  G : ℕ → ℝ
  /-- the offsets -/
  Bt : ℕ → ℝ
  /-- the means of the emitted tokens -/
  M : ℕ → ℝ
  /-- their deviations -/
  S : ℕ → ℝ
  /-- the reciprocals of the deviations -/
  R : ℕ → ℝ
  hR : ∀ t, 0 ≤ R t

namespace Blk
variable (D : Blk)
/-- The weighted value of a channel of an emitted token. -/
def W (t ch : ℕ) : ℝ := D.P t ch * D.G ch + (D.G ch * -D.M t + D.Bt ch * D.S t)
/-- The scaled greatest magnitude of block `k` of a token. -/
def u (t k : ℕ) : ℝ := amax (fun j => D.W t (32 * k + j)) * D.R t * c448
/-- Its exponent. -/
def e (t k : ℕ) : ℤ := expo (nle (D.u t k))
/-- The code of a channel. -/
def code (t ch : ℕ) : ℝ := min 448 (max (-448) (D.W t ch * ((2 : ℝ) ^ (-D.e t (ch / 32)) * D.R t)))
end Blk

variable (i : grid0.Coords)
variable (arg2 : Memref sig .tc .vmem S512x3584 .bf16)
variable (arg7 : Memref sig .tc .vmem S512x3584 .fp8e4m3)
variable (arg11 : Memref sig .tc .vmem S2x3584x512 .bf16)
variable (arg12 : Memref sig .tc .vmem S3584x128 .f32)
variable (arg13 : Memref sig .tc .vmem S3584x128 .bf16)
variable (arg14 : Memref sig .tc .vmem S128x512 .bf16)
variable (arg15 : Memref sig .tc .vmem S8x512 .f32)
variable (arg16 : Memref sig .tc .vmem S2x8x512 .f32)
variable (arg17 : Memref sig .tc .vmem S128x512 .i32)
variable (arg18 : Memref sig .tc .vmem S80x128 .f32)
variable (X_arg2 : BufTy.Contents (Elt Ideal) arg2.view.ty) (X_arg13 : BufTy.Contents (Elt Ideal) arg13.view.ty)
  (X_arg14 : BufTy.Contents (Elt Ideal) arg14.view.ty) (X_arg12 : BufTy.Contents (Elt Ideal) arg12.view.ty) (X_arg15 : BufTy.Contents (Elt Ideal) arg15.view.ty)
  (Y_arg11 : BufTy.Contents (Elt Ideal) arg11.view.ty) (Y_arg16 : BufTy.Contents (Elt Ideal) arg16.view.ty) (Y_arg18 : BufTy.Contents (Elt Ideal) arg18.view.ty)
variable (D : Blk)

/-- The tables that the emission reads. -/
structure Tables : Prop where
  h12 : ∀ y : S3584x128.Idx, arg12.view.read (Elt Ideal) X_arg12 y = ((D.G (y 0) : ℝ) : EReal)
  h13 : ∀ y : S3584x128.Idx, arg13.view.read (Elt Ideal) X_arg13 y = ((laneL (D.G (y 0)) (D.Bt (y 0)) (y 1) : ℝ) : EReal)
  h14 : ∀ y : S128x512.Idx, arg14.view.read (Elt Ideal) X_arg14 y = ((laneR (D.M (y 1)) (D.S (y 1)) (y 0) : ℝ) : EReal)
  h15 : ∀ y : S8x512.Idx, arg15.view.read (Elt Ideal) X_arg15 y = ((D.R (y 1) : ℝ) : EReal)

/-- The slot that holds the emitted block. -/
def SlotIs : Prop := ∀ y : S2x3584x512.Idx, (y 0).val = 1 - (i 0).val % 2 → arg11.view.read (Elt Ideal) Y_arg11 y = ((D.P (y 2) (y 1) : ℝ) : EReal)
/-- The block that arrives. -/
def BlockIs : Prop := ∀ y : S512x3584.Idx, arg2.view.read (Elt Ideal) X_arg2 y = ((D.B (y 0) (y 1) : ℝ) : EReal)

variable (k : Fin k0_t1_loop.trips)

theorem k_lt : k.val < 28 := lt_of_lt_of_eq k.isLt (by decide)

variable {i arg2 arg7 arg11 arg12 arg13 arg14 arg15 arg16 arg17 arg18 X_arg2 X_arg13 X_arg14 X_arg12 X_arg15 Y_arg11 Y_arg16 Y_arg18 D}
variable (hB : BlockIs arg2 X_arg2 D) (hT : Tables arg12 arg13 arg14 arg15 X_arg13 X_arg14 X_arg12 X_arg15 D) (hP : SlotIs i arg11 Y_arg11 D)

include hB in
theorem ld2 (inb) (y : S256x256.Idx) :
    View.readAt (Elt Ideal) arg2.view (Rect.unit (s := S512x3584) (k0_off1 k) S256x256.size inb).toLoadRect X_arg2 y
      = ((D.B (256 * (k.val / 14) + (y 0).val) (256 * (k.val % 14) + (y 1).val) : ℝ) : EReal) := by
  have hk := k_lt k
  have h0 := idx2_lt0 y
  have h1 := idx2_lt1 y
  rw [readAt_unit_apply _ _ inb (off1_eq k) y (ix2 (⟨256 * (k.val / 14) + (y 0).val, by omega⟩ : Fin 512) (⟨256 * (k.val % 14) + (y 1).val, by omega⟩ : Fin 3584))
    (fun a => by
      match a with
      | ⟨0, _⟩ => rfl
      | ⟨1, _⟩ => rfl), hB]

include hT in
theorem ld13 (inb) (y : S256x128.Idx) :
    View.readAt (Elt Ideal) arg13.view (Rect.unit (s := S3584x128) (k0_off5 k) S256x128.size inb).toLoadRect X_arg13 y
      = ((laneL (D.G (256 * (k.val % 14) + (y 0).val)) (D.Bt (256 * (k.val % 14) + (y 0).val)) (y 1) : ℝ) : EReal) := by
  have hk := k_lt k
  have h0 := idx2_lt0 y
  rw [readAt_unit_apply _ _ inb (off5_eq k) y (ix2 (⟨256 * (k.val % 14) + (y 0).val, by omega⟩ : Fin 3584) (y 1))
    (fun a => by
      match a with
      | ⟨0, _⟩ => rfl
      | ⟨1, _⟩ => show (y 1).val = 0 + (y 1).val; omega), hT.h13]

include hT in
theorem ld12 (inb) (y : S256x128.Idx) :
    View.readAt (Elt Ideal) arg12.view (Rect.unit (s := S3584x128) (k0_off5 k) S256x128.size inb).toLoadRect X_arg12 y
      = ((D.G (256 * (k.val % 14) + (y 0).val) : ℝ) : EReal) := by
  have hk := k_lt k
  have h0 := idx2_lt0 y
  rw [readAt_unit_apply _ _ inb (off5_eq k) y (ix2 (⟨256 * (k.val % 14) + (y 0).val, by omega⟩ : Fin 3584) (y 1))
    (fun a => by
      match a with
      | ⟨0, _⟩ => rfl
      | ⟨1, _⟩ => show (y 1).val = 0 + (y 1).val; omega), hT.h12]

include hT in
theorem ld14 (inb) (y : S128x256.Idx) :
    View.readAt (Elt Ideal) arg14.view (Rect.unit (s := S128x512) (k0_off6 k) S128x256.size inb).toLoadRect X_arg14 y
      = ((laneR (D.M (256 * (k.val / 14) + (y 1).val)) (D.S (256 * (k.val / 14) + (y 1).val)) (y 0) : ℝ) : EReal) := by
  have hk := k_lt k
  have h1 := idx2_lt1 y
  rw [readAt_unit_apply _ _ inb (off6_eq k) y (ix2 (y 0) (⟨256 * (k.val / 14) + (y 1).val, by omega⟩ : Fin 512))
    (fun a => by
      match a with
      | ⟨0, _⟩ => show (y 0).val = 0 + (y 0).val; omega
      | ⟨1, _⟩ => rfl), hT.h14]

include hT in
theorem ld15 {b : BitVec 32} {h : ℕ} (hh : h ≤ 128) (ho : k0_off8 k b = ![0, 256 * (k.val / 14) + h]) (inb) (y : S8x128.Idx) :
    View.readAt (Elt Ideal) arg15.view (Rect.unit (s := S8x512) (k0_off8 k b) S8x128.size inb).toLoadRect X_arg15 y
      = ((D.R (256 * (k.val / 14) + h + (y 1).val) : ℝ) : EReal) := by
  have hk := k_lt k
  have h1 := idx2_lt1 y
  rw [readAt_unit_apply _ _ inb ho y (ix2 (y 0) (⟨256 * (k.val / 14) + h + (y 1).val, by omega⟩ : Fin 512))
    (fun a => by
      match a with
      | ⟨0, _⟩ => show (y 0).val = 0 + (y 0).val; omega
      | ⟨1, _⟩ => rfl), hT.h15]

include hP in
theorem ld11 {b : BitVec 32} {h : ℕ} (hh : h ≤ 128) (ho : k0_off7 i k b = ![1 - (i 0).val % 2, 256 * (k.val % 14), 256 * (k.val / 14) + h]) (inb) (y : S1x256x128.Idx) :
    View.readAt (Elt Ideal) arg11.view (Rect.unit (s := S2x3584x512) (k0_off7 i k b) S1x256x128.size inb).toLoadRect
      (arg11.view.writes (Elt Ideal) Y_arg11 (trip.sl.HY_arg11_1 (F := Ideal) i arg2 X_arg2 k)) y
      = ((D.P (256 * (k.val / 14) + h + (y 2).val) (256 * (k.val % 14) + (y 1).val) : ℝ) : EReal) := by
  have hk := k_lt k
  have h0 : (y 0).val < 1 := (y 0).isLt
  have h1 : (y 1).val < 256 := (y 1).isLt
  have h2 : (y 2).val < 128 := (y 2).isLt
  rw [readAt_unit_apply _ _ inb ho y (ix3 (⟨1 - (i 0).val % 2, by omega⟩ : Fin 2) (⟨256 * (k.val % 14) + (y 1).val, by omega⟩ : Fin 3584)
      (⟨256 * (k.val / 14) + h + (y 2).val, by omega⟩ : Fin 512))
    (fun a => by
      match a with
      | ⟨0, _⟩ => show 1 - (i 0).val % 2 = 1 - (i 0).val % 2 + (y 0).val; omega
      | ⟨1, _⟩ => rfl
      | ⟨2, _⟩ => rfl)]
  unfold trip.sl.HY_arg11_1
  rw [View.read_writes_cons_unit_of_not_mem _ _ _ _ _ _ (off2_eq i k) 0 (by
    show 1 - (i 0).val % 2 < (i 0).val % 2 ∨ (i 0).val % 2 + 1 ≤ 1 - (i 0).val % 2
    omega)]
  exact hP _ rfl

/-- The weighted values of a half of a tile. -/
def tileW (D : Blk) (k h : ℕ) (c l : ℕ) : ℝ := D.W (256 * (k / 14) + h + l) (256 * (k % 14) + c)
/-- The reciprocal deviations of a half of a tile. -/
def tileR (D : Blk) (k h : ℕ) (l : ℕ) : ℝ := D.R (256 * (k / 14) + h + l)

include hT hP in
/-- The weighted values of the first half. -/
theorem r_4_apply (y : S256x128.Idx) : trip.sl.r_4 (F := Ideal) i arg2 arg11 arg12 arg13 arg14 X_arg2 X_arg13 X_arg14 X_arg12 k Y_arg11 y = ((tileW D k.val 0 (y 0) (y 1) : ℝ) : EReal) := by
  unfold trip.sl.r_4
  rw [wh1_apply _ _ _ _ (X := fun c l => D.P (256 * (k.val / 14) + 0 + l) (256 * (k.val % 14) + c)) (G := fun c => D.G (256 * (k.val % 14) + c))
    (B := fun c => D.Bt (256 * (k.val % 14) + c)) (M := fun t => D.M (256 * (k.val / 14) + t)) (S := fun t => D.S (256 * (k.val / 14) + t))
    (ld13 k hT _) (ld14 k hT _) (ld11 k hP (by norm_num) (off7_0_eq i k) _) (ld12 k hT _)]
  rfl

/-- A load of the staged maxima of the first half. -/
theorem rows1 (f : BufTy.Contents (Elt Ideal) arg18.view.ty) (s : Fin 8) (inb : ∀ a : Fin S80x128.rank, ![9 * s.val, 0] a + S8x128.size a ≤ S80x128.size a) (x : S8x128.Idx) :
    arg18.view.readAt (Elt Ideal) (Rect.unit (s := S80x128) ![9 * s.val, 0] S8x128.size inb).toLoadRect
      (arg18.view.writes (Elt Ideal) f (trip.sl.HY_arg18_8 (F := Ideal) i arg2 arg11 arg12 arg13 arg14 X_arg2 X_arg13 X_arg14 X_arg12 k Y_arg11)) x = maxOf (trip.sl.r_4 (F := Ideal) i arg2 arg11 arg12 arg13 arg14 X_arg2 X_arg13 X_arg14 X_arg12 k Y_arg11) (ix3 (x 0) s (x 1)) := by
  have h := scr_read arg18.view f (maxOf (trip.sl.r_4 (F := Ideal) i arg2 arg11 arg12 arg13 arg14 X_arg2 X_arg13 X_arg14 X_arg12 k Y_arg11)) _ _ _ _ _ _ _ _
      (fun x => (cast_self _ x).trans (slab_apply (maxOf (trip.sl.r_4 (F := Ideal) i arg2 arg11 arg12 arg13 arg14 X_arg2 X_arg13 X_arg14 X_arg12 k Y_arg11)) 0 (by norm_num) slices_S8x8x128_o0_0_0_S1x8x128 x))
      (fun x => (cast_self _ x).trans (slab_apply (maxOf (trip.sl.r_4 (F := Ideal) i arg2 arg11 arg12 arg13 arg14 X_arg2 X_arg13 X_arg14 X_arg12 k Y_arg11)) 1 (by norm_num) slices_S8x8x128_o1_0_0_S1x8x128 x))
      (fun x => (cast_self _ x).trans (slab_apply (maxOf (trip.sl.r_4 (F := Ideal) i arg2 arg11 arg12 arg13 arg14 X_arg2 X_arg13 X_arg14 X_arg12 k Y_arg11)) 2 (by norm_num) slices_S8x8x128_o2_0_0_S1x8x128 x))
      (fun x => (cast_self _ x).trans (slab_apply (maxOf (trip.sl.r_4 (F := Ideal) i arg2 arg11 arg12 arg13 arg14 X_arg2 X_arg13 X_arg14 X_arg12 k Y_arg11)) 3 (by norm_num) slices_S8x8x128_o3_0_0_S1x8x128 x))
      (fun x => (cast_self _ x).trans (slab_apply (maxOf (trip.sl.r_4 (F := Ideal) i arg2 arg11 arg12 arg13 arg14 X_arg2 X_arg13 X_arg14 X_arg12 k Y_arg11)) 4 (by norm_num) slices_S8x8x128_o4_0_0_S1x8x128 x))
      (fun x => (cast_self _ x).trans (slab_apply (maxOf (trip.sl.r_4 (F := Ideal) i arg2 arg11 arg12 arg13 arg14 X_arg2 X_arg13 X_arg14 X_arg12 k Y_arg11)) 5 (by norm_num) slices_S8x8x128_o5_0_0_S1x8x128 x))
      (fun x => (cast_self _ x).trans (slab_apply (maxOf (trip.sl.r_4 (F := Ideal) i arg2 arg11 arg12 arg13 arg14 X_arg2 X_arg13 X_arg14 X_arg12 k Y_arg11)) 6 (by norm_num) slices_S8x8x128_o6_0_0_S1x8x128 x))
      (fun x => (cast_self _ x).trans (slab_apply (maxOf (trip.sl.r_4 (F := Ideal) i arg2 arg11 arg12 arg13 arg14 X_arg2 X_arg13 X_arg14 X_arg12 k Y_arg11)) 7 (by norm_num) slices_S8x8x128_o7_0_0_S1x8x128 x))
      inb_S80x128_S8x128_0_0_s_9_1 inb_S80x128_S8x128_1_0_s_9_1 inb_S80x128_S8x128_2_0_s_9_1 inb_S80x128_S8x128_3_0_s_9_1
      inb_S80x128_S8x128_4_0_s_9_1 inb_S80x128_S8x128_5_0_s_9_1 inb_S80x128_S8x128_6_0_s_9_1 inb_S80x128_S8x128_7_0_s_9_1
      [] s inb x
  refine Eq.trans ?_ h
  unfold trip.sl.HY_arg18_8 trip.sl.r_6 trip.sl.r_5 trip.sl.r_4
  rfl

include hT hP in
/-- The first half in closed form: the scaled maxima, the search, the reciprocal deviations. -/
theorem form1 : ∃ v0 v1 v2 v3 v4 v5 v6 v7 : FVec Ideal S8x128 .f32,
    trip.sl.r_10 (F := Ideal) i arg2 arg11 arg12 arg13 arg14 arg15 arg18 X_arg2 X_arg13 X_arg14 X_arg12 X_arg15 k Y_arg11 Y_arg18 = U1 v0 v1 v2 v3 v4 v5 v6 v7 (trip.sl.r_9 (F := Ideal) arg15 X_arg15 k)
    ∧ trip.sl.r_13 (F := Ideal) i arg2 arg11 arg12 arg13 arg14 arg15 arg18 X_arg2 X_arg13 X_arg14 X_arg12 X_arg15 k Y_arg11 Y_arg18 = P1 v0 v1 v2 v3 v4 v5 v6 v7 (trip.sl.r_9 (F := Ideal) arg15 X_arg15 k)
    ∧ trip.sl.r_14 (F := Ideal) i arg2 arg11 arg12 arg13 arg14 arg15 arg18 X_arg2 X_arg13 X_arg14 X_arg12 X_arg15 k Y_arg11 Y_arg18 = Q1 v0 v1 v2 v3 v4 v5 v6 v7 (trip.sl.r_9 (F := Ideal) arg15 X_arg15 k)
    ∧ (∀ x : S8x128.Idx, U1 v0 v1 v2 v3 v4 v5 v6 v7 (trip.sl.r_9 (F := Ideal) arg15 X_arg15 k) x = ((uAt (tileW D k.val 0) (tileR D k.val 0) (x 0) (x 1) : ℝ) : EReal))
    ∧ ∀ x : S8x128.Idx, trip.sl.r_9 (F := Ideal) arg15 X_arg15 k x = ((tileR D k.val 0 (x 1) : ℝ) : EReal) := by
  have hrs : ∀ x : S8x128.Idx, trip.sl.r_9 (F := Ideal) arg15 X_arg15 k x = ((tileR D k.val 0 (x 1) : ℝ) : EReal) := by
    unfold trip.sl.r_9
    exact fun x => ld15 k hT (by norm_num) (off8_0_eq k) _ x
  refine ⟨_, _, _, _, _, _, _, _, rfl, rfl, rfl, fun x => U1_apply (trip.sl.r_4 (F := Ideal) i arg2 arg11 arg12 arg13 arg14 X_arg2 X_arg13 X_arg14 X_arg12 k Y_arg11) _ _ _ _ _ _ _ _ _ (r_4_apply k hT hP)
      (rows1 k (View.junk _) 0 inb_S80x128_S8x128_0_0) (rows1 k Y_arg18 1 inb_S80x128_S8x128_9_0) (rows1 k Y_arg18 2 inb_S80x128_S8x128_18_0) (rows1 k Y_arg18 3 inb_S80x128_S8x128_27_0)
      (rows1 k Y_arg18 4 inb_S80x128_S8x128_36_0) (rows1 k Y_arg18 5 inb_S80x128_S8x128_45_0) (rows1 k Y_arg18 6 inb_S80x128_S8x128_54_0)
      (rows1 k Y_arg18 7 inb_S80x128_S8x128_63_0) hrs x, hrs⟩

include hT hP in
/-- The weighted values of the second half. -/
theorem r_22_apply (y : S256x128.Idx) : trip.sl.r_22 (F := Ideal) i arg2 arg11 arg12 arg13 arg14 X_arg2 X_arg13 X_arg14 X_arg12 k Y_arg11 y = ((tileW D k.val 128 (y 0) (y 1) : ℝ) : EReal) := by
  unfold trip.sl.r_22 trip.sl.r_3
  rw [wh2_apply _ _ _ _ (X := fun c l => D.P (256 * (k.val / 14) + 128 + l) (256 * (k.val % 14) + c)) (G := fun c => D.G (256 * (k.val % 14) + c))
    (B := fun c => D.Bt (256 * (k.val % 14) + c)) (M := fun t => D.M (256 * (k.val / 14) + t)) (S := fun t => D.S (256 * (k.val / 14) + t))
    (ld13 k hT _) (ld14 k hT _) (ld11 k hP (by norm_num) (off7_1_eq i k) _) (ld12 k hT _)]
  show ((D.P _ _ * _ + (_ * -D.M (256 * (k.val / 14) + (128 + (y 1).val)) + _ * D.S (256 * (k.val / 14) + (128 + (y 1).val))) : ℝ) : EReal) = _
  rw [← Nat.add_assoc]
  rfl

/-- A load of the staged maxima of the second half. -/
theorem rows2 (f : BufTy.Contents (Elt Ideal) arg18.view.ty) (s : Fin 8) (inb : ∀ a : Fin S80x128.rank, ![9 * s.val, 0] a + S8x128.size a ≤ S80x128.size a) (x : S8x128.Idx) :
    arg18.view.readAt (Elt Ideal) (Rect.unit (s := S80x128) ![9 * s.val, 0] S8x128.size inb).toLoadRect
      (arg18.view.writes (Elt Ideal) f (trip.sl.HY_arg18_16 (F := Ideal) i arg2 arg11 arg12 arg13 arg14 X_arg2 X_arg13 X_arg14 X_arg12 k Y_arg11)) x = maxOf (trip.sl.r_22 (F := Ideal) i arg2 arg11 arg12 arg13 arg14 X_arg2 X_arg13 X_arg14 X_arg12 k Y_arg11) (ix3 (x 0) s (x 1)) := by
  have h := scr_read arg18.view f (maxOf (trip.sl.r_22 (F := Ideal) i arg2 arg11 arg12 arg13 arg14 X_arg2 X_arg13 X_arg14 X_arg12 k Y_arg11)) _ _ _ _ _ _ _ _
      (fun x => (cast_self _ x).trans (slab_apply (maxOf (trip.sl.r_22 (F := Ideal) i arg2 arg11 arg12 arg13 arg14 X_arg2 X_arg13 X_arg14 X_arg12 k Y_arg11)) 0 (by norm_num) slices_S8x8x128_o0_0_0_S1x8x128 x))
      (fun x => (cast_self _ x).trans (slab_apply (maxOf (trip.sl.r_22 (F := Ideal) i arg2 arg11 arg12 arg13 arg14 X_arg2 X_arg13 X_arg14 X_arg12 k Y_arg11)) 1 (by norm_num) slices_S8x8x128_o1_0_0_S1x8x128 x))
      (fun x => (cast_self _ x).trans (slab_apply (maxOf (trip.sl.r_22 (F := Ideal) i arg2 arg11 arg12 arg13 arg14 X_arg2 X_arg13 X_arg14 X_arg12 k Y_arg11)) 2 (by norm_num) slices_S8x8x128_o2_0_0_S1x8x128 x))
      (fun x => (cast_self _ x).trans (slab_apply (maxOf (trip.sl.r_22 (F := Ideal) i arg2 arg11 arg12 arg13 arg14 X_arg2 X_arg13 X_arg14 X_arg12 k Y_arg11)) 3 (by norm_num) slices_S8x8x128_o3_0_0_S1x8x128 x))
      (fun x => (cast_self _ x).trans (slab_apply (maxOf (trip.sl.r_22 (F := Ideal) i arg2 arg11 arg12 arg13 arg14 X_arg2 X_arg13 X_arg14 X_arg12 k Y_arg11)) 4 (by norm_num) slices_S8x8x128_o4_0_0_S1x8x128 x))
      (fun x => (cast_self _ x).trans (slab_apply (maxOf (trip.sl.r_22 (F := Ideal) i arg2 arg11 arg12 arg13 arg14 X_arg2 X_arg13 X_arg14 X_arg12 k Y_arg11)) 5 (by norm_num) slices_S8x8x128_o5_0_0_S1x8x128 x))
      (fun x => (cast_self _ x).trans (slab_apply (maxOf (trip.sl.r_22 (F := Ideal) i arg2 arg11 arg12 arg13 arg14 X_arg2 X_arg13 X_arg14 X_arg12 k Y_arg11)) 6 (by norm_num) slices_S8x8x128_o6_0_0_S1x8x128 x))
      (fun x => (cast_self _ x).trans (slab_apply (maxOf (trip.sl.r_22 (F := Ideal) i arg2 arg11 arg12 arg13 arg14 X_arg2 X_arg13 X_arg14 X_arg12 k Y_arg11)) 7 (by norm_num) slices_S8x8x128_o7_0_0_S1x8x128 x))
      inb_S80x128_S8x128_0_0_s_9_1 inb_S80x128_S8x128_1_0_s_9_1 inb_S80x128_S8x128_2_0_s_9_1 inb_S80x128_S8x128_3_0_s_9_1
      inb_S80x128_S8x128_4_0_s_9_1 inb_S80x128_S8x128_5_0_s_9_1 inb_S80x128_S8x128_6_0_s_9_1 inb_S80x128_S8x128_7_0_s_9_1
      (trip.sl.HY_arg18_8 (F := Ideal) i arg2 arg11 arg12 arg13 arg14 X_arg2 X_arg13 X_arg14 X_arg12 k Y_arg11) s inb x
  refine Eq.trans ?_ h
  unfold trip.sl.HY_arg18_16 trip.sl.r_24 trip.sl.r_23 trip.sl.r_22
  rfl

include hT hP in
/-- The second half in closed form: the scaled maxima, the search, the reciprocal deviations. -/
theorem form2 : ∃ v0 v1 v2 v3 v4 v5 v6 v7 : FVec Ideal S8x128 .f32,
    trip.sl.r_27 (F := Ideal) i arg2 arg11 arg12 arg13 arg14 arg15 arg18 X_arg2 X_arg13 X_arg14 X_arg12 X_arg15 k Y_arg11 Y_arg18 = U2 v0 v1 v2 v3 v4 v5 v6 v7 (trip.sl.r_26 (F := Ideal) arg15 X_arg15 k)
    ∧ trip.sl.r_30 (F := Ideal) i arg2 arg11 arg12 arg13 arg14 arg15 arg18 X_arg2 X_arg13 X_arg14 X_arg12 X_arg15 k Y_arg11 Y_arg18 = P2 v0 v1 v2 v3 v4 v5 v6 v7 (trip.sl.r_26 (F := Ideal) arg15 X_arg15 k)
    ∧ trip.sl.r_31 (F := Ideal) i arg2 arg11 arg12 arg13 arg14 arg15 arg18 X_arg2 X_arg13 X_arg14 X_arg12 X_arg15 k Y_arg11 Y_arg18 = Q2 v0 v1 v2 v3 v4 v5 v6 v7 (trip.sl.r_26 (F := Ideal) arg15 X_arg15 k)
    ∧ (∀ x : S8x128.Idx, U2 v0 v1 v2 v3 v4 v5 v6 v7 (trip.sl.r_26 (F := Ideal) arg15 X_arg15 k) x = ((uAt (tileW D k.val 128) (tileR D k.val 128) (x 0) (x 1) : ℝ) : EReal))
    ∧ ∀ x : S8x128.Idx, trip.sl.r_26 (F := Ideal) arg15 X_arg15 k x = ((tileR D k.val 128 (x 1) : ℝ) : EReal) := by
  have hrs : ∀ x : S8x128.Idx, trip.sl.r_26 (F := Ideal) arg15 X_arg15 k x = ((tileR D k.val 128 (x 1) : ℝ) : EReal) := by
    unfold trip.sl.r_26
    exact fun x => ld15 k hT (by norm_num) (off8_1_eq k) _ x
  refine ⟨_, _, _, _, _, _, _, _, rfl, rfl, rfl, fun x => U2_apply (trip.sl.r_22 (F := Ideal) i arg2 arg11 arg12 arg13 arg14 X_arg2 X_arg13 X_arg14 X_arg12 k Y_arg11) _ _ _ _ _ _ _ _ _ (r_22_apply k hT hP)
      (rows2 k (View.junk _) 0 inb_S80x128_S8x128_0_0) (rows2 k Y_arg18 1 inb_S80x128_S8x128_9_0) (rows2 k Y_arg18 2 inb_S80x128_S8x128_18_0) (rows2 k Y_arg18 3 inb_S80x128_S8x128_27_0)
      (rows2 k Y_arg18 4 inb_S80x128_S8x128_36_0) (rows2 k Y_arg18 5 inb_S80x128_S8x128_45_0) (rows2 k Y_arg18 6 inb_S80x128_S8x128_54_0)
      (rows2 k Y_arg18 7 inb_S80x128_S8x128_63_0) hrs x, hrs⟩

end Cert.Proof.Value
end
-- ==== Proof.Value.Loop.lean ====
module

public import proofs.«01_k».proof.Proof.Value.Trip

/-!
# The main loop, at real values

What the twenty-eight trips leave: the block that arrives, transposed, in its slot; the sums over its channels, eight
rows of them; the exponents and the codes of the block that is emitted.  Trip `k` works on the tokens `256 (k / 14) ..`
and the channels `256 (k % 14) ..`.
-/

@[expose] public section
set_option maxRecDepth 8192
noncomputable section
namespace Cert.Proof.Value
open Cert.KernelIdeal Cert.KernelIdeal.Gen Cert.Proof.KernelIdeal
open Idealize.ShloMosaic Idealize.ShloMosaic.ValueIdx Finset

/-- What is read after a write of a window: the payload where the window is hit, the rest elsewhere. -/
theorem read_piece {sig : RefSig} {κ : Kind} {sp : Space} {s : Shape} {e : EltTy} {Val : EltTy → Type} (v : View sig κ sp s e) (f : v.ty.Contents Val)
    {off off' size : Fin s.rank → ℕ} (inb : ∀ a, off a + size a ≤ s.size a) (w : (Rect.unit off size inb).shape.Idx → Val e)
    (L : List (View.Piece Val s e)) (y : s.Idx) (heq : off = off') (P : Val e → Prop)
    (hit : ∀ x : (Rect.unit off size inb).shape.Idx, (∀ a, (y a).val = off' a + (x a).val) → P (w x))
    (miss : (∃ a, (y a).val < off' a ∨ off' a + size a ≤ (y a).val) → P (v.read Val (v.writes Val f L) y)) :
    P (v.read Val (v.writes Val f ((⟨Rect.unit off size inb, w⟩ : View.Piece Val s e) :: L)) y) := by
  by_cases h : ∀ a, off' a ≤ (y a).val ∧ (y a).val < off' a + size a
  · have hx : ∀ a, (y a).val = off' a + (Rect.unitLocal (s := s) (off := off') (size := size) y h a).val := fun a => by
      have := h a
      rw [Rect.unitLocal_val]
      omega
    rw [View.read_writes_cons_unit_of_mem v f inb w L y (Rect.unitLocal (s := s) (off := off') (size := size) y h) heq hx]
    exact hit _ hx
  · obtain ⟨a, ha⟩ := not_forall.mp h
    have ha' : (y a).val < off' a ∨ off' a + size a ≤ (y a).val := by omega
    rw [View.read_writes_cons_unit_of_not_mem v f inb w L y heq a ha']
    exact miss ⟨a, ha'⟩

theorem uAt_tile (D : Blk) (k h i l : ℕ) : uAt (tileW D k h) (tileR D k h) i l = D.u (256 * (k / 14) + h + l) (8 * (k % 14) + i) := by
  unfold uAt Blk.u tileW tileR
  congr 4
  funext j
  congr 1
  omega

theorem tileR_nonneg (D : Blk) (k h l : ℕ) : 0 ≤ tileR D k h l := D.hR _

/-- The part of the sum over the channels `8 j + r`, `j < 32 n`, of the values (`q = 0`) or of their squares. -/
def accv (D : Blk) (q r t n : ℕ) : ℝ := ∑ j ∈ range (32 * n), (if q = 0 then D.B t (8 * j + r) else D.B t (8 * j + r) * D.B t (8 * j + r))

theorem accv_succ (D : Blk) (q r t n : ℕ) : accv D q r t (n + 1)
    = accv D q r t n + ∑ k ∈ range 32, (if q = 0 then D.B t (256 * n + (8 * k + r)) else D.B t (256 * n + (8 * k + r)) * D.B t (256 * n + (8 * k + r))) := by
  unfold accv
  rw [show 32 * (n + 1) = 32 * n + 32 by ring, Finset.sum_range_add]
  congr 1
  refine Finset.sum_congr rfl fun k _ => ?_
  rw [show 8 * (32 * n + k) + r = 256 * n + (8 * k + r) by ring]

variable {i : grid0.Coords}
variable {arg2 : Memref sig .tc .vmem S512x3584 .bf16}
variable {arg7 : Memref sig .tc .vmem S512x3584 .fp8e4m3}
variable {arg11 : Memref sig .tc .vmem S2x3584x512 .bf16}
variable {arg12 : Memref sig .tc .vmem S3584x128 .f32}
variable {arg13 : Memref sig .tc .vmem S3584x128 .bf16}
variable {arg14 : Memref sig .tc .vmem S128x512 .bf16}
variable {arg15 : Memref sig .tc .vmem S8x512 .f32}
variable {arg16 : Memref sig .tc .vmem S2x8x512 .f32}
variable {arg17 : Memref sig .tc .vmem S128x512 .i32}
variable {arg18 : Memref sig .tc .vmem S80x128 .f32}
variable {X_arg2 : BufTy.Contents (Elt Ideal) arg2.view.ty} {X_arg13 : BufTy.Contents (Elt Ideal) arg13.view.ty}
  {X_arg14 : BufTy.Contents (Elt Ideal) arg14.view.ty} {X_arg12 : BufTy.Contents (Elt Ideal) arg12.view.ty} {X_arg15 : BufTy.Contents (Elt Ideal) arg15.view.ty}
  {Y_arg11 : BufTy.Contents (Elt Ideal) arg11.view.ty} {Y_arg16 : BufTy.Contents (Elt Ideal) arg16.view.ty} {Y_arg18 : BufTy.Contents (Elt Ideal) arg18.view.ty}
  {Y_arg17 : BufTy.Contents (Elt Ideal) arg17.view.ty} {Y_arg7 : BufTy.Contents (Elt Ideal) arg7.view.ty}
variable {D : Blk} (k : Fin k0_t1_loop.trips)

variable (i arg11 Y_arg11 D) in
/-- The tiles before trip `n` of the arriving block lie in its slot. -/
def Arrived (n : ℕ) : Prop := ∀ y : S2x3584x512.Idx, (y 0).val = (i 0).val % 2 → (y 2).val / 256 * 14 + (y 1).val / 256 < n →
  arg11.view.read (Elt Ideal) Y_arg11 y = ((D.B (y 2) (y 1) : ℝ) : EReal)
variable (arg16 Y_arg16 D) in
/-- The sums before trip `n`. -/
def Summed (n : ℕ) : Prop := ∀ y : S2x8x512.Idx,
  arg16.view.read (Elt Ideal) Y_arg16 y = ((accv D (y 0) (y 1) (y 2) (min (n - 14 * ((y 2).val / 256)) 14) : ℝ) : EReal)
variable (arg17 Y_arg17 D) in
/-- The exponents written before trip `n`. -/
def Exps (n : ℕ) : Prop := ∀ y : S128x512.Idx, (y 0).val < 112 → (y 1).val / 256 * 14 + (y 0).val / 8 < n →
  arg17.view.read (Elt Ideal) Y_arg17 y = BitVec.ofInt 32 (D.e (y 1) (y 0)) + 127#32
variable (arg7 Y_arg7 D) in
/-- The codes written before trip `n`. -/
def Codes (n : ℕ) : Prop := ∀ y : S512x3584.Idx, (y 0).val / 256 * 14 + (y 1).val / 256 < n →
  arg7.view.read (Elt Ideal) Y_arg7 y = ((D.code (y 0) (y 1) : ℝ) : EReal)

/-- The exponents that the half writes. -/
theorem exps1 (hT : Tables arg12 arg13 arg14 arg15 X_arg13 X_arg14 X_arg12 X_arg15 D) (hP : SlotIs i arg11 Y_arg11 D) (x : S8x128.Idx) :
    k0_pay350 (F := Ideal) (trip.sl.r_10 (F := Ideal) i arg2 arg11 arg12 arg13 arg14 arg15 arg18 X_arg2 X_arg13 X_arg14 X_arg12 X_arg15 k Y_arg11 Y_arg18) (trip.sl.r_13 (F := Ideal) i arg2 arg11 arg12 arg13 arg14 arg15 arg18 X_arg2 X_arg13 X_arg14 X_arg12 X_arg15 k Y_arg11 Y_arg18) (trip.sl.r_14 (F := Ideal) i arg2 arg11 arg12 arg13 arg14 arg15 arg18 X_arg2 X_arg13 X_arg14 X_arg12 X_arg15 k Y_arg11 Y_arg18) x
      = BitVec.ofInt 32 (D.e (256 * (k.val / 14) + 0 + (x 1).val) (8 * (k.val % 14) + (x 0).val)) + 127#32 := by
  obtain ⟨v0, v1, v2, v3, v4, v5, v6, v7, hU, hPn, hQ, hu, hr⟩ := form1 (Y_arg18 := Y_arg18) k hT hP
  rw [hU, hPn, hQ, X1_apply v0 v1 v2 v3 v4 v5 v6 v7 _ x (uAt_nonneg (tileR_nonneg D k.val 0 _) _) (hu x), uAt_tile]
  rfl

/-- The codes that the half writes. -/
theorem codes1 (hT : Tables arg12 arg13 arg14 arg15 X_arg13 X_arg14 X_arg12 X_arg15 D) (hP : SlotIs i arg11 Y_arg11 D) (x : S128x256.Idx) :
    k0_pay358 (F := Ideal) (trip.sl.r_4 (F := Ideal) i arg2 arg11 arg12 arg13 arg14 X_arg2 X_arg13 X_arg14 X_arg12 k Y_arg11) (trip.sl.r_15 (F := Ideal) i arg2 arg11 arg12 arg13 arg14 arg15 arg18 X_arg2 X_arg13 X_arg14 X_arg12 X_arg15 k Y_arg11 Y_arg18) (trip.sl.r_16 (F := Ideal) i arg2 arg11 arg12 arg13 arg14 arg15 arg18 X_arg2 X_arg13 X_arg14 X_arg12 X_arg15 k Y_arg11 Y_arg18) (trip.sl.r_17 (F := Ideal) i arg2 arg11 arg12 arg13 arg14 arg15 arg18 X_arg2 X_arg13 X_arg14 X_arg12 X_arg15 k Y_arg11 Y_arg18) (trip.sl.r_18 (F := Ideal) i arg2 arg11 arg12 arg13 arg14 arg15 arg18 X_arg2 X_arg13 X_arg14 X_arg12 X_arg15 k Y_arg11 Y_arg18) (trip.sl.r_19 (F := Ideal) i arg2 arg11 arg12 arg13 arg14 arg15 arg18 X_arg2 X_arg13 X_arg14 X_arg12 X_arg15 k Y_arg11 Y_arg18) (trip.sl.r_20 (F := Ideal) i arg2 arg11 arg12 arg13 arg14 X_arg2 X_arg13 X_arg14 X_arg12 k Y_arg11) (trip.sl.r_21 (F := Ideal) i arg2 arg11 arg12 arg13 arg14 arg15 arg18 X_arg2 X_arg13 X_arg14 X_arg12 X_arg15 k Y_arg11 Y_arg18) x
      = ((D.code (256 * (k.val / 14) + 0 + (x 0).val) (256 * (k.val % 14) + (x 1).val) : ℝ) : EReal) := by
  obtain ⟨v0, v1, v2, v3, v4, v5, v6, v7, hU, hPn, hQ, hu, hr⟩ := form1 (Y_arg18 := Y_arg18) k hT hP
  unfold trip.sl.r_15 trip.sl.r_16 trip.sl.r_17 trip.sl.r_18 trip.sl.r_19 trip.sl.r_20 trip.sl.r_21
  rw [hU, hPn, hQ]
  refine (C1_apply (trip.sl.r_4 (F := Ideal) i arg2 arg11 arg12 arg13 arg14 X_arg2 X_arg13 X_arg14 X_arg12 k Y_arg11) v0 v1 v2 v3 v4 v5 v6 v7 (trip.sl.r_9 (F := Ideal) arg15 X_arg15 k) (r_4_apply k hT hP) (tileR_nonneg D k.val 0) hu hr x).trans ?_
  rw [uAt_tile]
  unfold Blk.code Blk.e
  rw [show (256 * (k.val % 14) + (x 1).val) / 32 = 8 * (k.val % 14) + (x 1).val / 32 by omega]
  rfl

/-- The exponents that the half writes. -/
theorem exps2 (hT : Tables arg12 arg13 arg14 arg15 X_arg13 X_arg14 X_arg12 X_arg15 D) (hP : SlotIs i arg11 Y_arg11 D) (x : S8x128.Idx) :
    k0_pay376 (F := Ideal) (trip.sl.r_27 (F := Ideal) i arg2 arg11 arg12 arg13 arg14 arg15 arg18 X_arg2 X_arg13 X_arg14 X_arg12 X_arg15 k Y_arg11 Y_arg18) (trip.sl.r_30 (F := Ideal) i arg2 arg11 arg12 arg13 arg14 arg15 arg18 X_arg2 X_arg13 X_arg14 X_arg12 X_arg15 k Y_arg11 Y_arg18) (trip.sl.r_31 (F := Ideal) i arg2 arg11 arg12 arg13 arg14 arg15 arg18 X_arg2 X_arg13 X_arg14 X_arg12 X_arg15 k Y_arg11 Y_arg18) x
      = BitVec.ofInt 32 (D.e (256 * (k.val / 14) + 128 + (x 1).val) (8 * (k.val % 14) + (x 0).val)) + 127#32 := by
  obtain ⟨v0, v1, v2, v3, v4, v5, v6, v7, hU, hPn, hQ, hu, hr⟩ := form2 (Y_arg18 := Y_arg18) k hT hP
  rw [hU, hPn, hQ, X2_apply v0 v1 v2 v3 v4 v5 v6 v7 _ x (uAt_nonneg (tileR_nonneg D k.val 128 _) _) (hu x), uAt_tile]
  rfl

/-- The codes that the half writes. -/
theorem codes2 (hT : Tables arg12 arg13 arg14 arg15 X_arg13 X_arg14 X_arg12 X_arg15 D) (hP : SlotIs i arg11 Y_arg11 D) (x : S128x256.Idx) :
    k0_pay3 (F := Ideal) (trip.sl.r_22 (F := Ideal) i arg2 arg11 arg12 arg13 arg14 X_arg2 X_arg13 X_arg14 X_arg12 k Y_arg11) (trip.sl.r_32 (F := Ideal) i arg2 arg11 arg12 arg13 arg14 arg15 arg18 X_arg2 X_arg13 X_arg14 X_arg12 X_arg15 k Y_arg11 Y_arg18) (trip.sl.r_33 (F := Ideal) i arg2 arg11 arg12 arg13 arg14 arg15 arg18 X_arg2 X_arg13 X_arg14 X_arg12 X_arg15 k Y_arg11 Y_arg18) (trip.sl.r_34 (F := Ideal) i arg2 arg11 arg12 arg13 arg14 arg15 arg18 X_arg2 X_arg13 X_arg14 X_arg12 X_arg15 k Y_arg11 Y_arg18) (trip.sl.r_35 (F := Ideal) i arg2 arg11 arg12 arg13 arg14 arg15 arg18 X_arg2 X_arg13 X_arg14 X_arg12 X_arg15 k Y_arg11 Y_arg18) (trip.sl.r_36 (F := Ideal) i arg2 arg11 arg12 arg13 arg14 arg15 arg18 X_arg2 X_arg13 X_arg14 X_arg12 X_arg15 k Y_arg11 Y_arg18) (trip.sl.r_37 (F := Ideal) i arg2 arg11 arg12 arg13 arg14 arg15 arg18 X_arg2 X_arg13 X_arg14 X_arg12 X_arg15 k Y_arg11 Y_arg18) x
      = ((D.code (256 * (k.val / 14) + 128 + (x 0).val) (256 * (k.val % 14) + (x 1).val) : ℝ) : EReal) := by
  obtain ⟨v0, v1, v2, v3, v4, v5, v6, v7, hU, hPn, hQ, hu, hr⟩ := form2 (Y_arg18 := Y_arg18) k hT hP
  unfold trip.sl.r_32 trip.sl.r_33 trip.sl.r_34 trip.sl.r_35 trip.sl.r_36 trip.sl.r_37
  rw [hU, hPn, hQ]
  refine (C2_apply (trip.sl.r_22 (F := Ideal) i arg2 arg11 arg12 arg13 arg14 X_arg2 X_arg13 X_arg14 X_arg12 k Y_arg11) v0 v1 v2 v3 v4 v5 v6 v7 (trip.sl.r_26 (F := Ideal) arg15 X_arg15 k) (r_22_apply k hT hP) (tileR_nonneg D k.val 128) hu hr x).trans ?_
  rw [uAt_tile]
  unfold Blk.code Blk.e
  rw [show (256 * (k.val % 14) + (x 1).val) / 32 = 8 * (k.val % 14) + (x 1).val / 32 by omega]
  rfl

theorem arrived_step (hB : BlockIs arg2 X_arg2 D) (h : Arrived i arg11 Y_arg11 D k) :
    Arrived i arg11 (arg11.view.writes (Elt Ideal) Y_arg11 (trip.sl.HY_arg11_1 (F := Ideal) i arg2 X_arg2 k)) D (k + 1) := by
  intro y hy hn
  have hk := k_lt k
  have h1 : (y 1).val < 3584 := (y 1).isLt
  have h2 : (y 2).val < 512 := (y 2).isLt
  unfold trip.sl.HY_arg11_1
  refine read_piece arg11.view Y_arg11 _ _ _ y (off2_eq i k) (· = ((D.B (y 2) (y 1) : ℝ) : EReal)) (fun x hx => ?_) (fun hm => ?_)
  · have e1 : (y 1).val = 256 * (k.val % 14) + (x 1).val := hx 1
    have e2 : (y 2).val = 256 * (k.val / 14) + (x 2).val := hx 2
    refine (pay326_apply (X := fun c l => D.B (256 * (k.val / 14) + l) (256 * (k.val % 14) + c)) _ (ld2 k hB _) x).trans ?_
    rw [e1, e2]
  · refine h y hy ?_
    obtain ⟨a, ha⟩ := hm
    match a, ha with
    | ⟨0, _⟩, ha =>
      have : (y 0).val < (i 0).val % 2 ∨ (i 0).val % 2 + 1 ≤ (y 0).val := ha
      omega
    | ⟨1, _⟩, ha =>
      have : (y 1).val < 256 * (k.val % 14) ∨ 256 * (k.val % 14) + 256 ≤ (y 1).val := ha
      omega
    | ⟨2, _⟩, ha =>
      have : (y 2).val < 256 * (k.val / 14) ∨ 256 * (k.val / 14) + 256 ≤ (y 2).val := ha
      omega

theorem slot_step (hP : SlotIs i arg11 Y_arg11 D) :
    SlotIs i arg11 (arg11.view.writes (Elt Ideal) Y_arg11 (trip.sl.HY_arg11_1 (F := Ideal) i arg2 X_arg2 k)) D := by
  intro y hy
  unfold trip.sl.HY_arg11_1
  rw [View.read_writes_cons_unit_of_not_mem _ _ _ _ _ _ (off2_eq i k) 0 (by
    show (y 0).val < (i 0).val % 2 ∨ (i 0).val % 2 + 1 ≤ (y 0).val
    omega)]
  exact hP y hy

theorem summed_step (hB : BlockIs arg2 X_arg2 D) (h : Summed arg16 Y_arg16 D k) (inb4 inb3) :
    Summed arg16 (arg16.view.writes (Elt Ideal) Y_arg16
        [⟨Rect.unit (s := S2x8x512) (k0_off4 k) ![1, 8, 256] inb4, k0_pay330 (trip.sl.r (F := Ideal) arg2 X_arg2 k) (trip.sl.v64 (F := Ideal) arg16 k Y_arg16)⟩,
          ⟨Rect.unit (s := S2x8x512) (k0_off3 k) ![1, 8, 256] inb3, k0_pay329 (trip.sl.r_1 (F := Ideal) arg2 arg16 X_arg2 k Y_arg16)⟩]) D (k + 1) := by
  intro y
  have hk := k_lt k
  have h0 : (y 0).val < 2 := (y 0).isLt
  have h1 : (y 1).val < 8 := (y 1).isLt
  have h2 : (y 2).val < 512 := (y 2).isLt
  have old : ∀ (o : ℕ) (ho : o < 2) (off : Fin 3 → ℕ) (inb) (he : off = ![o, 0, 256 * (k.val / 14)]) (x : S1x8x256.Idx),
      View.readAt (Elt Ideal) arg16.view (Rect.unit (s := S2x8x512) off S1x8x256.size inb).toLoadRect Y_arg16 x
        = ((accv D o (x 1) (256 * (k.val / 14) + (x 2).val) (k.val % 14) : ℝ) : EReal) := fun o ho off inb he x => by
    have hx2 : (x 2).val < 256 := (x 2).isLt
    have hx0 : (x 0).val < 1 := (x 0).isLt
    rw [readAt_unit_apply _ _ inb he x (ix3 (⟨o, ho⟩ : Fin 2) (x 1) (⟨256 * (k.val / 14) + (x 2).val, by omega⟩ : Fin 512))
      (fun a => by
        match a with
        | ⟨0, _⟩ => show o = o + (x 0).val; omega
        | ⟨1, _⟩ => show (x 1).val = 0 + (x 1).val; omega
        | ⟨2, _⟩ => rfl), h]
    show ((accv D o (x 1) (256 * (k.val / 14) + (x 2).val) (min (k.val - 14 * ((256 * (k.val / 14) + (x 2).val) / 256)) 14) : ℝ) : EReal) = _
    rw [show min (k.val - 14 * ((256 * (k.val / 14) + (x 2).val) / 256)) 14 = k.val % 14 by omega]
  refine read_piece arg16.view Y_arg16 inb4 _ _ y (off4_eq k) (· = _) (fun x hx => ?_) (fun hm4 => ?_)
  · have hx2 : (x 2).val < 256 := (x 2).isLt
    have hx0 : (x 0).val < 1 := (x 0).isLt
    have e0 : (y 0).val = 1 + (x 0).val := hx 0
    have e1 : (y 1).val = 0 + (x 1).val := hx 1
    have e2 : (y 2).val = 256 * (k.val / 14) + (x 2).val := hx 2
    unfold trip.sl.r trip.sl.v64
    refine (acc2_apply _ _ (X := fun c l => D.B (256 * (k.val / 14) + l) (256 * (k.val % 14) + c)) (C := fun r l => accv D 1 r (256 * (k.val / 14) + l) (k.val % 14))
      (ld2 k hB _) (old 1 (by norm_num) _ _ (off4_eq k)) x).trans ?_
    rw [show min (k.val + 1 - 14 * ((y 2).val / 256)) 14 = k.val % 14 + 1 by omega, accv_succ, show (y 0).val = 1 by omega, e1, e2, Nat.zero_add]
    simp only [Nat.one_ne_zero, if_false]
  refine read_piece arg16.view Y_arg16 inb3 _ _ y (off3_eq k) (· = _) (fun x hx => ?_) (fun hm3 => ?_)
  · have hx2 : (x 2).val < 256 := (x 2).isLt
    have hx0 : (x 0).val < 1 := (x 0).isLt
    have e0 : (y 0).val = 0 + (x 0).val := hx 0
    have e1 : (y 1).val = 0 + (x 1).val := hx 1
    have e2 : (y 2).val = 256 * (k.val / 14) + (x 2).val := hx 2
    unfold trip.sl.r_1
    refine (acc1_apply _ _ (X := fun c l => D.B (256 * (k.val / 14) + l) (256 * (k.val % 14) + c)) (C := fun r l => accv D 0 r (256 * (k.val / 14) + l) (k.val % 14))
      (ld2 k hB _) (old 0 (by norm_num) _ _ (off3_eq k)) x).trans ?_
    rw [show min (k.val + 1 - 14 * ((y 2).val / 256)) 14 = k.val % 14 + 1 by omega, accv_succ, show (y 0).val = 0 by omega, e1, e2, Nat.zero_add]
    simp only [if_true]
  · refine (h y).trans ?_
    have ht : (y 2).val < 256 * (k.val / 14) ∨ 256 * (k.val / 14) + 256 ≤ (y 2).val := by
      obtain ⟨a, ha⟩ := hm4
      obtain ⟨b, hb⟩ := hm3
      match a, ha with
      | ⟨1, _⟩, ha =>
        have : (y 1).val < 0 ∨ 0 + 8 ≤ (y 1).val := ha
        omega
      | ⟨2, _⟩, ha => exact ha
      | ⟨0, _⟩, ha =>
        have e0 : (y 0).val < 1 ∨ 1 + 1 ≤ (y 0).val := ha
        match b, hb with
        | ⟨0, _⟩, hb =>
          have : (y 0).val < 0 ∨ 0 + 1 ≤ (y 0).val := hb
          omega
        | ⟨1, _⟩, hb =>
          have : (y 1).val < 0 ∨ 0 + 8 ≤ (y 1).val := hb
          omega
        | ⟨2, _⟩, hb => exact hb
    rw [show min (k.val + 1 - 14 * ((y 2).val / 256)) 14 = min (k.val - 14 * ((y 2).val / 256)) 14 by omega]

theorem exps_step (hT : Tables arg12 arg13 arg14 arg15 X_arg13 X_arg14 X_arg12 X_arg15 D) (hP : SlotIs i arg11 Y_arg11 D)
    (h : Exps arg17 Y_arg17 D k) (inb1 inb0) :
    Exps arg17 (arg17.view.writes (Elt Ideal) Y_arg17
        [⟨Rect.unit (s := S128x512) (k0_off9 k 128#32) ![8, 128] inb1, k0_pay376 (trip.sl.r_27 (F := Ideal) i arg2 arg11 arg12 arg13 arg14 arg15 arg18 X_arg2 X_arg13 X_arg14 X_arg12 X_arg15 k Y_arg11 Y_arg18) (trip.sl.r_30 (F := Ideal) i arg2 arg11 arg12 arg13 arg14 arg15 arg18 X_arg2 X_arg13 X_arg14 X_arg12 X_arg15 k Y_arg11 Y_arg18) (trip.sl.r_31 (F := Ideal) i arg2 arg11 arg12 arg13 arg14 arg15 arg18 X_arg2 X_arg13 X_arg14 X_arg12 X_arg15 k Y_arg11 Y_arg18)⟩,
          ⟨Rect.unit (s := S128x512) (k0_off9 k 0#32) ![8, 128] inb0, k0_pay350 (trip.sl.r_10 (F := Ideal) i arg2 arg11 arg12 arg13 arg14 arg15 arg18 X_arg2 X_arg13 X_arg14 X_arg12 X_arg15 k Y_arg11 Y_arg18) (trip.sl.r_13 (F := Ideal) i arg2 arg11 arg12 arg13 arg14 arg15 arg18 X_arg2 X_arg13 X_arg14 X_arg12 X_arg15 k Y_arg11 Y_arg18) (trip.sl.r_14 (F := Ideal) i arg2 arg11 arg12 arg13 arg14 arg15 arg18 X_arg2 X_arg13 X_arg14 X_arg12 X_arg15 k Y_arg11 Y_arg18)⟩]) D (k + 1) := by
  intro y hy hn
  have hk := k_lt k
  have h1 : (y 1).val < 512 := (y 1).isLt
  refine read_piece arg17.view Y_arg17 inb1 _ _ y (off9_1_eq k) (· = _) (fun x hx => ?_) (fun hm1 => ?_)
  · have e0 : (y 0).val = 8 * (k.val % 14) + (x 0).val := hx 0
    have e1 : (y 1).val = 256 * (k.val / 14) + 128 + (x 1).val := hx 1
    exact (exps2 k hT hP x).trans (by rw [e0, e1])
  refine read_piece arg17.view Y_arg17 inb0 _ _ y (off9_0_eq k) (· = _) (fun x hx => ?_) (fun hm0 => ?_)
  · have e0 : (y 0).val = 8 * (k.val % 14) + (x 0).val := hx 0
    have e1 : (y 1).val = 256 * (k.val / 14) + 0 + (x 1).val := hx 1
    exact (exps1 k hT hP x).trans (by rw [e0, e1])
  · refine h y hy ?_
    obtain ⟨a, ha⟩ := hm1
    obtain ⟨b, hb⟩ := hm0
    match a, ha, b, hb with
    | ⟨0, _⟩, ha, _, _ =>
      have : (y 0).val < 8 * (k.val % 14) ∨ 8 * (k.val % 14) + 8 ≤ (y 0).val := ha
      omega
    | ⟨1, _⟩, ha, ⟨0, _⟩, hb =>
      have : (y 0).val < 8 * (k.val % 14) ∨ 8 * (k.val % 14) + 8 ≤ (y 0).val := hb
      omega
    | ⟨1, _⟩, ha, ⟨1, _⟩, hb =>
      have : (y 1).val < 256 * (k.val / 14) + 128 ∨ 256 * (k.val / 14) + 128 + 128 ≤ (y 1).val := ha
      have : (y 1).val < 256 * (k.val / 14) + 0 ∨ 256 * (k.val / 14) + 0 + 128 ≤ (y 1).val := hb
      omega

theorem codes_step (hT : Tables arg12 arg13 arg14 arg15 X_arg13 X_arg14 X_arg12 X_arg15 D) (hP : SlotIs i arg11 Y_arg11 D)
    (h : Codes arg7 Y_arg7 D k) (inb1 inb0) :
    Codes arg7 (arg7.view.writes (Elt Ideal) Y_arg7
        [⟨Rect.unit (s := S512x3584) (k0_off10 k 128#32) ![128, 256] inb1, k0_pay3 (trip.sl.r_22 (F := Ideal) i arg2 arg11 arg12 arg13 arg14 X_arg2 X_arg13 X_arg14 X_arg12 k Y_arg11) (trip.sl.r_32 (F := Ideal) i arg2 arg11 arg12 arg13 arg14 arg15 arg18 X_arg2 X_arg13 X_arg14 X_arg12 X_arg15 k Y_arg11 Y_arg18) (trip.sl.r_33 (F := Ideal) i arg2 arg11 arg12 arg13 arg14 arg15 arg18 X_arg2 X_arg13 X_arg14 X_arg12 X_arg15 k Y_arg11 Y_arg18) (trip.sl.r_34 (F := Ideal) i arg2 arg11 arg12 arg13 arg14 arg15 arg18 X_arg2 X_arg13 X_arg14 X_arg12 X_arg15 k Y_arg11 Y_arg18) (trip.sl.r_35 (F := Ideal) i arg2 arg11 arg12 arg13 arg14 arg15 arg18 X_arg2 X_arg13 X_arg14 X_arg12 X_arg15 k Y_arg11 Y_arg18) (trip.sl.r_36 (F := Ideal) i arg2 arg11 arg12 arg13 arg14 arg15 arg18 X_arg2 X_arg13 X_arg14 X_arg12 X_arg15 k Y_arg11 Y_arg18) (trip.sl.r_37 (F := Ideal) i arg2 arg11 arg12 arg13 arg14 arg15 arg18 X_arg2 X_arg13 X_arg14 X_arg12 X_arg15 k Y_arg11 Y_arg18)⟩,
          ⟨Rect.unit (s := S512x3584) (k0_off10 k 0#32) ![128, 256] inb0, k0_pay358 (trip.sl.r_4 (F := Ideal) i arg2 arg11 arg12 arg13 arg14 X_arg2 X_arg13 X_arg14 X_arg12 k Y_arg11) (trip.sl.r_15 (F := Ideal) i arg2 arg11 arg12 arg13 arg14 arg15 arg18 X_arg2 X_arg13 X_arg14 X_arg12 X_arg15 k Y_arg11 Y_arg18) (trip.sl.r_16 (F := Ideal) i arg2 arg11 arg12 arg13 arg14 arg15 arg18 X_arg2 X_arg13 X_arg14 X_arg12 X_arg15 k Y_arg11 Y_arg18) (trip.sl.r_17 (F := Ideal) i arg2 arg11 arg12 arg13 arg14 arg15 arg18 X_arg2 X_arg13 X_arg14 X_arg12 X_arg15 k Y_arg11 Y_arg18) (trip.sl.r_18 (F := Ideal) i arg2 arg11 arg12 arg13 arg14 arg15 arg18 X_arg2 X_arg13 X_arg14 X_arg12 X_arg15 k Y_arg11 Y_arg18) (trip.sl.r_19 (F := Ideal) i arg2 arg11 arg12 arg13 arg14 arg15 arg18 X_arg2 X_arg13 X_arg14 X_arg12 X_arg15 k Y_arg11 Y_arg18) (trip.sl.r_20 (F := Ideal) i arg2 arg11 arg12 arg13 arg14 X_arg2 X_arg13 X_arg14 X_arg12 k Y_arg11) (trip.sl.r_21 (F := Ideal) i arg2 arg11 arg12 arg13 arg14 arg15 arg18 X_arg2 X_arg13 X_arg14 X_arg12 X_arg15 k Y_arg11 Y_arg18)⟩]) D (k + 1) := by
  intro y hn
  have hk := k_lt k
  have h0 : (y 0).val < 512 := (y 0).isLt
  have h1 : (y 1).val < 3584 := (y 1).isLt
  refine read_piece arg7.view Y_arg7 inb1 _ _ y (off10_1_eq k) (· = _) (fun x hx => ?_) (fun hm1 => ?_)
  · have e0 : (y 0).val = 256 * (k.val / 14) + 128 + (x 0).val := hx 0
    have e1 : (y 1).val = 256 * (k.val % 14) + (x 1).val := hx 1
    exact (codes2 k hT hP x).trans (by rw [e0, e1])
  refine read_piece arg7.view Y_arg7 inb0 _ _ y (off10_0_eq k) (· = _) (fun x hx => ?_) (fun hm0 => ?_)
  · have e0 : (y 0).val = 256 * (k.val / 14) + 0 + (x 0).val := hx 0
    have e1 : (y 1).val = 256 * (k.val % 14) + (x 1).val := hx 1
    exact (codes1 k hT hP x).trans (by rw [e0, e1])
  · refine h y ?_
    obtain ⟨a, ha⟩ := hm1
    obtain ⟨b, hb⟩ := hm0
    match a, ha, b, hb with
    | ⟨1, _⟩, ha, _, _ =>
      have : (y 1).val < 256 * (k.val % 14) ∨ 256 * (k.val % 14) + 256 ≤ (y 1).val := ha
      omega
    | ⟨0, _⟩, ha, ⟨1, _⟩, hb =>
      have : (y 1).val < 256 * (k.val % 14) ∨ 256 * (k.val % 14) + 256 ≤ (y 1).val := hb
      omega
    | ⟨0, _⟩, ha, ⟨0, _⟩, hb =>
      have : (y 0).val < 256 * (k.val / 14) + 128 ∨ 256 * (k.val / 14) + 128 + 128 ≤ (y 0).val := ha
      have : (y 0).val < 256 * (k.val / 14) + 0 ∨ 256 * (k.val / 14) + 0 + 128 ≤ (y 0).val := hb
      omega

section Loop
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)
variable (v3 : BitVec 32)
variable (v4 : BitVec 32)
variable (X_arg2 : BufTy.Contents (Elt Ideal) arg2.view.ty) (X_arg13 : BufTy.Contents (Elt Ideal) arg13.view.ty)
  (X_arg14 : BufTy.Contents (Elt Ideal) arg14.view.ty) (X_arg12 : BufTy.Contents (Elt Ideal) arg12.view.ty) (X_arg15 : BufTy.Contents (Elt Ideal) arg15.view.ty)
  (g : LoopState (F := Ideal) arg7 arg11 arg16 arg17 arg18)

/-- The state that a trip makes, written out. -/
theorem tripR_eq (k : Fin k0_t1_loop.trips) (s : LoopState (F := Ideal) arg7 arg11 arg16 arg17 arg18) :
    tripR (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k s = (arg11.view.writes (Elt Ideal) s.1 (trip.sl.HY_arg11_1 (F := Ideal) i arg2 X_arg2 k),
      arg16.view.writes (Elt Ideal) s.2.1
        [⟨Rect.unit (s := S2x8x512) (k0_off4 k) ![1, 8, 256] (k0_off4_inb k), k0_pay330 (trip.sl.r (F := Ideal) arg2 X_arg2 k) (trip.sl.v64 (F := Ideal) arg16 k s.2.1)⟩,
          ⟨Rect.unit (s := S2x8x512) (k0_off3 k) ![1, 8, 256] (k0_off3_inb k), k0_pay329 (trip.sl.r_1 (F := Ideal) arg2 arg16 X_arg2 k s.2.1)⟩],
      arg18.view.writes (Elt Ideal) s.2.2.1 (trip.sl.HY_arg18_16 (F := Ideal) i arg2 arg11 arg12 arg13 arg14 X_arg2 X_arg13 X_arg14 X_arg12 k s.1),
      arg17.view.writes (Elt Ideal) s.2.2.2.1
        [⟨Rect.unit (s := S128x512) (k0_off9 k 128#32) ![8, 128] (k0_off9_inb k 1), k0_pay376 (trip.sl.r_27 (F := Ideal) i arg2 arg11 arg12 arg13 arg14 arg15 arg18 X_arg2 X_arg13 X_arg14 X_arg12 X_arg15 k s.1 s.2.2.1) (trip.sl.r_30 (F := Ideal) i arg2 arg11 arg12 arg13 arg14 arg15 arg18 X_arg2 X_arg13 X_arg14 X_arg12 X_arg15 k s.1 s.2.2.1) (trip.sl.r_31 (F := Ideal) i arg2 arg11 arg12 arg13 arg14 arg15 arg18 X_arg2 X_arg13 X_arg14 X_arg12 X_arg15 k s.1 s.2.2.1)⟩,
          ⟨Rect.unit (s := S128x512) (k0_off9 k 0#32) ![8, 128] (k0_off9_inb k 0), k0_pay350 (trip.sl.r_10 (F := Ideal) i arg2 arg11 arg12 arg13 arg14 arg15 arg18 X_arg2 X_arg13 X_arg14 X_arg12 X_arg15 k s.1 s.2.2.1) (trip.sl.r_13 (F := Ideal) i arg2 arg11 arg12 arg13 arg14 arg15 arg18 X_arg2 X_arg13 X_arg14 X_arg12 X_arg15 k s.1 s.2.2.1) (trip.sl.r_14 (F := Ideal) i arg2 arg11 arg12 arg13 arg14 arg15 arg18 X_arg2 X_arg13 X_arg14 X_arg12 X_arg15 k s.1 s.2.2.1)⟩],
      arg7.view.writes (Elt Ideal) s.2.2.2.2
        [⟨Rect.unit (s := S512x3584) (k0_off10 k 128#32) ![128, 256] (k0_off10_inb k 1), k0_pay3 (trip.sl.r_22 (F := Ideal) i arg2 arg11 arg12 arg13 arg14 X_arg2 X_arg13 X_arg14 X_arg12 k s.1) (trip.sl.r_32 (F := Ideal) i arg2 arg11 arg12 arg13 arg14 arg15 arg18 X_arg2 X_arg13 X_arg14 X_arg12 X_arg15 k s.1 s.2.2.1) (trip.sl.r_33 (F := Ideal) i arg2 arg11 arg12 arg13 arg14 arg15 arg18 X_arg2 X_arg13 X_arg14 X_arg12 X_arg15 k s.1 s.2.2.1) (trip.sl.r_34 (F := Ideal) i arg2 arg11 arg12 arg13 arg14 arg15 arg18 X_arg2 X_arg13 X_arg14 X_arg12 X_arg15 k s.1 s.2.2.1) (trip.sl.r_35 (F := Ideal) i arg2 arg11 arg12 arg13 arg14 arg15 arg18 X_arg2 X_arg13 X_arg14 X_arg12 X_arg15 k s.1 s.2.2.1) (trip.sl.r_36 (F := Ideal) i arg2 arg11 arg12 arg13 arg14 arg15 arg18 X_arg2 X_arg13 X_arg14 X_arg12 X_arg15 k s.1 s.2.2.1) (trip.sl.r_37 (F := Ideal) i arg2 arg11 arg12 arg13 arg14 arg15 arg18 X_arg2 X_arg13 X_arg14 X_arg12 X_arg15 k s.1 s.2.2.1)⟩,
          ⟨Rect.unit (s := S512x3584) (k0_off10 k 0#32) ![128, 256] (k0_off10_inb k 0), k0_pay358 (trip.sl.r_4 (F := Ideal) i arg2 arg11 arg12 arg13 arg14 X_arg2 X_arg13 X_arg14 X_arg12 k s.1) (trip.sl.r_15 (F := Ideal) i arg2 arg11 arg12 arg13 arg14 arg15 arg18 X_arg2 X_arg13 X_arg14 X_arg12 X_arg15 k s.1 s.2.2.1) (trip.sl.r_16 (F := Ideal) i arg2 arg11 arg12 arg13 arg14 arg15 arg18 X_arg2 X_arg13 X_arg14 X_arg12 X_arg15 k s.1 s.2.2.1) (trip.sl.r_17 (F := Ideal) i arg2 arg11 arg12 arg13 arg14 arg15 arg18 X_arg2 X_arg13 X_arg14 X_arg12 X_arg15 k s.1 s.2.2.1) (trip.sl.r_18 (F := Ideal) i arg2 arg11 arg12 arg13 arg14 arg15 arg18 X_arg2 X_arg13 X_arg14 X_arg12 X_arg15 k s.1 s.2.2.1) (trip.sl.r_19 (F := Ideal) i arg2 arg11 arg12 arg13 arg14 arg15 arg18 X_arg2 X_arg13 X_arg14 X_arg12 X_arg15 k s.1 s.2.2.1) (trip.sl.r_20 (F := Ideal) i arg2 arg11 arg12 arg13 arg14 X_arg2 X_arg13 X_arg14 X_arg12 k s.1) (trip.sl.r_21 (F := Ideal) i arg2 arg11 arg12 arg13 arg14 arg15 arg18 X_arg2 X_arg13 X_arg14 X_arg12 X_arg15 k s.1 s.2.2.1)⟩]) := by
  unfold tripR trip
  rfl

theorem in_step (hB : BlockIs arg2 X_arg2 D) (k : Fin k0_t1_loop.trips) (s : LoopState (F := Ideal) arg7 arg11 arg16 arg17 arg18)
    (h : Arrived i arg11 s.1 D k ∧ Summed arg16 s.2.1 D k) :
    Arrived i arg11 (tripR (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k s).1 D (k + 1) ∧ Summed arg16 (tripR (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k s).2.1 D (k + 1) := by
  rw [tripR_eq]
  dsimp only
  refine ⟨?_, ?_⟩
  · exact arrived_step k hB h.1
  · exact summed_step k hB h.2 _ _

theorem out_step (hT : Tables arg12 arg13 arg14 arg15 X_arg13 X_arg14 X_arg12 X_arg15 D) (k : Fin k0_t1_loop.trips)
    (s : LoopState (F := Ideal) arg7 arg11 arg16 arg17 arg18)
    (h : SlotIs i arg11 s.1 D ∧ Exps arg17 s.2.2.2.1 D k ∧ Codes arg7 s.2.2.2.2 D k) :
    SlotIs i arg11 (tripR (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k s).1 D ∧ Exps arg17 (tripR (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k s).2.2.2.1 D (k + 1) ∧ Codes arg7 (tripR (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 k s).2.2.2.2 D (k + 1) := by
  rw [tripR_eq]
  dsimp only
  refine ⟨?_, ?_, ?_⟩
  · exact slot_step k h.1
  · exact exps_step k hT h.1 h.2.1 _ _
  · exact codes_step k hT h.1 h.2.2 _ _

/-- The loop, as far as the arriving block goes. -/
theorem loop_in (hB : BlockIs arg2 X_arg2 D) (h0 : Summed arg16 g.2.1 D 0) (n : ℕ) (hn : n ≤ 28) :
    Arrived i arg11 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g n).1 D n ∧ Summed arg16 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g n).2.1 D n := by
  induction n with
  | zero => exact ⟨fun _ _ h => absurd h (Nat.not_lt_zero _), h0⟩
  | succ n ih =>
    have h := in_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 hB ⟨n, lt_of_lt_of_eq (by omega : n < 28) (by decide)⟩ _ (ih (by omega))
    rw [← st_succ] at h
    exact h

/-- The loop, as far as the emitted block goes. -/
theorem loop_out (hT : Tables arg12 arg13 arg14 arg15 X_arg13 X_arg14 X_arg12 X_arg15 D) (hP : SlotIs i arg11 g.1 D) (n : ℕ) (hn : n ≤ 28) :
    SlotIs i arg11 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g n).1 D ∧ Exps arg17 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g n).2.2.2.1 D n ∧ Codes arg7 (st (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 g n).2.2.2.2 D n := by
  induction n with
  | zero => exact ⟨hP, fun _ _ h => absurd h (Nat.not_lt_zero _), fun _ h => absurd h (Nat.not_lt_zero _)⟩
  | succ n ih =>
    have h := out_step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v3 v4 X_arg2 X_arg13 X_arg14 X_arg12 X_arg15 hT ⟨n, lt_of_lt_of_eq (by omega : n < 28) (by decide)⟩ _ (ih (by omega))
    rw [← st_succ] at h
    exact h
end Loop

end Cert.Proof.Value
end
-- ==== Proof.Value.Merge.lean ====
module

public import proofs.«01_k».proof.Proof.Value.Wh

/-!
# The statistics of a block, at real values

The sums over the eight rows, the one-pass and the two-pass sums of squared deviations, the three merges, and the
table of the means and deviations that the emission multiplies with.
-/

@[expose] public section
set_option maxRecDepth 8192
noncomputable section
namespace Cert.Proof.Value
open Cert.KernelIdeal Cert.KernelIdeal.Gen
open Idealize.ShloMosaic Idealize.ShloMosaic.ValueIdx Finset

/-- The sum over eight rows. -/
theorem rowsum_apply (v : FVec Ideal S8x512 .f32) {X : ℕ → ℕ → ℝ} (h : ∀ y : S8x512.Idx, v y = ((X (y 0) (y 1) : ℝ) : EReal)) (x : S1x512.Idx) :
    shapeCast S1x512 (multiReduction (F := Ideal) .add [0] S512 v 0x00000000#32 reduces_S8x512_S512 (.inl rfl) rfl) shapeCasts_S512_S1x512 x
      = ((∑ r ∈ range 8, X r (x 1) : ℝ) : EReal) := by
  rw [eq_ix2 x]
  refine (shapeCast_a_1a_apply _ _ _ _).trans ((Ideal.multiReduction_add_single _ _ _ _ _ _).trans ?_)
  rw [← Fin.sum_univ_eq_sum_range (fun r => X r _), ← coe_sum]
  exact Finset.sum_congr rfl fun (k : Fin 8) _ => h _

section Sums
variable (v18 v22 : FVec Ideal S1x8x512 .f32) {A A2 : ℕ → ℕ → ℝ} (h18 : ∀ y : S1x8x512.Idx, v18 y = ((A (y 1) (y 2) : ℝ) : EReal))
  (h22 : ∀ y : S1x8x512.Idx, v22 y = ((A2 (y 1) (y 2) : ℝ) : EReal)) (x : S1x512.Idx)

include h18 in
theorem pay383_apply : k0_pay383 (F := Ideal) v18 x = ((∑ r ∈ range 8, A r (x 1) : ℝ) : EReal) := by
  unfold k0_pay383
  exact rowsum_apply _ (fun y => by rw [eq_ix2 y]; exact (shapeCast_1ab_ab_apply _ _ _ _).trans (h18 _)) x

include h18 in
/-- The mean. -/
theorem pay384_apply : k0_pay384 (F := Ideal) v18 x = (((∑ r ∈ range 8, A r (x 1)) / 3584 : ℝ) : EReal) := by
  show Ideal.div (k0_pay383 (F := Ideal) v18 x) (Ideal.ofBits .f32 0x45600000#32) = _
  rw [pay383_apply v18 h18, bits_3584, div_coe (by norm_num)]

include h18 h22 in
/-- The sum of squared deviations in one pass. -/
theorem pay387_apply : k0_pay387 (F := Ideal) v18 v22 x
    = (((∑ r ∈ range 8, A2 r (x 1)) - (∑ r ∈ range 8, A r (x 1)) * ((∑ r ∈ range 8, A r (x 1)) / 3584) : ℝ) : EReal) := by
  unfold k0_pay387
  rw [shapeCast_apply _ shapeCasts_S1x512_S1x512 x x rfl]
  show shapeCast S1x512 (multiReduction .add [0] S512 (shapeCast S8x512 v22 shapeCasts_S1x8x512_S8x512) 0x00000000#32 reduces_S8x512_S512 (.inl rfl) rfl) shapeCasts_S512_S1x512 x
    - k0_pay383 (F := Ideal) v18 x * k0_pay384 (F := Ideal) v18 x = _
  rw [rowsum_apply _ (fun y => by rw [eq_ix2 y]; exact (shapeCast_1ab_ab_apply _ _ _ _).trans (h22 _)) x, pay383_apply v18 h18, pay384_apply v18 h18, mul_coe, sub_coe]

include h18 in
/-- One trip of the two-pass sum. -/
theorem pay390_apply (a : FVec Ideal S8x512 .f32) (v244 : FVec Ideal S1x256x512 .bf16) {C X : ℕ → ℕ → ℝ}
    (ha : ∀ y : S8x512.Idx, a y = ((C (y 0) (y 1) : ℝ) : EReal)) (hx : ∀ y : S1x256x512.Idx, v244 y = ((X (y 1) (y 2) : ℝ) : EReal)) (y : S8x512.Idx) :
    k0_pay390 (F := Ideal) v18 a v244 y = ((C (y 0) (y 1) + ∑ k ∈ range 32,
      (X (8 * k + (y 0).val) (y 1) - (∑ r ∈ range 8, A r (y 1)) / 3584) * (X (8 * k + (y 0).val) (y 1) - (∑ r ∈ range 8, A r (y 1)) / 3584) : ℝ) : EReal) := by
  have hd : ∀ z : S256x512.Idx, subf (extf .f32 (shapeCast S256x512 v244 shapeCasts_S1x256x512_S256x512) bitsLt_bf16_f32 : FVec Ideal S256x512 .f32)
      (broadcastTo S256x512 (k0_pay384 v18) broadcasts_S1x512_S256x512) z
        = ((X (z 0) (z 1) - (∑ r ∈ range 8, A r (z 1)) / 3584 : ℝ) : EReal) := fun z => by
    rw [eq_ix2 z]
    show shapeCast S256x512 v244 shapeCasts_S1x256x512_S256x512 (ix2 (z 0) (z 1)) - broadcastTo S256x512 (k0_pay384 (F := Ideal) v18) broadcasts_S1x512_S256x512 (ix2 (z 0) (z 1)) = _
    rw [show shapeCast S256x512 v244 shapeCasts_S1x256x512_S256x512 (ix2 (z 0) (z 1)) = _ from (shapeCast_1ab_ab_apply _ _ _ _).trans (hx _),
      show broadcastTo S256x512 (k0_pay384 (F := Ideal) v18) broadcasts_S1x512_S256x512 (ix2 (z 0) (z 1)) = _ from (broadcastTo_1b_ab_apply _ _ _ _).trans (pay384_apply v18 h18 _), sub_coe]
  show a y + multiReduction (F := Ideal) .add [0] S8x512 (shapeCast S32x8x512 (mulf _ _) shapeCasts_S256x512_S32x8x512) 0x00000000#32 reduces_S32x8x512_S8x512 (.inl rfl) rfl y = _
  rw [EReal.coe_add, ha]
  congr 1
  refine (Ideal.multiReduction_add_single _ _ _ _ _ _).trans ?_
  rw [← Fin.sum_univ_eq_sum_range (fun k => (X (8 * k + (y 0).val) (y 1) - (∑ r ∈ range 8, A r (y 1)) / 3584) * (X (8 * k + (y 0).val) (y 1) - (∑ r ∈ range 8, A r (y 1)) / 3584)), ← coe_sum]
  refine Finset.sum_congr rfl fun (k : Fin 32) _ => ?_
  have h0 := idx2_lt0 y
  have h1 := idx2_lt1 y
  refine (shapeCast_apply _ _ _ (ix2 (⟨8 * k.val + (y 0).val, by omega⟩ : Fin 256) (y 1)) ?_).trans ?_
  · rw [Shape.rowMajor_val_two, Shape.rowMajor_val_three]
    show (8 * k.val + (y 0).val) * 512 + (y 1).val = (k.val * 8 + (y 0).val) * 512 + (y 1).val
    omega
  · have e := hd (ix2 (⟨8 * k.val + (y 0).val, by omega⟩ : Fin 256) (y 1))
    exact (congrArg₂ (fun a b : EReal => a * b) e e).trans (mul_coe _ _)

theorem pay391_apply (a : FVec Ideal S8x512 .f32) {C : ℕ → ℕ → ℝ} (ha : ∀ y : S8x512.Idx, a y = ((C (y 0) (y 1) : ℝ) : EReal)) :
    k0_pay391 (F := Ideal) a x = ((∑ r ∈ range 8, C r (x 1) : ℝ) : EReal) := by
  unfold k0_pay391
  rw [shapeCast_apply _ shapeCasts_S1x512_S1x512 x x rfl]
  exact rowsum_apply a ha x
end Sums

section Merge
variable (A : Args) (n : ℕ)
variable (v27 v46 v69 v73 v77 v78 v80 v84 v88 v90 v94 : FVec Ideal S1x512 .f32) (v97 : FVec Ideal S1x1x512 .f32) (x : S1x512.Idx)
variable (h27 : v27 x = ((A.meanL n : ℝ) : EReal)) (h46 : v46 x = ((A.m2L n : ℝ) : EReal)) (h69 : v69 x = ((A.cnt 0 : ℝ) : EReal))
  (h73 : v73 x = ((A.pm 0 (n / 8192) (n % 8192) : ℝ) : EReal)) (h77 : v77 x = ((A.pv 0 (n / 8192) (n % 8192) : ℝ) : EReal)) (h78 : v78 x = ((3584 : ℝ) : EReal))
  (h80 : v80 x = ((A.cnt 1 : ℝ) : EReal)) (h84 : v84 x = ((A.pm 1 (n / 8192) (n % 8192) : ℝ) : EReal)) (h88 : v88 x = ((A.pv 1 (n / 8192) (n % 8192) : ℝ) : EReal))
  (h90 : v90 x = ((A.cnt 2 : ℝ) : EReal)) (h94 : v94 x = ((A.pm 2 (n / 8192) (n % 8192) : ℝ) : EReal))
  (h97 : shapeCast S1x512 v97 shapeCasts_S1x1x512_S1x512 x = ((A.pv 2 (n / 8192) (n % 8192) : ℝ) : EReal))

include h69 h78 in
theorem pay401_apply : k0_pay401 (F := Ideal) v69 v78 x = ((A.n1 : ℝ) : EReal) := by
  show v69 x + v78 x = _
  rw [h69, h78, add_coe]; rfl

include h69 h78 h80 in
theorem pay404_apply : k0_pay404 (F := Ideal) v69 v78 v80 x = ((A.n2 : ℝ) : EReal) := by
  show k0_pay401 (F := Ideal) v69 v78 x + v80 x = _
  rw [pay401_apply A v69 v78 x h69 h78, h80, add_coe]; rfl

include h69 h78 h80 h90 in
theorem pay407_apply : k0_pay407 (F := Ideal) v69 v78 v80 v90 x = ((A.n3 : ℝ) : EReal) := by
  show k0_pay404 (F := Ideal) v69 v78 v80 x + v90 x = _
  rw [pay404_apply A v69 v78 v80 x h69 h78 h80, h90, add_coe]; rfl

include h27 h73 in
theorem pay402_apply : k0_pay402 (F := Ideal) v27 v73 x = ((A.meanL n - A.pm 0 (n / 8192) (n % 8192) : ℝ) : EReal) := by
  show v27 x - v73 x = _
  rw [h27, h73, sub_coe]

include h27 h69 h73 h78 in
theorem pay403_apply : k0_pay403 (F := Ideal) v27 v69 v73 v78 x = ((A.mean1 n : ℝ) : EReal) := by
  show v73 x + k0_pay402 (F := Ideal) v27 v73 x * Ideal.div (v78 x) (k0_pay401 (F := Ideal) v69 v78 x) = _
  rw [pay402_apply A n v27 v73 x h27 h73, pay401_apply A v69 v78 x h69 h78, h73, h78, div_coe A.n1_pos.ne', mul_coe, add_coe]; rfl

include h27 h69 h73 h78 h84 in
theorem pay405_apply : k0_pay405 (F := Ideal) v27 v69 v73 v78 v84 x = ((A.pm 1 (n / 8192) (n % 8192) - A.mean1 n : ℝ) : EReal) := by
  show v84 x - k0_pay403 (F := Ideal) v27 v69 v73 v78 x = _
  rw [pay403_apply A n v27 v69 v73 v78 x h27 h69 h73 h78, h84, sub_coe]

include h27 h69 h73 h78 h80 h84 in
theorem pay406_apply : k0_pay406 (F := Ideal) v27 v69 v73 v78 v80 v84 x = ((A.mean2 n : ℝ) : EReal) := by
  show k0_pay403 (F := Ideal) v27 v69 v73 v78 x + k0_pay405 (F := Ideal) v27 v69 v73 v78 v84 x * Ideal.div (v80 x) (k0_pay404 (F := Ideal) v69 v78 v80 x) = _
  rw [pay403_apply A n v27 v69 v73 v78 x h27 h69 h73 h78, pay405_apply A n v27 v69 v73 v78 v84 x h27 h69 h73 h78 h84,
    pay404_apply A v69 v78 v80 x h69 h78 h80, h80, div_coe A.n2_pos.ne', mul_coe, add_coe]; rfl

include h27 h69 h73 h78 h80 h84 h94 in
theorem pay408_apply : k0_pay408 (F := Ideal) v27 v69 v73 v78 v80 v84 v94 x = ((A.pm 2 (n / 8192) (n % 8192) - A.mean2 n : ℝ) : EReal) := by
  show v94 x - k0_pay406 (F := Ideal) v27 v69 v73 v78 v80 v84 x = _
  rw [pay406_apply A n v27 v69 v73 v78 v80 v84 x h27 h69 h73 h78 h80 h84, h94, sub_coe]

include h27 h69 h73 h78 h80 h84 h90 h94 in
/-- The mean over all ranks. -/
theorem pay409_apply : k0_pay409 (F := Ideal) v27 v69 v73 v78 v80 v84 v90 v94 x = ((A.mean n : ℝ) : EReal) := by
  show k0_pay406 (F := Ideal) v27 v69 v73 v78 v80 v84 x + k0_pay408 (F := Ideal) v27 v69 v73 v78 v80 v84 v94 x * Ideal.div (v90 x) (k0_pay407 (F := Ideal) v69 v78 v80 v90 x) = _
  rw [pay406_apply A n v27 v69 v73 v78 v80 v84 x h27 h69 h73 h78 h80 h84, pay408_apply A n v27 v69 v73 v78 v80 v84 v94 x h27 h69 h73 h78 h80 h84 h94,
    pay407_apply A v69 v78 v80 v90 x h69 h78 h80 h90, h90, div_coe A.n3_pos.ne', mul_coe, add_coe]; rfl

include h27 h46 h69 h73 h77 h78 h80 h84 h88 h90 h94 h97 in
/-- The variance over all ranks, with the constant added. -/
theorem pay410_apply : k0_pay410 (F := Ideal) v27 v46 v69 v73 v77 v78 v80 v84 v88 v90 v94 v97 x = ((A.var n : ℝ) : EReal) := by
  show Ideal.div (v77 x + v46 x + k0_pay402 (F := Ideal) v27 v73 x * k0_pay402 (F := Ideal) v27 v73 x * Ideal.div (v69 x * v78 x) (k0_pay401 (F := Ideal) v69 v78 x)
      + v88 x + k0_pay405 (F := Ideal) v27 v69 v73 v78 v84 x * k0_pay405 (F := Ideal) v27 v69 v73 v78 v84 x * Ideal.div (k0_pay401 (F := Ideal) v69 v78 x * v80 x) (k0_pay404 (F := Ideal) v69 v78 v80 x)
      + shapeCast S1x512 v97 shapeCasts_S1x1x512_S1x512 x + k0_pay408 (F := Ideal) v27 v69 v73 v78 v80 v84 v94 x * k0_pay408 (F := Ideal) v27 v69 v73 v78 v80 v84 v94 x
        * Ideal.div (k0_pay404 (F := Ideal) v69 v78 v80 x * v90 x) (k0_pay407 (F := Ideal) v69 v78 v80 v90 x)) (k0_pay407 (F := Ideal) v69 v78 v80 v90 x) + Ideal.ofBits .f32 0x3727C5AC#32 = _
  rw [pay402_apply A n v27 v73 x h27 h73, pay401_apply A v69 v78 x h69 h78, pay405_apply A n v27 v69 v73 v78 v84 x h27 h69 h73 h78 h84,
    pay404_apply A v69 v78 v80 x h69 h78 h80, pay408_apply A n v27 v69 v73 v78 v80 v84 v94 x h27 h69 h73 h78 h80 h84 h94,
    pay407_apply A v69 v78 v80 v90 x h69 h78 h80 h90, h97, h77, h46, h69, h78, h80, h88, h90, bits_eps]
  simp only [mul_coe, div_coe A.n1_pos.ne', div_coe A.n2_pos.ne', div_coe A.n3_pos.ne', add_coe]
  rfl

include h27 h46 h69 h73 h77 h78 h80 h84 h88 h90 h94 h97 in
/-- The reciprocal of the deviation. -/
theorem pay411_apply : k0_pay411 (F := Ideal) v27 v46 v69 v73 v77 v78 v80 v84 v88 v90 v94 v97 x = ((A.rstd n : ℝ) : EReal) := by
  show Ideal.rsqrt (k0_pay410 (F := Ideal) v27 v46 v69 v73 v77 v78 v80 v84 v88 v90 v94 v97 x) = _
  rw [pay410_apply A n v27 v46 v69 v73 v77 v78 v80 v84 v88 v90 v94 v97 x h27 h46 h69 h73 h77 h78 h80 h84 h88 h90 h94 h97, rsqrt_coe (A.var_pos n)]; rfl

include h27 h46 h69 h73 h77 h78 h80 h84 h88 h90 h94 h97 in
theorem pay412_apply : k0_pay412 (F := Ideal) v27 v46 v69 v73 v77 v78 v80 v84 v88 v90 v94 v97 x = ((A.var n * A.rstd n : ℝ) : EReal) := by
  show k0_pay410 (F := Ideal) v27 v46 v69 v73 v77 v78 v80 v84 v88 v90 v94 v97 x * k0_pay411 (F := Ideal) v27 v46 v69 v73 v77 v78 v80 v84 v88 v90 v94 v97 x = _
  rw [pay410_apply A n v27 v46 v69 v73 v77 v78 v80 v84 v88 v90 v94 v97 x h27 h46 h69 h73 h77 h78 h80 h84 h88 h90 h94 h97,
    pay411_apply A n v27 v46 v69 v73 v77 v78 v80 v84 v88 v90 v94 v97 x h27 h46 h69 h73 h77 h78 h80 h84 h88 h90 h94 h97, mul_coe]

include h27 h69 h73 h78 h80 h84 h90 h94 in
theorem pay414_apply : k0_pay414 (F := Ideal) v27 v69 v73 v78 v80 v84 v90 v94 x = ((-A.mean n : ℝ) : EReal) := by
  show Ideal.ofBits .f32 0x00000000#32 - k0_pay409 (F := Ideal) v27 v69 v73 v78 v80 v84 v90 v94 x = _
  rw [pay409_apply A n v27 v69 v73 v78 v80 v84 v90 v94 x h27 h69 h73 h78 h80 h84 h90 h94, bits_zero, sub_coe, zero_sub]
end Merge

/-- The reciprocal deviations, in eight equal rows. -/
theorem pay413_eq (v27 v46 v69 v73 v77 v78 v80 v84 v88 v90 v94 : FVec Ideal S1x512 .f32) (v97 : FVec Ideal S1x1x512 .f32) (y : S8x512.Idx) :
    k0_pay413 (F := Ideal) v27 v46 v69 v73 v77 v78 v80 v84 v88 v90 v94 v97 y
      = k0_pay411 (F := Ideal) v27 v46 v69 v73 v77 v78 v80 v84 v88 v90 v94 v97 (ix2 (0 : Fin 1) (y 1)) := by
  unfold k0_pay413
  rw [shapeCast_apply _ shapeCasts_S8x512_S8x512 y y rfl]
  rw [eq_ix2 y]
  refine (broadcastTo_1b_ab_apply _ _ _ _).trans ?_
  exact shapeCast_apply _ shapeCasts_S1x512_S1x512 _ _ rfl

/-- A select on the row. -/
theorem sel_row {s : Shape} (r : IVec s 32) (k : ℕ) (a b : FVec Ideal s .f32) (x : s.Idx) {j : ℕ} (hr : r x = BitVec.ofNat 32 j) (hj : j < 128) (hk : k < 128)
    {p q : ℝ} (ha : a x = (p : EReal)) (hb : b x = (q : EReal)) :
    select (cmpi .eq r (broadcast s (BitVec.ofNat 32 k))) a b x = (((if j = k then p else q : ℝ)) : EReal) := by
  have e : (BitVec.ofNat 32 j = BitVec.ofNat 32 k) ↔ j = k := by
    rw [← BitVec.toNat_inj, BitVec.toNat_ofNat, BitVec.toNat_ofNat, Nat.mod_eq_of_lt (by omega), Nat.mod_eq_of_lt (by omega)]
  show Scalar.select (IntOp.cmpi .eq (r x) (BitVec.ofNat 32 k)) (a x) (b x) = _
  rw [hr, ha, hb]
  by_cases h : j = k
  · rw [if_pos h, h]
    simp [Scalar.select, IntOp.cmpi]
  · rw [if_neg h]
    have h' : ¬ (BitVec.ofNat 32 j = BitVec.ofNat 32 k) := fun c => h (e.mp c)
    have h2 : (BitVec.ofNat 32 j == BitVec.ofNat 32 k) = false := by simpa using h'
    simp [Scalar.select, IntOp.cmpi, h2]

theorem bcast16 (v : FVec Ideal S1x512 .f32) {m : ℕ → ℝ} (h : ∀ x : S1x512.Idx, v x = ((m (x 1) : ℝ) : EReal)) (y : S16x512.Idx) :
    broadcastTo S16x512 (shapeCast S1x512 v shapeCasts_S1x512_S1x512) broadcasts_S1x512_S16x512 y = ((m (y 1) : ℝ) : EReal) := by
  rw [eq_ix2 y]
  refine (broadcastTo_1b_ab_apply _ _ _ _).trans ?_
  exact (shapeCast_apply _ shapeCasts_S1x512_S1x512 _ _ rfl).trans (h _)

/-- The sixteen rows of the right table. -/
theorem pay6_apply (v136 v150 : FVec Ideal S1x512 .f32) {m s : ℕ → ℝ} (h136 : ∀ x : S1x512.Idx, v136 x = ((s (x 1) : ℝ) : EReal))
    (h150 : ∀ x : S1x512.Idx, v150 x = ((-m (x 1) : ℝ) : EReal)) (y : S16x512.Idx) :
    k0_pay6 (F := Ideal) (iota .tc S16x512 32 [0] iota_S16x512_d0_w32) (k0_pay415 v136) (k0_pay417 v136) (k0_pay418 v136)
        (k0_pay419 v136 (iota .tc S16x512 32 [0] iota_S16x512_d0_w32) v150) (k0_pay420 (iota .tc S16x512 32 [0] iota_S16x512_d0_w32)) (k0_pay421 v136) y
      = ((laneR (m (y 1)) (s (y 1)) (y 0) : ℝ) : EReal) := by
  have hy := idx2_lt0 y
  have hi : iota .tc S16x512 32 [0] iota_S16x512_d0_w32 y = BitVec.ofNat 32 (y 0).val := by
    show BitVec.ofNat 32 (0 * 16 + (y 0).val) = _
    rw [Nat.zero_mul, Nat.zero_add]
  have z : ∀ (r : ℝ), ((r : EReal) - (r : EReal)) = ((0 : ℝ) : EReal) := fun r => by rw [sub_coe, sub_self]
  have hs0 : ∀ x : S1x512.Idx, k0_pay415 (F := Ideal) v136 x = ((s (x 1) : ℝ) : EReal) := h136
  have hs1' : ∀ x : S1x512.Idx, k0_pay416 (F := Ideal) v136 x = ((0 : ℝ) : EReal) := fun x => by
    show v136 x - v136 x = _
    rw [h136, z]
  have hs1 : ∀ x : S1x512.Idx, k0_pay417 (F := Ideal) v136 x = (((fun _ : ℕ => (0 : ℝ)) (x 1).val : ℝ) : EReal) := hs1'
  have hs2 : ∀ x : S1x512.Idx, k0_pay418 (F := Ideal) v136 x = (((fun _ : ℕ => (0 : ℝ)) (x 1).val : ℝ) : EReal) := fun x => by
    show k0_pay416 (F := Ideal) v136 x - k0_pay416 (F := Ideal) v136 x = _
    rw [hs1', z]
  have hm1 : ∀ x : S1x512.Idx, subf v150 v150 x = (((fun _ : ℕ => (0 : ℝ)) (x 1).val : ℝ) : EReal) := fun x => by
    show v150 x - v150 x = _
    rw [h150, z]
  have hm2 : ∀ x : S1x512.Idx, subf (subf v150 v150) (subf v150 v150) x = (((fun _ : ℕ => (0 : ℝ)) (x 1).val : ℝ) : EReal) := fun x => by
    show subf v150 v150 x - subf v150 v150 x = _
    rw [hm1, z]
  have hz : broadcast S16x512 (Scalar.ofBits (F := Ideal) .f32 0x00000000#32) y = ((0 : ℝ) : EReal) := bits_zero
  unfold k0_pay6
  rw [shapeCast_apply _ shapeCasts_S16x512_S16x512 y y rfl]
  refine (sel_row _ 11 _ _ y hi (by omega) (by norm_num) (bcast16 _ hs0 y)
    (sel_row _ 10 _ _ y hi (by omega) (by norm_num) (bcast16 _ (m := fun _ => 0) hs1 y)
    (sel_row _ 9 _ _ y hi (by omega) (by norm_num) (bcast16 _ hs0 y)
    (sel_row _ 8 _ _ y hi (by omega) (by norm_num) (bcast16 _ (m := fun _ => 0) hs2 y)
    (sel_row _ 7 _ _ y hi (by omega) (by norm_num) (bcast16 _ (m := fun _ => 0) hs1 y)
    (sel_row _ 6 _ _ y hi (by omega) (by norm_num) (bcast16 _ hs0 y)
    (sel_row _ 5 _ _ y hi (by omega) (by norm_num) (show _ = ((-m (y 1) : ℝ) : EReal) from bcast16 v150 (m := fun t => -m t) h150 y)
    (sel_row _ 4 _ _ y hi (by omega) (by norm_num) (bcast16 (extf .f32 (truncf .bf16 (subf v150 (extf .f32 (truncf .bf16 v150 bitsLt_bf16_f32) bitsLt_bf16_f32 : FVec Ideal S1x512 .f32)) bitsLt_bf16_f32) bitsLt_bf16_f32 : FVec Ideal S1x512 .f32) (m := fun _ => 0) hm1 y)
    (sel_row _ 3 _ _ y hi (by omega) (by norm_num) (show _ = ((-m (y 1) : ℝ) : EReal) from bcast16 v150 (m := fun t => -m t) h150 y)
    (sel_row _ 2 _ _ y hi (by omega) (by norm_num) (bcast16 (extf .f32 (truncf .bf16 (subf (subf v150 (extf .f32 (truncf .bf16 v150 bitsLt_bf16_f32) bitsLt_bf16_f32 : FVec Ideal S1x512 .f32)) (extf .f32 (truncf .bf16 (subf v150 (extf .f32 (truncf .bf16 v150 bitsLt_bf16_f32) bitsLt_bf16_f32 : FVec Ideal S1x512 .f32)) bitsLt_bf16_f32) bitsLt_bf16_f32 : FVec Ideal S1x512 .f32)) bitsLt_bf16_f32) bitsLt_bf16_f32 : FVec Ideal S1x512 .f32) (m := fun _ => 0) hm2 y)
    (sel_row _ 1 _ _ y hi (by omega) (by norm_num) (bcast16 (extf .f32 (truncf .bf16 (subf v150 (extf .f32 (truncf .bf16 v150 bitsLt_bf16_f32) bitsLt_bf16_f32 : FVec Ideal S1x512 .f32)) bitsLt_bf16_f32) bitsLt_bf16_f32 : FVec Ideal S1x512 .f32) (m := fun _ => 0) hm1 y)
    (sel_row _ 0 _ _ y hi (by omega) (by norm_num) (show _ = ((-m (y 1) : ℝ) : EReal) from bcast16 v150 (m := fun t => -m t) h150 y) hz)))))))))))).trans ?_
  generalize (y 0).val = r at hy ⊢
  interval_cases r <;> simp [laneR]

end Cert.Proof.Value
-- ==== Proof.Value.Off.lean ====
module
public import proofs.«01_k».proof.Proof.Ideal.Offsets
/-!
# Where the statistics of a point read and write

Closed forms of the offsets that depend on the point.
-/

@[expose] public section
set_option maxRecDepth 65536
noncomputable section
namespace Cert.Proof.KernelIdeal
open Cert.KernelIdeal Cert.KernelIdeal.Gen
open Idealize.ShloMosaic Idealize.ShloMosaic.TcCoe Idealize.ShloMosaic.Tactic
/-- The piece of the slot of the arriving block that a trip of the two-pass loop loads. -/
theorem off11_eq : ∀ (i : grid0.Coords) (k : Fin k0_t2_loop.trips), k0_cond2 i = 1#1 → k0_off11 i k = ![(i 0).val % 2, 256 * k.val, 0] := by decide +kernel
/-- The rows of the peers' statistics. -/
theorem off12_eq : ∀ (i : grid0.Coords), k0_cond2 i = 1#1 → k0_off12 i = ![0, (i 0).val / 16, 512 * ((i 0).val % 16)] := by decide +kernel
theorem off13_eq : ∀ (i : grid0.Coords), k0_cond2 i = 1#1 → k0_off13 i = ![1, (i 0).val / 16, 512 * ((i 0).val % 16)] := by decide +kernel
theorem off14_eq : ∀ (i : grid0.Coords), k0_cond2 i = 1#1 → k0_off14 i = ![2, (i 0).val / 16, 512 * ((i 0).val % 16)] := by decide +kernel
/-- The row of the means and of the deviations. -/
theorem off15_eq : ∀ (i : grid0.Coords), k0_cond2 i = 1#1 → k0_off15 i = ![(i 0).val / 16, 512 * ((i 0).val % 16)] := by decide +kernel
/-- The points with a block that arrives. -/
theorem cond2_iff : ∀ (i : grid0.Coords), k0_cond2 i = 1#1 ↔ (i 0).val < 128 := by decide +kernel
end Cert.Proof.KernelIdeal
-- ==== Proof.Value.State.lean ====
module

public import proofs.«01_k».proof.Proof.Ideal.Step

/-!
# What a point leaves, written out

The three runs of the body (the first point, one in the middle, the last) differ only in the tables, which the first
point fills, and in the statistics, which the last does not compute.
-/

@[expose] public section
set_option maxRecDepth 65536
set_option maxHeartbeats 4000000
noncomputable section
namespace Cert.Proof.KernelIdeal
open Cert.KernelIdeal Cert.KernelIdeal.Gen
open Idealize.ShloMosaic Idealize.ShloMosaic.TcCoe Idealize.ShloMosaic.Tactic

variable {F : FTy → Type} [FloatOps F]
variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

/-- The state that the loop ends in, from tables `T`. -/
def loopEnd (X_arg2 : BufTy.Contents (Elt F) arg2.view.ty) (T_arg12 : BufTy.Contents (Elt F) arg12.view.ty) (T_arg13 : BufTy.Contents (Elt F) arg13.view.ty) (T_arg14 : BufTy.Contents (Elt F) arg14.view.ty) (T_arg15 : BufTy.Contents (Elt F) arg15.view.ty) (Y_arg7 : BufTy.Contents (Elt F) arg7.view.ty) (Y_arg11 : BufTy.Contents (Elt F) arg11.view.ty) (Y_arg17 : BufTy.Contents (Elt F) arg17.view.ty) (Y_arg18 : BufTy.Contents (Elt F) arg18.view.ty) :
    LoopState (F := F) arg7 arg11 arg16 arg17 arg18 :=
  st (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (mid.sl.v3 i) (mid.sl.v4 i) X_arg2 T_arg13 T_arg14 T_arg12 T_arg15
    (Y_arg11, arg16.view.writes (Elt F) arg16.view.junk [⟨Rect.unit (s := S2x8x512) ![0, 0, 0] S2x8x512.size inb_S2x8x512_S2x8x512_0_0_0, k0_pay2⟩], Y_arg18, Y_arg17, Y_arg7) (Scf.trips k0_t1_loop.lb k0_t1_loop.ub k0_t1_loop.st)

/-- The row of means. -/
def meanRow (X_arg1 : BufTy.Contents (Elt F) arg1.view.ty) (X_arg3 : BufTy.Contents (Elt F) arg3.view.ty) (X_arg4 : BufTy.Contents (Elt F) arg4.view.ty) (h2 : k0_cond2 i = 1#1) (s : LoopState (F := F) arg7 arg11 arg16 arg17 arg18) : FVec F S1x512 .f32 :=
  k0_pay409 (k0_pay384 (sumRow (F := F) arg16 s.2.1)) (k0_pay392 (mid.sl.r arg1 X_arg1)) (k0_pay393 (View.readAt (Elt F) arg3.view (Rect.unit (s := S3x8x8192) (k0_off12 i) S1x1x512.size (k0_off12_inb i h2)).toLoadRect X_arg3)) k0_pay395 (k0_pay396 (mid.sl.r_1 arg1 X_arg1)) (k0_pay397 (View.readAt (Elt F) arg3.view (Rect.unit (s := S3x8x8192) (k0_off13 i) S1x1x512.size (k0_off13_inb i h2)).toLoadRect X_arg3)) (k0_pay399 (mid.sl.r_2 arg1 X_arg1)) (k0_pay400 (View.readAt (Elt F) arg3.view (Rect.unit (s := S3x8x8192) (k0_off14 i) S1x1x512.size (k0_off14_inb i h2)).toLoadRect X_arg3))

/-- The row of negated means. -/
def negRow (X_arg1 : BufTy.Contents (Elt F) arg1.view.ty) (X_arg3 : BufTy.Contents (Elt F) arg3.view.ty) (X_arg4 : BufTy.Contents (Elt F) arg4.view.ty) (h2 : k0_cond2 i = 1#1) (s : LoopState (F := F) arg7 arg11 arg16 arg17 arg18) : FVec F S1x512 .f32 :=
  k0_pay414 (k0_pay384 (sumRow (F := F) arg16 s.2.1)) (k0_pay392 (mid.sl.r arg1 X_arg1)) (k0_pay393 (View.readAt (Elt F) arg3.view (Rect.unit (s := S3x8x8192) (k0_off12 i) S1x1x512.size (k0_off12_inb i h2)).toLoadRect X_arg3)) k0_pay395 (k0_pay396 (mid.sl.r_1 arg1 X_arg1)) (k0_pay397 (View.readAt (Elt F) arg3.view (Rect.unit (s := S3x8x8192) (k0_off13 i) S1x1x512.size (k0_off13_inb i h2)).toLoadRect X_arg3)) (k0_pay399 (mid.sl.r_2 arg1 X_arg1)) (k0_pay400 (View.readAt (Elt F) arg3.view (Rect.unit (s := S3x8x8192) (k0_off14 i) S1x1x512.size (k0_off14_inb i h2)).toLoadRect X_arg3))

/-- The row of reciprocal deviations. -/
def rstdRow (X_arg1 : BufTy.Contents (Elt F) arg1.view.ty) (X_arg3 : BufTy.Contents (Elt F) arg3.view.ty) (X_arg4 : BufTy.Contents (Elt F) arg4.view.ty) (h2 : k0_cond2 i = 1#1) (s : LoopState (F := F) arg7 arg11 arg16 arg17 arg18) : FVec F S1x512 .f32 :=
  k0_pay411 (k0_pay384 (sumRow (F := F) arg16 s.2.1)) (m2Row (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 (BitVec.ofNat 32 (i 0).val) (mid.sl.v3 i) s.1 s.2.1) (k0_pay392 (mid.sl.r arg1 X_arg1)) (k0_pay393 (View.readAt (Elt F) arg3.view (Rect.unit (s := S3x8x8192) (k0_off12 i) S1x1x512.size (k0_off12_inb i h2)).toLoadRect X_arg3)) (k0_pay394 (View.readAt (Elt F) arg4.view (Rect.unit (s := S3x8x8192) (k0_off12 i) S1x1x512.size (k0_off12_inb i h2)).toLoadRect X_arg4)) k0_pay395 (k0_pay396 (mid.sl.r_1 arg1 X_arg1)) (k0_pay397 (View.readAt (Elt F) arg3.view (Rect.unit (s := S3x8x8192) (k0_off13 i) S1x1x512.size (k0_off13_inb i h2)).toLoadRect X_arg3)) (k0_pay398 (View.readAt (Elt F) arg4.view (Rect.unit (s := S3x8x8192) (k0_off13 i) S1x1x512.size (k0_off13_inb i h2)).toLoadRect X_arg4)) (k0_pay399 (mid.sl.r_2 arg1 X_arg1)) (k0_pay400 (View.readAt (Elt F) arg3.view (Rect.unit (s := S3x8x8192) (k0_off14 i) S1x1x512.size (k0_off14_inb i h2)).toLoadRect X_arg3)) (View.readAt (Elt F) arg4.view (Rect.unit (s := S3x8x8192) (k0_off14 i) S1x1x512.size (k0_off14_inb i h2)).toLoadRect X_arg4)

/-- The row of deviations. -/
def stdRow (X_arg1 : BufTy.Contents (Elt F) arg1.view.ty) (X_arg3 : BufTy.Contents (Elt F) arg3.view.ty) (X_arg4 : BufTy.Contents (Elt F) arg4.view.ty) (h2 : k0_cond2 i = 1#1) (s : LoopState (F := F) arg7 arg11 arg16 arg17 arg18) : FVec F S1x512 .f32 :=
  k0_pay412 (k0_pay384 (sumRow (F := F) arg16 s.2.1)) (m2Row (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 (BitVec.ofNat 32 (i 0).val) (mid.sl.v3 i) s.1 s.2.1) (k0_pay392 (mid.sl.r arg1 X_arg1)) (k0_pay393 (View.readAt (Elt F) arg3.view (Rect.unit (s := S3x8x8192) (k0_off12 i) S1x1x512.size (k0_off12_inb i h2)).toLoadRect X_arg3)) (k0_pay394 (View.readAt (Elt F) arg4.view (Rect.unit (s := S3x8x8192) (k0_off12 i) S1x1x512.size (k0_off12_inb i h2)).toLoadRect X_arg4)) k0_pay395 (k0_pay396 (mid.sl.r_1 arg1 X_arg1)) (k0_pay397 (View.readAt (Elt F) arg3.view (Rect.unit (s := S3x8x8192) (k0_off13 i) S1x1x512.size (k0_off13_inb i h2)).toLoadRect X_arg3)) (k0_pay398 (View.readAt (Elt F) arg4.view (Rect.unit (s := S3x8x8192) (k0_off13 i) S1x1x512.size (k0_off13_inb i h2)).toLoadRect X_arg4)) (k0_pay399 (mid.sl.r_2 arg1 X_arg1)) (k0_pay400 (View.readAt (Elt F) arg3.view (Rect.unit (s := S3x8x8192) (k0_off14 i) S1x1x512.size (k0_off14_inb i h2)).toLoadRect X_arg3)) (View.readAt (Elt F) arg4.view (Rect.unit (s := S3x8x8192) (k0_off14 i) S1x1x512.size (k0_off14_inb i h2)).toLoadRect X_arg4)

/-- The reciprocal deviations in eight rows. -/
def rstdRows (X_arg1 : BufTy.Contents (Elt F) arg1.view.ty) (X_arg3 : BufTy.Contents (Elt F) arg3.view.ty) (X_arg4 : BufTy.Contents (Elt F) arg4.view.ty) (h2 : k0_cond2 i = 1#1) (s : LoopState (F := F) arg7 arg11 arg16 arg17 arg18) : FVec F S8x512 .f32 :=
  k0_pay413 (k0_pay384 (sumRow (F := F) arg16 s.2.1)) (m2Row (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 (BitVec.ofNat 32 (i 0).val) (mid.sl.v3 i) s.1 s.2.1) (k0_pay392 (mid.sl.r arg1 X_arg1)) (k0_pay393 (View.readAt (Elt F) arg3.view (Rect.unit (s := S3x8x8192) (k0_off12 i) S1x1x512.size (k0_off12_inb i h2)).toLoadRect X_arg3)) (k0_pay394 (View.readAt (Elt F) arg4.view (Rect.unit (s := S3x8x8192) (k0_off12 i) S1x1x512.size (k0_off12_inb i h2)).toLoadRect X_arg4)) k0_pay395 (k0_pay396 (mid.sl.r_1 arg1 X_arg1)) (k0_pay397 (View.readAt (Elt F) arg3.view (Rect.unit (s := S3x8x8192) (k0_off13 i) S1x1x512.size (k0_off13_inb i h2)).toLoadRect X_arg3)) (k0_pay398 (View.readAt (Elt F) arg4.view (Rect.unit (s := S3x8x8192) (k0_off13 i) S1x1x512.size (k0_off13_inb i h2)).toLoadRect X_arg4)) (k0_pay399 (mid.sl.r_2 arg1 X_arg1)) (k0_pay400 (View.readAt (Elt F) arg3.view (Rect.unit (s := S3x8x8192) (k0_off14 i) S1x1x512.size (k0_off14_inb i h2)).toLoadRect X_arg3)) (View.readAt (Elt F) arg4.view (Rect.unit (s := S3x8x8192) (k0_off14 i) S1x1x512.size (k0_off14_inb i h2)).toLoadRect X_arg4)

/-- The right table's sixteen rows, from the deviations and the negated means. -/
def rhsRows (v136 v150 : FVec F S1x512 .f32) : FVec F S16x512 .bf16 :=
  k0_pay6 (iota .tc S16x512 32 [0] iota_S16x512_d0_w32) (k0_pay415 v136) (k0_pay417 v136) (k0_pay418 v136)
    (k0_pay419 v136 (iota .tc S16x512 32 [0] iota_S16x512_d0_w32) v150) (k0_pay420 (iota .tc S16x512 32 [0] iota_S16x512_d0_w32)) (k0_pay421 v136)

/-- What a point leaves from the state `s` that its loop ends in: the exponents, the rows of statistics, the tables. -/
def withStats (X_arg1 : BufTy.Contents (Elt F) arg1.view.ty) (X_arg3 : BufTy.Contents (Elt F) arg3.view.ty) (X_arg4 : BufTy.Contents (Elt F) arg4.view.ty) (h2 : k0_cond2 i = 1#1) (Y_arg8 : BufTy.Contents (Elt F) arg8.view.ty) (Y_arg9 : BufTy.Contents (Elt F) arg9.view.ty) (Y_arg10 : BufTy.Contents (Elt F) arg10.view.ty) (T_arg12 : BufTy.Contents (Elt F) arg12.view.ty) (T_arg13 : BufTy.Contents (Elt F) arg13.view.ty) (Y_arg14 : BufTy.Contents (Elt F) arg14.view.ty) (Y_arg15 : BufTy.Contents (Elt F) arg15.view.ty) (s : LoopState (F := F) arg7 arg11 arg16 arg17 arg18) : BodyState (F := F) arg7 arg8 arg9 arg10 arg11 arg12 arg13 arg14 arg15 arg16 arg17 arg18 :=
  (s.2.2.2.2,
   arg8.view.writes (Elt F) Y_arg8 [⟨Rect.unit (s := S512x112) ![0, 0] S512x112.size inb_S512x112_S512x112_0_0,
     k0_pay4 (View.readAt (Elt F) arg17.view (Rect.unit (s := S128x512) ![0, 0] S128x512.size inb_S128x512_S128x512_0_0).toLoadRect s.2.2.2.1)⟩],
   arg9.view.writes (Elt F) Y_arg9 [⟨Rect.unit (s := S8x8192) (k0_off15 i) S1x512.size (k0_off15_inb i h2), meanRow i arg1 arg3 arg4 arg7 arg11 arg16 arg17 arg18 X_arg1 X_arg3 X_arg4 h2 s⟩],
   arg10.view.writes (Elt F) Y_arg10 [⟨Rect.unit (s := S8x8192) (k0_off15 i) S1x512.size (k0_off15_inb i h2), rstdRow 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 s⟩],
   s.1, T_arg12, T_arg13,
   arg14.view.writes (Elt F) Y_arg14 [⟨Rect.unit (s := S128x512) ![0, 0] S16x512.size inb_S128x512_S16x512_0_0,
       rhsRows (stdRow 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 s) (negRow i arg1 arg3 arg4 arg7 arg11 arg16 arg17 arg18 X_arg1 X_arg3 X_arg4 h2 s)⟩,
     ⟨Rect.unit (s := S128x512) ![0, 0] S128x512.size inb_S128x512_S128x512_0_0, k0_pay5⟩],
   arg15.view.writes (Elt F) (m2Writes (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 (BitVec.ofNat 32 (i 0).val) (mid.sl.v3 i) s.1 Y_arg15 s.2.1)
     [⟨Rect.unit (s := S8x512) ![0, 0] S8x512.size inb_S8x512_S8x512_0_0, rstdRows 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 s⟩],
   s.2.1, s.2.2.2.1, s.2.2.1)

/-- A point in the middle. -/
theorem mid_eq (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty) (h1 : ¬ (Scalar.cmpi .ne (Scalar.extui (Scalar.cmpi .eq (BitVec.ofNat 32 (i 0).val) 0#32)) 0#32 : BitVec 1) = 1#1) (h2 : k0_cond2 i = 1#1) :
    (mid 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18
      = withStats 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 Y_arg12 Y_arg13 Y_arg14 Y_arg15
          (loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18) := by
  unfold mid
  rfl

/-- The last point. -/
theorem last_eq (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty) (h1 : ¬ (Scalar.cmpi .ne (Scalar.extui (Scalar.cmpi .eq (BitVec.ofNat 32 (i 0).val) 0#32)) 0#32 : BitVec 1) = 1#1) (h2 : ¬ k0_cond2 i = 1#1) :
    (last 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18
      = ((loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.2.2,
          arg8.view.writes (Elt F) Y_arg8 [⟨Rect.unit (s := S512x112) ![0, 0] S512x112.size inb_S512x112_S512x112_0_0,
            k0_pay4 (View.readAt (Elt F) arg17.view (Rect.unit (s := S128x512) ![0, 0] S128x512.size inb_S128x512_S128x512_0_0).toLoadRect
              (loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.2.1)⟩],
          Y_arg9, Y_arg10,
          (loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).1, Y_arg12, Y_arg13, Y_arg14, Y_arg15,
          (loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.1,
          (loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.2.1,
          (loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.1) := by
  unfold last
  rfl

/-- The weights' table as the first point fills it. -/
def tab12 (X_arg5 : BufTy.Contents (Elt F) arg5.view.ty) : BufTy.Contents (Elt F) arg12.view.ty := arg12.view.writes (Elt F) arg12.view.junk (first.sl.HY_arg12_28 arg5 X_arg5)
/-- The left table as the first point fills it. -/
def tab13 (X_arg5 : BufTy.Contents (Elt F) arg5.view.ty) (X_arg6 : BufTy.Contents (Elt F) arg6.view.ty) : BufTy.Contents (Elt F) arg13.view.ty :=
  arg13.view.writes (Elt F) arg13.view.junk (first.sl.HY_arg13_28 arg5 arg6 X_arg5 X_arg6)

/-- The first point. -/
theorem first_eq (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (Y_arg7 : BufTy.Contents (Elt F) arg7.view.ty) (Y_arg8 : BufTy.Contents (Elt F) arg8.view.ty) (Y_arg9 : BufTy.Contents (Elt F) arg9.view.ty) (Y_arg10 : BufTy.Contents (Elt F) arg10.view.ty) (Y_arg11 : BufTy.Contents (Elt F) arg11.view.ty) (Y_arg12 : BufTy.Contents (Elt F) arg12.view.ty) (Y_arg13 : BufTy.Contents (Elt F) arg13.view.ty) (Y_arg14 : BufTy.Contents (Elt F) arg14.view.ty) (Y_arg15 : BufTy.Contents (Elt F) arg15.view.ty) (Y_arg16 : BufTy.Contents (Elt F) arg16.view.ty) (Y_arg17 : BufTy.Contents (Elt F) arg17.view.ty) (Y_arg18 : BufTy.Contents (Elt F) arg18.view.ty) (h1 : (Scalar.cmpi .ne (Scalar.extui (Scalar.cmpi .eq (BitVec.ofNat 32 (i 0).val) 0#32)) 0#32 : BitVec 1) = 1#1) (h2 : k0_cond2 i = 1#1) :
    (first 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 h1 h2).1 Y_arg7 Y_arg8 Y_arg9 Y_arg10 Y_arg11 Y_arg12 Y_arg13 Y_arg14 Y_arg15 Y_arg16 Y_arg17 Y_arg18
      = withStats 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 (tab12 arg5 arg12 X_arg5) (tab13 arg5 arg6 arg13 X_arg5 X_arg6) Y_arg14 Y_arg15
          (loopEnd 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 (tab12 arg5 arg12 X_arg5) (tab13 arg5 arg6 arg13 X_arg5 X_arg6) Y_arg14 Y_arg15 Y_arg7 Y_arg11 Y_arg17 Y_arg18) := by
  unfold first
  rfl

end Cert.Proof.KernelIdeal
end
-- ==== Proof.Value.Stat.lean ====
module

public import proofs.«01_k».proof.Proof.Value.Loop
public import proofs.«01_k».proof.Proof.Value.Merge
public import proofs.«01_k».proof.Proof.Value.Off
public import proofs.«01_k».proof.Proof.Value.State

/-!
# The statistics of the block that arrives

From the sums that the loop leaves and the peers' statistics: the rows of means, of deviations and of their
reciprocals.
-/

@[expose] public section
set_option maxRecDepth 8192
noncomputable section
namespace Cert.Proof.Value
open Cert.KernelIdeal Cert.KernelIdeal.Gen Cert.Proof.KernelIdeal
open Idealize.ShloMosaic Idealize.ShloMosaic.ValueIdx Finset

/-- A sum over `8 m` channels, in eight rows. -/
theorem sum_rows (f : ℕ → ℝ) (m : ℕ) : ∑ r ∈ range 8, ∑ j ∈ range m, f (8 * j + r) = ∑ c ∈ range (8 * m), f c := by
  induction m with
  | zero => simp
  | succ m ih =>
    rw [show 8 * (m + 1) = 8 * m + 8 by ring, Finset.sum_range_add, ← ih, ← Finset.sum_add_distrib]
    exact Finset.sum_congr rfl fun r _ => Finset.sum_range_succ _ _

theorem accv_sum0 (D : Blk) (t : ℕ) : ∑ r ∈ range 8, accv D 0 r t 14 = ∑ ch ∈ range 3584, D.B t ch :=
  sum_rows (fun ch => D.B t ch) 448
theorem accv_sum1 (D : Blk) (t : ℕ) : ∑ r ∈ range 8, accv D 1 r t 14 = ∑ ch ∈ range 3584, D.B t ch * D.B t ch :=
  sum_rows (fun ch => D.B t ch * D.B t ch) 448

variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

variable (arg0 v3 : BitVec 32) {D : Blk} {A : Args} {n0 : ℕ} (s : LoopState (F := Ideal) arg7 arg11 arg16 arg17 arg18)
variable (h2 : k0_cond2 i = 1#1) (hA : Arrived i arg11 s.1 D 28) (hS : Summed arg16 s.2.1 D 28) (hD : ∀ t ch, D.B t ch = A.x (n0 + t) ch)

theorem last_trip (t : ℕ) (h : t < 512) : min (28 - 14 * (t / 256)) 14 = 14 := by omega

include hS in
theorem sumRow_apply (y : S1x8x512.Idx) : sumRow (F := Ideal) arg16 s.2.1 y = ((accv D 0 (y 1) (y 2) 14 : ℝ) : EReal) := by
  have h0 : (y 0).val < 1 := (y 0).isLt
  have h2 : (y 2).val < 512 := (y 2).isLt
  refine (readAt_unit_apply arg16.view s.2.1 inb_S2x8x512_S1x8x512_0_0_0 rfl y (ix3 (0 : Fin 2) (y 1) (y 2)) (fun a => by
    match a with
    | ⟨0, _⟩ => show 0 = 0 + (y 0).val; omega
    | ⟨1, _⟩ => show (y 1).val = 0 + (y 1).val; omega
    | ⟨2, _⟩ => show (y 2).val = 0 + (y 2).val; omega)).trans ?_
  rw [hS, last_trip _ h2]
  rfl

include hS in
theorem sqRow_apply (y : S1x8x512.Idx) : sqRow (F := Ideal) arg16 s.2.1 y = ((accv D 1 (y 1) (y 2) 14 : ℝ) : EReal) := by
  have h0 : (y 0).val < 1 := (y 0).isLt
  have h2 : (y 2).val < 512 := (y 2).isLt
  refine (readAt_unit_apply arg16.view s.2.1 inb_S2x8x512_S1x8x512_1_0_0 rfl y (ix3 (1 : Fin 2) (y 1) (y 2)) (fun a => by
    match a with
    | ⟨0, _⟩ => show 1 = 1 + (y 0).val; omega
    | ⟨1, _⟩ => show (y 1).val = 0 + (y 1).val; omega
    | ⟨2, _⟩ => show (y 2).val = 0 + (y 2).val; omega)).trans ?_
  rw [hS, last_trip _ h2]
  rfl

include hD in
theorem mean_sum (t : ℕ) : (∑ r ∈ range 8, accv D 0 r t 14) / 3584 = A.meanL (n0 + t) := by
  rw [accv_sum0]
  simp only [hD]
  rfl

include hS hD in
/-- This rank's means. -/
theorem meanL_apply (x : S1x512.Idx) : k0_pay384 (F := Ideal) (sumRow (F := Ideal) arg16 s.2.1) x = ((A.meanL (n0 + (x 1).val) : ℝ) : EReal) := by
  rw [pay384_apply _ (A := fun r t => accv D 0 r t 14) (sumRow_apply (hS := hS)), mean_sum hD]

include hS hD in
theorem pay387_m2 (x : S1x512.Idx) : k0_pay387 (F := Ideal) (sumRow (F := Ideal) arg16 s.2.1) (sqRow (F := Ideal) arg16 s.2.1) x
    = ((A.m2L (n0 + (x 1).val) : ℝ) : EReal) := by
  rw [pay387_apply _ _ (A := fun r t => accv D 0 r t 14) (A2 := fun r t => accv D 1 r t 14) (sumRow_apply (hS := hS)) (sqRow_apply (hS := hS)), mean_sum hD, accv_sum0, accv_sum1,
    ← A.onePass]
  simp only [hD]

include hA hS hD in
/-- The two-pass sums before trip `n`. -/
theorem twoPass (n : ℕ) (hn : n ≤ 14) (y : S8x512.Idx) :
    st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 h2 (sumRow (F := Ideal) arg16 s.2.1) s.1 (k0_pay389 (F := Ideal)) n y
      = ((∑ j ∈ range (32 * n), (A.x (n0 + (y 1).val) (8 * j + (y 0).val) - A.meanL (n0 + (y 1).val)) * (A.x (n0 + (y 1).val) (8 * j + (y 0).val) - A.meanL (n0 + (y 1).val)) : ℝ) : EReal) := by
  induction n generalizing y with
  | zero => exact bits_zero
  | succ n ih =>
    have e := st_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 h2 (sumRow (F := Ideal) arg16 s.2.1) s.1 (k0_pay389 (F := Ideal)) ⟨n, lt_of_lt_of_eq (by omega : n < 14) (by decide)⟩
    have e' : tripR_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 h2 (sumRow (F := Ideal) arg16 s.2.1) s.1 ⟨n, lt_of_lt_of_eq (by omega : n < 14) (by decide)⟩
        (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 h2 (sumRow (F := Ideal) arg16 s.2.1) s.1 (k0_pay389 (F := Ideal)) n)
        = k0_pay390 (F := Ideal) (sumRow (F := Ideal) arg16 s.2.1) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 h2 (sumRow (F := Ideal) arg16 s.2.1) s.1 (k0_pay389 (F := Ideal)) n)
          (View.readAt (Elt Ideal) arg11.view (Rect.unit (s := S2x3584x512) (k0_off11 i ⟨n, lt_of_lt_of_eq (by omega : n < 14) (by decide)⟩) S1x256x512.size
            (k0_off11_inb i ⟨n, lt_of_lt_of_eq (by omega : n < 14) (by decide)⟩ h2)).toLoadRect s.1) := by
      unfold tripR_k0_t2 trip_k0_t2
      rfl
    refine (congrFun (e.trans e') y).trans ?_
    have hy0 : (y 0).val < 8 := (y 0).isLt
    rw [pay390_apply _ (A := fun r t => accv D 0 r t 14) (sumRow_apply (hS := hS)) _ _ (C := fun r t => ∑ j ∈ range (32 * n), (A.x (n0 + t) (8 * j + r) - A.meanL (n0 + t)) * (A.x (n0 + t) (8 * j + r) - A.meanL (n0 + t)))
      (X := fun ch t => A.x (n0 + t) (256 * n + ch)) (fun z => ih (by omega) z) (fun z => by
        have hz0 : (z 0).val < 1 := (z 0).isLt
        have hz1 : (z 1).val < 256 := (z 1).isLt
        have hz2 : (z 2).val < 512 := (z 2).isLt
        refine (readAt_unit_apply arg11.view s.1 _ (off11_eq i ⟨n, lt_of_lt_of_eq (by omega : n < 14) (by decide)⟩ h2) z (ix3 (⟨(i 0).val % 2, by omega⟩ : Fin 2) (⟨256 * n + (z 1).val, by omega⟩ : Fin 3584) (z 2)) (fun a => by
          match a with
          | ⟨0, _⟩ => show (i 0).val % 2 = (i 0).val % 2 + (z 0).val; omega
          | ⟨1, _⟩ => rfl
          | ⟨2, _⟩ => show (z 2).val = 0 + (z 2).val; omega)).trans ?_
        rw [hA _ rfl (by show (z 2).val / 256 * 14 + (256 * n + (z 1).val) / 256 < 28; omega), hD])]
    rw [show 32 * (n + 1) = 32 * n + 32 by ring, Finset.sum_range_add, mean_sum hD]
    refine congrArg (fun r : ℝ => (r : EReal)) (congrArg (_ + ·) (Finset.sum_congr rfl fun k _ => ?_))
    rw [show 256 * n + (8 * k + (y 0).val) = 8 * (32 * n + k) + (y 0).val by ring]

/-- A window, read back after it is written. -/
theorem readCov_cons_self {sig : RefSig} {κ : Kind} {sp : Space} {s : Shape} {e : EltTy} {Val : EltTy → Type} [∀ e, Nonempty (Val e)] (v : View sig κ sp s e) {off size : Fin s.rank → ℕ}
    (inb : ∀ a, off a + size a ≤ s.size a) (w : (Rect.unit off size inb).shape.Idx → Val e) (L : List (View.Piece Val s e)) (x : (Rect.unit off size inb).shape.Idx) :
    v.readCov (⟨Rect.unit off size inb, w⟩ :: L) (Rect.unit off size inb).toLoadRect x = w x :=
  View.read_writes_cons_unit_of_mem v v.junk inb w L _ x rfl (fun a => show off a + 1 * (x a).val = off a + (x a).val by omega)

include hA hS hD in
/-- This rank's sums of squared deviations, whichever way they are computed. -/
theorem m2Row_apply (x : S1x512.Idx) : m2Row (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 arg0 v3 s.1 s.2.1 x = ((A.m2L (n0 + (x 1).val) : ℝ) : EReal) := by
  have hx : (x 0).val < 1 := (x 0).isLt
  have rd : ∀ (w : FVec Ideal S1x512 .f32) L, View.readCov (Val := Elt Ideal) arg15.view ((⟨Rect.unit (s := S8x512) ![0, 0] S1x512.size inb_S8x512_S1x512_0_0, w⟩ : View.Piece (Elt Ideal) S8x512 .f32) :: L)
      (Rect.unit (s := S8x512) ![0, 0] S1x512.size inb_S8x512_S1x512_0_0).toLoadRect x = w x := fun w L => readCov_cons_self (Val := Elt Ideal) (s := S8x512) (e := .f32) (off := ![0, 0]) (size := S1x512.size) arg15.view inb_S8x512_S1x512_0_0 w L x
  by_cases hb : isBad (F := Ideal) arg16 s.2.1 = 1#1
  · have e : m2Row (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 arg0 v3 s.1 s.2.1 x = k0_pay391 (F := Ideal) (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v3 h2 (sumRow (F := Ideal) arg16 s.2.1) s.1 (k0_pay389 (F := Ideal)) 14) x := by
      unfold m2Row
      rw [if_pos hb, rd, show k0_t2_loop.trips = 14 by decide]
    rw [e, pay391_apply x _ (C := fun r t => ∑ j ∈ range 448, (A.x (n0 + t) (8 * j + r) - A.meanL (n0 + t)) * (A.x (n0 + t) (8 * j + r) - A.meanL (n0 + t)))
      (fun y => twoPass (hA := hA) (hS := hS) (hD := hD) (n := 14) (hn := le_rfl) (y := y) ..)]
    exact congrArg (fun r : ℝ => (r : EReal)) (sum_rows (fun ch => (A.x (n0 + (x 1).val) ch - A.meanL (n0 + (x 1).val)) * (A.x (n0 + (x 1).val) ch - A.meanL (n0 + (x 1).val))) 448)
  · have e : m2Row (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 h2 arg0 v3 s.1 s.2.1 x = k0_pay387 (F := Ideal) (sumRow (F := Ideal) arg16 s.2.1) (sqRow (F := Ideal) arg16 s.2.1) x := by
      unfold m2Row
      rw [if_neg hb, rd]
    rw [e]
    exact pay387_m2 (hS := hS) (hD := hD) (x := x) ..

variable (X_arg1 : BufTy.Contents (Elt Ideal) arg1.view.ty) (X_arg3 : BufTy.Contents (Elt Ideal) arg3.view.ty) (X_arg4 : BufTy.Contents (Elt Ideal) arg4.view.ty)
variable (e1 : ∀ y : S3.Idx, arg1.view.read (Elt Ideal) X_arg1 y = ((A.cnt (y 0) : ℝ) : EReal))
  (e3 : ∀ y : S3x8x8192.Idx, arg3.view.read (Elt Ideal) X_arg3 y = ((A.pm (y 0) (y 1) (y 2) : ℝ) : EReal))
  (e4 : ∀ y : S3x8x8192.Idx, arg4.view.read (Elt Ideal) X_arg4 y = ((A.pv (y 0) (y 1) (y 2) : ℝ) : EReal))
  (hn : n0 = 512 * (i 0).val)

/-- A peer's row. -/
theorem peer_row (v : Memref sig .tc .vmem S3x8x8192 .f32) (X : BufTy.Contents (Elt Ideal) v.view.ty) {p : ℕ → ℕ → ℕ → ℝ}
    (e : ∀ y : S3x8x8192.Idx, v.view.read (Elt Ideal) X y = ((p (y 0) (y 1) (y 2) : ℝ) : EReal)) {off : Fin 3 → ℕ} (j t : ℕ) (hj : j < 3) (ht : t < 128)
    (ho : off = ![j, t / 16, 512 * (t % 16)]) (inb : ∀ a, off a + S1x1x512.size a ≤ S3x8x8192.size a) (x : S1x512.Idx) :
    shapeCast S1x512 (View.readAt (Elt Ideal) v.view (Rect.unit (s := S3x8x8192) off S1x1x512.size inb).toLoadRect X) shapeCasts_S1x1x512_S1x512 x
      = ((p j ((512 * t + (x 1).val) / 8192) ((512 * t + (x 1).val) % 8192) : ℝ) : EReal) := by
  have hx0 : (x 0).val < 1 := (x 0).isLt
  have hx1 : (x 1).val < 512 := (x 1).isLt
  rw [eq_ix2 x]
  refine (shapeCast_1ab_ab_apply _ _ _ _).trans ?_
  refine (readAt_unit_apply v.view X inb ho _ (ix3 (⟨j, hj⟩ : Fin 3) (⟨t / 16, by omega⟩ : Fin 8) (⟨512 * (t % 16) + (x 1).val, by omega⟩ : Fin 8192)) (fun a => by
    match a with
    | ⟨0, _⟩ => show j = j + 0; omega
    | ⟨1, _⟩ => show t / 16 = t / 16 + (x 0).val; omega
    | ⟨2, _⟩ => rfl)).trans ?_
  rw [e]
  show ((p j (t / 16) (512 * (t % 16) + (x 1).val) : ℝ) : EReal) = ((p j ((512 * t + (x 1).val) / 8192) ((512 * t + (x 1).val) % 8192) : ℝ) : EReal)
  rw [show (512 * t + (x 1).val) / 8192 = t / 16 by omega, show (512 * t + (x 1).val) % 8192 = 512 * (t % 16) + (x 1).val by omega]

/-- A peer's count. -/
theorem cnt_apply {off : Fin 1 → ℕ} (j : ℕ) (hj : j < 3) (ho : off = ![j]) (inb : ∀ a, off a + Cert.KernelIdeal.S1.size a ≤ S3.size a) (x : Cert.KernelIdeal.S1.Idx)
    (e1 : ∀ y : S3.Idx, arg1.view.read (Elt Ideal) X_arg1 y = ((A.cnt (y 0) : ℝ) : EReal)) :
    View.readAt (Elt Ideal) arg1.view (Rect.unit (s := S3) off Cert.KernelIdeal.S1.size inb).toLoadRect X_arg1 x = ((A.cnt j : ℝ) : EReal) := by
  have hx0 : (x 0).val < 1 := (x 0).isLt
  refine (readAt_unit_apply arg1.view X_arg1 inb ho x (ix1 (⟨j, hj⟩ : Fin 3)) (fun a => by
    match a with
    | ⟨0, _⟩ => show j = j + (x 0).val; omega)).trans ?_
  rw [e1]

include hS hD e1 e3 hn in
theorem meanRow_apply (x : S1x512.Idx) : meanRow (F := Ideal) i arg1 arg3 arg4 arg7 arg11 arg16 arg17 arg18 X_arg1 X_arg3 X_arg4 h2 s x = ((A.mean (512 * (i 0).val + (x 1).val) : ℝ) : EReal) := by
  subst hn
  exact pay409_apply A (512 * (i 0).val + (x 1).val) _ _ _ _ _ _ _ _ x (meanL_apply (hS := hS) (hD := hD) (x := x) ..) (cnt_apply arg1 X_arg1 0 (by norm_num) rfl _ _ e1) (peer_row arg3 X_arg3 e3 0 (i 0).val (by norm_num) ((cond2_iff i).mp h2) (off12_eq i h2) _ x) bits_3584 (cnt_apply arg1 X_arg1 1 (by norm_num) rfl _ _ e1) (peer_row arg3 X_arg3 e3 1 (i 0).val (by norm_num) ((cond2_iff i).mp h2) (off13_eq i h2) _ x) (cnt_apply arg1 X_arg1 2 (by norm_num) rfl _ _ e1) (peer_row arg3 X_arg3 e3 2 (i 0).val (by norm_num) ((cond2_iff i).mp h2) (off14_eq i h2) _ x)

include hS hD e1 e3 hn in
theorem negRow_apply (x : S1x512.Idx) : negRow (F := Ideal) i arg1 arg3 arg4 arg7 arg11 arg16 arg17 arg18 X_arg1 X_arg3 X_arg4 h2 s x = ((-A.mean (512 * (i 0).val + (x 1).val) : ℝ) : EReal) := by
  subst hn
  exact pay414_apply A (512 * (i 0).val + (x 1).val) _ _ _ _ _ _ _ _ x (meanL_apply (hS := hS) (hD := hD) (x := x) ..) (cnt_apply arg1 X_arg1 0 (by norm_num) rfl _ _ e1) (peer_row arg3 X_arg3 e3 0 (i 0).val (by norm_num) ((cond2_iff i).mp h2) (off12_eq i h2) _ x) bits_3584 (cnt_apply arg1 X_arg1 1 (by norm_num) rfl _ _ e1) (peer_row arg3 X_arg3 e3 1 (i 0).val (by norm_num) ((cond2_iff i).mp h2) (off13_eq i h2) _ x) (cnt_apply arg1 X_arg1 2 (by norm_num) rfl _ _ e1) (peer_row arg3 X_arg3 e3 2 (i 0).val (by norm_num) ((cond2_iff i).mp h2) (off14_eq i h2) _ x)

include hA hS hD e1 e3 e4 hn in
theorem rstdRow_apply (x : S1x512.Idx) : rstdRow (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 s x = ((A.rstd (512 * (i 0).val + (x 1).val) : ℝ) : EReal) := by
  subst hn
  exact pay411_apply A (512 * (i 0).val + (x 1).val) _ _ _ _ _ _ _ _ _ _ _ _ x (meanL_apply (hS := hS) (hD := hD) (x := x) ..) (m2Row_apply (hA := hA) (hS := hS) (hD := hD) (x := x) ..) (cnt_apply arg1 X_arg1 0 (by norm_num) rfl _ _ e1) (peer_row arg3 X_arg3 e3 0 (i 0).val (by norm_num) ((cond2_iff i).mp h2) (off12_eq i h2) _ x) (peer_row arg4 X_arg4 e4 0 (i 0).val (by norm_num) ((cond2_iff i).mp h2) (off12_eq i h2) _ x) bits_3584 (cnt_apply arg1 X_arg1 1 (by norm_num) rfl _ _ e1) (peer_row arg3 X_arg3 e3 1 (i 0).val (by norm_num) ((cond2_iff i).mp h2) (off13_eq i h2) _ x) (peer_row arg4 X_arg4 e4 1 (i 0).val (by norm_num) ((cond2_iff i).mp h2) (off13_eq i h2) _ x) (cnt_apply arg1 X_arg1 2 (by norm_num) rfl _ _ e1) (peer_row arg3 X_arg3 e3 2 (i 0).val (by norm_num) ((cond2_iff i).mp h2) (off14_eq i h2) _ x) (peer_row arg4 X_arg4 e4 2 (i 0).val (by norm_num) ((cond2_iff i).mp h2) (off14_eq i h2) _ x)

include hA hS hD e1 e3 e4 hn in
theorem stdRow_apply (x : S1x512.Idx) : stdRow (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 s x
    = ((A.var (512 * (i 0).val + (x 1).val) * A.rstd (512 * (i 0).val + (x 1).val) : ℝ) : EReal) := by
  subst hn
  exact pay412_apply A (512 * (i 0).val + (x 1).val) _ _ _ _ _ _ _ _ _ _ _ _ x (meanL_apply (hS := hS) (hD := hD) (x := x) ..) (m2Row_apply (hA := hA) (hS := hS) (hD := hD) (x := x) ..) (cnt_apply arg1 X_arg1 0 (by norm_num) rfl _ _ e1) (peer_row arg3 X_arg3 e3 0 (i 0).val (by norm_num) ((cond2_iff i).mp h2) (off12_eq i h2) _ x) (peer_row arg4 X_arg4 e4 0 (i 0).val (by norm_num) ((cond2_iff i).mp h2) (off12_eq i h2) _ x) bits_3584 (cnt_apply arg1 X_arg1 1 (by norm_num) rfl _ _ e1) (peer_row arg3 X_arg3 e3 1 (i 0).val (by norm_num) ((cond2_iff i).mp h2) (off13_eq i h2) _ x) (peer_row arg4 X_arg4 e4 1 (i 0).val (by norm_num) ((cond2_iff i).mp h2) (off13_eq i h2) _ x) (cnt_apply arg1 X_arg1 2 (by norm_num) rfl _ _ e1) (peer_row arg3 X_arg3 e3 2 (i 0).val (by norm_num) ((cond2_iff i).mp h2) (off14_eq i h2) _ x) (peer_row arg4 X_arg4 e4 2 (i 0).val (by norm_num) ((cond2_iff i).mp h2) (off14_eq i h2) _ x)

include hA hS hD e1 e3 e4 hn in
theorem rstdRows_apply (y : S8x512.Idx) : rstdRows (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 s y = ((A.rstd (512 * (i 0).val + (y 1).val) : ℝ) : EReal) :=
  (pay413_eq _ _ _ _ _ _ _ _ _ _ _ _ y).trans (rstdRow_apply (hA := hA) (hS := hS) (hD := hD) (e1 := e1) (e3 := e3) (e4 := e4) (hn := hn) (x := ix2 (0 : Fin 1) (y 1)) ..)

end Cert.Proof.Value
end
-- ==== Proof.Value.Tab.lean ====
module

public import proofs.«01_k».proof.Proof.Value.Loop
public import proofs.«01_k».proof.Proof.Value.Merge
public import proofs.«01_k».proof.Proof.Value.State

/-!
# The tables that the first point fills

Each table is twenty-eight tiles of 128 channels. The weights' table repeats a channel's weight in its row; the left
table holds in a channel's row the parts of its weight and of its offset.
-/

@[expose] public section
set_option maxRecDepth 65536
noncomputable section
namespace Cert.Proof.Value
open Cert.KernelIdeal Cert.KernelIdeal.Gen Cert.Proof.KernelIdeal
open Idealize.ShloMosaic Idealize.ShloMosaic.ValueIdx Finset

/-- The tiles, the last written first. -/
def tiles : List (Fin 28) := [27, 26, 25, 24, 23, 22, 21, 20, 19, 18, 17, 16, 15, 14, 13, 12, 11, 10, 9, 8, 7, 6, 5, 4, 3, 2, 1, 0]
theorem mem_tiles : ∀ k : Fin 28, k ∈ tiles := by decide

theorem tile_inb (k : Fin 28) : ∀ a, (![128 * k.val, 0] : Fin 2 → ℕ) a + S128x128.size a ≤ S3584x128.size a := fun a => by
  have := k.isLt
  match a with
  | ⟨0, _⟩ => show 128 * k.val + 128 ≤ 3584; omega
  | ⟨1, _⟩ => show 0 + 128 ≤ 128; omega
theorem row_inb (k : Fin 28) : ∀ a, (![k.val, 0] : Fin 2 → ℕ) a + Cert.KernelIdeal.S1x128.size a ≤ S28x128.size a := fun a => by
  have := k.isLt
  match a with
  | ⟨0, _⟩ => show k.val + 1 ≤ 28; omega
  | ⟨1, _⟩ => show 0 + 128 ≤ 128; omega

section Gen
variable {F : FTy → Type} [FloatOps F]
variable (arg5 arg6 : Memref sig .tc .vmem S28x128 .f32) (X_arg5 : BufTy.Contents (Elt F) arg5.view.ty) (X_arg6 : BufTy.Contents (Elt F) arg6.view.ty)

/-- A row of weights. -/
def rowOf (v : Memref sig .tc .vmem S28x128 .f32) (X : BufTy.Contents (Elt F) v.view.ty) (k : Fin 28) : Vec F S1x128 .f32 :=
  View.readAt (Elt F) v.view (Rect.unit (s := S28x128) ![k.val, 0] S1x128.size (row_inb k)).toLoadRect X

/-- A tile of the left table. -/
def tileL (g b : Vec F S1x128 .f32) : FVec F S128x128 .bf16 :=
  k0_pay15 (iota .tc S128x128 32 [1] iota_S128x128_d1_w32) (k0_pay10 b) (k0_pay12 b) (k0_pay13 b) (k0_pay14 g) 6#32

def piece12 (k : Fin 28) : View.Piece (Elt F) S3584x128 .f32 :=
  ⟨Rect.unit (s := S3584x128) ![128 * k.val, 0] S128x128.size (tile_inb k), k0_pay9 (rowOf arg5 X_arg5 k)⟩
def piece13 (k : Fin 28) : View.Piece (Elt F) S3584x128 .bf16 :=
  ⟨Rect.unit (s := S3584x128) ![128 * k.val, 0] S128x128.size (tile_inb k), tileL (rowOf arg5 X_arg5 k) (rowOf arg6 X_arg6 k)⟩

theorem pieces12 : first.sl.HY_arg12_28 arg5 X_arg5 = tiles.map (piece12 arg5 X_arg5) := rfl
theorem pieces13 : first.sl.HY_arg13_28 arg5 arg6 X_arg5 X_arg6 = tiles.map (piece13 arg5 arg6 X_arg5 X_arg6) := rfl
end Gen

theorem pay7_apply (r : Vec Ideal S1x128 .f32) (x : S128x128.Idx) : k0_pay7 (F := Ideal) r x = r (ix2 (0 : Fin 1) (x 0)) := by
  unfold k0_pay7
  refine (transpose_apply _ _ _ x (ix2 (x 1) (x 0)) (fun b => match b with | ⟨0, _⟩ => rfl | ⟨1, _⟩ => rfl)).trans ?_
  refine (broadcastTo_1b_ab_apply _ _ _ _).trans ?_
  exact (shapeCast_apply _ shapeCasts_S1x128_S1x128 _ _ rfl).trans (shapeCast_apply _ shapeCasts_S1x128_S1x128 _ _ rfl)

theorem pay9_apply (r : Vec Ideal S1x128 .f32) (x : S128x128.Idx) : k0_pay9 (F := Ideal) r x = r (ix2 (0 : Fin 1) (x 0)) := by
  unfold k0_pay9
  refine (shapeCast_apply _ shapeCasts_S128x128_S128x128 x x rfl).trans ?_
  exact pay7_apply r x

theorem tileL_apply (g b : Vec Ideal S1x128 .f32) (x : S128x128.Idx) {p q : ℝ} (hg : g (ix2 (0 : Fin 1) (x 0)) = (p : EReal)) (hb : b (ix2 (0 : Fin 1) (x 0)) = (q : EReal)) :
    tileL (F := Ideal) g b x = ((laneL p q (x 1) : ℝ) : EReal) := by
  have hy := idx2_lt1 x
  have hi : iota .tc S128x128 32 [1] iota_S128x128_d1_w32 x = BitVec.ofNat 32 (x 1).val := by
    show BitVec.ofNat 32 (0 * 128 + (x 1).val) = _
    rw [Nat.zero_mul, Nat.zero_add]
  have z : ∀ (r : ℝ), ((r : EReal) - (r : EReal)) = ((0 : ℝ) : EReal) := fun r => by rw [sub_coe, sub_self]
  have g0 : k0_pay7 (F := Ideal) g x = (p : EReal) := (pay7_apply g x).trans hg
  have b0 : k0_pay7 (F := Ideal) b x = (q : EReal) := (pay7_apply b x).trans hb
  have g1 : subf (k0_pay7 (F := Ideal) g) (k0_pay7 (F := Ideal) g) x = ((0 : ℝ) : EReal) := by
    show k0_pay7 (F := Ideal) g x - k0_pay7 (F := Ideal) g x = _
    rw [g0, z]
  have g2 : subf (subf (k0_pay7 (F := Ideal) g) (k0_pay7 (F := Ideal) g)) (subf (k0_pay7 (F := Ideal) g) (k0_pay7 (F := Ideal) g)) x = ((0 : ℝ) : EReal) := by
    show subf (k0_pay7 (F := Ideal) g) (k0_pay7 (F := Ideal) g) x - subf (k0_pay7 (F := Ideal) g) (k0_pay7 (F := Ideal) g) x = _
    rw [g1, z]
  have e0 : k0_pay10 (F := Ideal) b x = (q : EReal) := by
    unfold k0_pay10
    exact b0
  have e1 : k0_pay11 (F := Ideal) b x = ((0 : ℝ) : EReal) := by
    unfold k0_pay11
    show k0_pay7 (F := Ideal) b x - k0_pay10 (F := Ideal) b x = _
    rw [b0, e0, z]
  have b1 : k0_pay12 (F := Ideal) b x = ((0 : ℝ) : EReal) := by
    unfold k0_pay12
    exact e1
  have b2 : k0_pay13 (F := Ideal) b x = ((0 : ℝ) : EReal) := by
    unfold k0_pay13
    show k0_pay11 (F := Ideal) b x - k0_pay12 (F := Ideal) b x = _
    rw [e1, b1, z]
  have hz : broadcast S128x128 (Scalar.ofBits (F := Ideal) .f32 0x00000000#32) x = ((0 : ℝ) : EReal) := bits_zero
  unfold tileL k0_pay15 k0_pay14
  rw [shapeCast_apply _ shapeCasts_S128x128_S128x128 x x rfl]
  refine (sel_row _ 11 _ _ x hi (by omega) (by norm_num) b2
    (sel_row _ 10 _ _ x hi (by omega) (by norm_num) b1
    (sel_row _ 9 _ _ x hi (by omega) (by norm_num) b1
    (sel_row _ 8 _ _ x hi (by omega) (by norm_num) e0
    (sel_row _ 7 _ _ x hi (by omega) (by norm_num) e0
    (sel_row _ 6 _ _ x hi (by omega) (by norm_num) e0
    (sel_row _ 5 _ _ x hi (by omega) (by norm_num) g2
    (sel_row _ 4 _ _ x hi (by omega) (by norm_num) g1
    (sel_row _ 3 _ _ x hi (by omega) (by norm_num) g1
    (sel_row _ 2 _ _ x hi (by omega) (by norm_num) g0
    (sel_row _ 1 _ _ x hi (by omega) (by norm_num) g0
    (sel_row _ 0 _ _ x hi (by omega) (by norm_num) g0 hz)))))))))))).trans ?_
  refine congrArg (fun r : ℝ => (r : EReal)) ?_
  generalize (x 1).val = r
  rcases Nat.lt_or_ge r 12 with h | h
  · interval_cases r <;> simp [laneL]
  · rw [if_neg (by omega), if_neg (by omega), if_neg (by omega), if_neg (by omega), if_neg (by omega), if_neg (by omega), if_neg (by omega), if_neg (by omega),
      if_neg (by omega), if_neg (by omega), if_neg (by omega), if_neg (by omega)]
    unfold laneL
    rw [if_neg (by omega), if_neg (by omega), if_neg (by omega)]

variable (arg5 arg6 : Memref sig .tc .vmem S28x128 .f32) (arg12 : Memref sig .tc .vmem S3584x128 .f32) (arg13 : Memref sig .tc .vmem S3584x128 .bf16)
  (X_arg5 : BufTy.Contents (Elt Ideal) arg5.view.ty) (X_arg6 : BufTy.Contents (Elt Ideal) arg6.view.ty) {g b : ℕ → ℝ}
  (h5 : ∀ y : S28x128.Idx, arg5.view.read (Elt Ideal) X_arg5 y = ((g (128 * (y 0).val + (y 1).val) : ℝ) : EReal))
  (h6 : ∀ y : S28x128.Idx, arg6.view.read (Elt Ideal) X_arg6 y = ((b (128 * (y 0).val + (y 1).val) : ℝ) : EReal))

theorem rowOf_apply (v : Memref sig .tc .vmem S28x128 .f32) (X : BufTy.Contents (Elt Ideal) v.view.ty) {f : ℕ → ℝ}
    (h : ∀ y : S28x128.Idx, v.view.read (Elt Ideal) X y = ((f (128 * (y 0).val + (y 1).val) : ℝ) : EReal)) (k : Fin 28) (l : Fin 128) :
    rowOf (F := Ideal) v X k (ix2 (0 : Fin 1) l) = ((f (128 * k.val + l.val) : ℝ) : EReal) :=
  (readAt_unit_apply v.view X (row_inb k) rfl (ix2 (0 : Fin 1) l) (ix2 k l) (fun a => by
    match a with
    | ⟨0, _⟩ => show k.val = k.val + 0; omega
    | ⟨1, _⟩ => show l.val = 0 + l.val; omega)).trans (h _)

/-- Every place of a table lies in a tile. -/
theorem tile_mem (y : S3584x128.Idx) : ∃ k : Fin 28, y ∈ (Rect.unit (s := S3584x128) ![128 * k.val, 0] S128x128.size (tile_inb k)).set := by
  have h0 : (y 0).val < 3584 := (y 0).isLt
  have h1 : (y 1).val < 128 := (y 1).isLt
  refine ⟨⟨(y 0).val / 128, by omega⟩, (LoadRect.mem_set _).mpr fun a => ?_⟩
  match a with
  | ⟨0, _⟩ => exact ⟨(y 0).val % 128, Nat.mod_lt _ (by norm_num), by show (y 0).val = 128 * ((y 0).val / 128) + 1 * ((y 0).val % 128); omega⟩
  | ⟨1, _⟩ => exact ⟨(y 1).val, h1, by show (y 1).val = 0 + 1 * (y 1).val; omega⟩

include h5 in
theorem tab12_apply (y : S3584x128.Idx) : arg12.view.read (Elt Ideal) (tab12 (F := Ideal) arg5 arg12 X_arg5) y = ((g (y 0) : ℝ) : EReal) := by
  unfold tab12
  rw [pieces12]
  refine View.read_writes_apply_of_pieces arg12.view _ (show S3584x128.Idx → Elt Ideal .f32 from fun y => ((g (y 0) : ℝ) : EReal)) _ (fun p hp x => ?_) y ?_
  · obtain ⟨k, _, rfl⟩ := List.mem_map.mp hp
    refine (pay9_apply _ x).trans ((rowOf_apply arg5 X_arg5 h5 k (x 0)).trans ?_)
    show ((g (128 * k.val + (x 0).val) : ℝ) : EReal) = ((g (128 * k.val + 1 * (x 0).val) : ℝ) : EReal)
    rw [Nat.one_mul]
  · obtain ⟨k, hk⟩ := tile_mem y
    exact ⟨_, List.mem_map_of_mem (mem_tiles k), hk⟩

include h5 h6 in
theorem tab13_apply (y : S3584x128.Idx) : arg13.view.read (Elt Ideal) (tab13 (F := Ideal) arg5 arg6 arg13 X_arg5 X_arg6) y = ((laneL (g (y 0)) (b (y 0)) (y 1) : ℝ) : EReal) := by
  unfold tab13
  rw [pieces13]
  refine View.read_writes_apply_of_pieces arg13.view _ (show S3584x128.Idx → Elt Ideal .bf16 from fun y => ((laneL (g (y 0)) (b (y 0)) (y 1) : ℝ) : EReal)) _ (fun p hp x => ?_) y ?_
  · obtain ⟨k, _, rfl⟩ := List.mem_map.mp hp
    refine (tileL_apply _ _ x (rowOf_apply arg5 X_arg5 h5 k (x 0)) (rowOf_apply arg6 X_arg6 h6 k (x 0))).trans ?_
    show ((laneL (g (128 * k.val + (x 0).val)) (b (128 * k.val + (x 0).val)) (x 1).val : ℝ) : EReal)
      = ((laneL (g (128 * k.val + 1 * (x 0).val)) (b (128 * k.val + 1 * (x 0).val)) (0 + 1 * (x 1).val) : ℝ) : EReal)
    rw [Nat.one_mul, Nat.one_mul, Nat.zero_add]
  · obtain ⟨k, hk⟩ := tile_mem y
    exact ⟨_, List.mem_map_of_mem (mem_tiles k), hk⟩

end Cert.Proof.Value
end
-- ==== Proof.Value.Point.lean ====
module

public import proofs.«01_k».proof.Proof.Value.Stat
public import proofs.«01_k».proof.Proof.Value.Tab
public import Idealize.ShloMosaic.Lib.VecWindow

/-!
# What one point of the grid leaves, at real values

At point `t` block `t` arrives: its statistics are written to their places in the results, and with the weights they
make the tables of the next point. Block `t - 1` is emitted: its codes and its exponents.
-/

@[expose] public section
set_option maxRecDepth 8192
noncomputable section
namespace Cert.Proof.Value
open Cert.KernelIdeal Cert.KernelIdeal.Gen Cert.Proof.KernelIdeal
open Idealize.ShloMosaic Idealize.ShloMosaic.ValueIdx Finset

theorem cond1_iff : ∀ (i : grid0.Coords), (Scalar.cmpi .ne (Scalar.extui (Scalar.cmpi .eq (BitVec.ofNat 32 (i 0).val) 0#32)) 0#32 : BitVec 1) = 1#1 ↔ (i 0).val = 0 := by decide +kernel
theorem bits_zero16 : Ideal.ofBits .bf16 0x0000#16 = ((0 : ℝ) : EReal) := by simp

/-- The numbers of point `t`. -/
def blk (A : Args) (t : ℕ) : Blk where
  B n ch := A.x (512 * t + n) ch
  P n ch := A.x (512 * (t - 1) + n) ch
  G := A.g
  Bt := A.b
  M n := A.mean (512 * (t - 1) + n)
  S n := A.var (512 * (t - 1) + n) * A.rstd (512 * (t - 1) + n)
  R n := A.rstd (512 * (t - 1) + n)
  hR n := (A.rstd_pos _).le

/-- The block of tokens that a place of the statistics belongs to. -/
def tok (y : S8x8192.Idx) : ℕ := 16 * (y 0).val + (y 1).val / 512

/-- The statistics after point `t`, from `Y` before it: those of block `t` are `f`, the others stay. -/
def RowAft (f : ℕ → ℝ) (t : ℕ) (Y X : S8x8192.Idx → EReal) : Prop :=
  ∀ y, (tok y = t → X y = ((f (8192 * (y 0).val + (y 1).val) : ℝ) : EReal)) ∧ (tok y ≠ t → X y = Y y)

/-- The exponents' byte. -/
def byte (e : ℤ) : BitVec 8 := BitVec.setWidth 8 (BitVec.ofInt 32 e + 127#32)

/-- A row of a block's statistics, put in its place. -/
theorem row_write {sp : Space} (v : View sig .tc sp S8x8192 .f32) (Y : v.ty.Contents (Elt Ideal)) (f : ℕ → ℝ) (t : ℕ) (ht : t < 128) {off : Fin 2 → ℕ}
    (ho : off = ![t / 16, 512 * (t % 16)]) (inb : ∀ a, off a + S1x512.size a ≤ S8x8192.size a) (w : FVec Ideal S1x512 .f32)
    (hw : ∀ x : S1x512.Idx, w x = ((f (512 * t + (x 1).val) : ℝ) : EReal)) :
    RowAft f t (v.read (Elt Ideal) Y) (v.read (Elt Ideal) (v.writes (Elt Ideal) Y [⟨Rect.unit (s := S8x8192) off S1x512.size inb, w⟩])) := fun y => by
  have hy0 : (y 0).val < 8 := (y 0).isLt
  have hy1 : (y 1).val < 8192 := (y 1).isLt
  constructor
  · intro h
    unfold tok at h
    refine (View.read_writes_cons_unit_of_mem v Y inb w [] y (ix2 (0 : Fin 1) (⟨(y 1).val % 512, Nat.mod_lt _ (by norm_num)⟩ : Fin 512)) ho (fun a => by
      match a with
      | ⟨0, _⟩ => show (y 0).val = t / 16 + 0; omega
      | ⟨1, _⟩ => show (y 1).val = 512 * (t % 16) + (y 1).val % 512; omega)).trans ((hw _).trans ?_)
    show ((f (512 * t + (y 1).val % 512) : ℝ) : EReal) = _
    rw [show 512 * t + (y 1).val % 512 = 8192 * (y 0).val + (y 1).val by omega]
  · intro h
    unfold tok at h
    by_cases h0 : (y 0).val = t / 16
    · exact View.read_writes_cons_unit_of_not_mem v Y inb w [] y ho 1 (by
        show (y 1).val < 512 * (t % 16) ∨ 512 * (t % 16) + 512 ≤ (y 1).val; omega)
    · exact View.read_writes_cons_unit_of_not_mem v Y inb w [] y ho 0 (by
        show (y 0).val < t / 16 ∨ t / 16 + 1 ≤ (y 0).val; omega)

variable (𝒱 : Variants) (c : Dev nD) (bd : Option 𝒱.V)
variable (i : grid0.Coords)
variable (arg1 : Memref sig .tc .smem S3 .f32)
variable (harg1 : arg1.IsWhole)
variable (arg2 : Memref sig .tc .vmem S512x3584 .bf16)
variable (harg2 : arg2.IsWhole)
variable (arg3 : Memref sig .tc .vmem S3x8x8192 .f32)
variable (harg3 : arg3.IsWhole)
variable (arg4 : Memref sig .tc .vmem S3x8x8192 .f32)
variable (harg4 : arg4.IsWhole)
variable (arg5 : Memref sig .tc .vmem S28x128 .f32)
variable (harg5 : arg5.IsWhole)
variable (arg6 : Memref sig .tc .vmem S28x128 .f32)
variable (harg6 : arg6.IsWhole)
variable (arg7 : Memref sig .tc .vmem S512x3584 .fp8e4m3)
variable (harg7 : arg7.IsWhole)
variable (arg8 : Memref sig .tc .vmem S512x112 .i8)
variable (harg8 : arg8.IsWhole)
variable (arg9 : Memref sig .tc .vmem S8x8192 .f32)
variable (harg9 : arg9.IsWhole)
variable (arg10 : Memref sig .tc .vmem S8x8192 .f32)
variable (harg10 : arg10.IsWhole)
variable (arg11 : Memref sig .tc .vmem S2x3584x512 .bf16)
variable (harg11 : arg11.IsWhole)
variable (arg12 : Memref sig .tc .vmem S3584x128 .f32)
variable (harg12 : arg12.IsWhole)
variable (arg13 : Memref sig .tc .vmem S3584x128 .bf16)
variable (harg13 : arg13.IsWhole)
variable (arg14 : Memref sig .tc .vmem S128x512 .bf16)
variable (harg14 : arg14.IsWhole)
variable (arg15 : Memref sig .tc .vmem S8x512 .f32)
variable (harg15 : arg15.IsWhole)
variable (arg16 : Memref sig .tc .vmem S2x8x512 .f32)
variable (harg16 : arg16.IsWhole)
variable (arg17 : Memref sig .tc .vmem S128x512 .i32)
variable (harg17 : arg17.IsWhole)
variable (arg18 : Memref sig .tc .vmem S80x128 .f32)
variable (harg18 : arg18.IsWhole)

variable {A : Args} {t : ℕ} (ht : (i 0).val = t)
variable (X_arg1 : BufTy.Contents (Elt Ideal) arg1.view.ty) (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty)

/-- What the inputs hold. -/
structure Ins (A : Args) (t : ℕ) : Prop where
  h1 : ∀ y : S3.Idx, arg1.view.read (Elt Ideal) X_arg1 y = ((A.cnt (y 0) : ℝ) : EReal)
  h2 : t < 128 → BlockIs arg2 X_arg2 (blk A t)
  h3 : ∀ y : S3x8x8192.Idx, arg3.view.read (Elt Ideal) X_arg3 y = ((A.pm (y 0) (y 1) (y 2) : ℝ) : EReal)
  h4 : ∀ y : S3x8x8192.Idx, arg4.view.read (Elt Ideal) X_arg4 y = ((A.pv (y 0) (y 1) (y 2) : ℝ) : EReal)
  h5 : ∀ y : S28x128.Idx, arg5.view.read (Elt Ideal) X_arg5 y = ((A.g (128 * (y 0).val + (y 1).val) : ℝ) : EReal)
  h6 : ∀ y : S28x128.Idx, arg6.view.read (Elt Ideal) X_arg6 y = ((A.b (128 * (y 0).val + (y 1).val) : ℝ) : EReal)

variable (hX : Ins arg1 arg2 arg3 arg4 arg5 arg6 X_arg1 X_arg2 X_arg3 X_arg4 X_arg5 X_arg6 A t)
variable (T_arg12 : BufTy.Contents (Elt Ideal) arg12.view.ty) (T_arg13 : BufTy.Contents (Elt Ideal) arg13.view.ty)
variable (Y_arg7 : BufTy.Contents (Elt Ideal) arg7.view.ty) (Y_arg8 : BufTy.Contents (Elt Ideal) arg8.view.ty) (Y_arg9 : BufTy.Contents (Elt Ideal) arg9.view.ty) (Y_arg10 : BufTy.Contents (Elt Ideal) arg10.view.ty) (Y_arg11 : BufTy.Contents (Elt Ideal) arg11.view.ty) (Y_arg12 : BufTy.Contents (Elt Ideal) arg12.view.ty) (Y_arg13 : BufTy.Contents (Elt Ideal) arg13.view.ty) (Y_arg14 : BufTy.Contents (Elt Ideal) arg14.view.ty) (Y_arg15 : BufTy.Contents (Elt Ideal) arg15.view.ty) (Y_arg16 : BufTy.Contents (Elt Ideal) arg16.view.ty) (Y_arg17 : BufTy.Contents (Elt Ideal) arg17.view.ty) (Y_arg18 : BufTy.Contents (Elt Ideal) arg18.view.ty)

/-- What the scratch holds before point `t`: the weights' tables, the tables of block `t - 1`, and that block itself. -/
structure Scr (A : Args) (t : ℕ) : Prop where
  tab : Tables arg12 arg13 arg14 arg15 Y_arg13 Y_arg14 Y_arg12 Y_arg15 (blk A t)
  slot : ∀ y : S2x3584x512.Idx, (y 0).val = 1 - t % 2 → arg11.view.read (Elt Ideal) Y_arg11 y = (((blk A t).P (y 2) (y 1) : ℝ) : EReal)

/-- What a point leaves in the results' windows. -/
structure Outs (A : Args) (t : ℕ) (Z_arg7 : BufTy.Contents (Elt Ideal) arg7.view.ty) (Z_arg8 : BufTy.Contents (Elt Ideal) arg8.view.ty) (Z_arg9 : BufTy.Contents (Elt Ideal) arg9.view.ty) (Z_arg10 : BufTy.Contents (Elt Ideal) arg10.view.ty) : Prop where
  codes : 0 < t → ∀ y : S512x3584.Idx, arg7.view.read (Elt Ideal) Z_arg7 y = (((blk A t).code (y 0) (y 1) : ℝ) : EReal)
  exps : 0 < t → ∀ y : S512x112.Idx, arg8.view.read (Elt Ideal) Z_arg8 y = byte ((blk A t).e (y 0) (y 1))
  mean : RowAft A.mean t (arg9.view.read (Elt Ideal) Y_arg9) (arg9.view.read (Elt Ideal) Z_arg9)
  rstd : RowAft A.rstd t (arg10.view.read (Elt Ideal) Y_arg10) (arg10.view.read (Elt Ideal) Z_arg10)

theorem trips_eq : Scf.trips k0_t1_loop.lb k0_t1_loop.ub k0_t1_loop.st = 28 := by decide

theorem summed_zero (D : Blk) : Summed arg16 (arg16.view.writes (Elt Ideal) arg16.view.junk [⟨Rect.unit (s := S2x8x512) ![0, 0, 0] S2x8x512.size inb_S2x8x512_S2x8x512_0_0_0, k0_pay2 (F := Ideal)⟩]) D 0 := fun y => by
  rw [View.read_writes_full]
  have e : accv D (y 0) (y 1) (y 2) (min (0 - 14 * ((y 2).val / 256)) 14) = 0 := by
    rw [show min (0 - 14 * ((y 2).val / 256)) 14 = 0 by omega]
    unfold accv
    simp
  rw [e]
  unfold k0_pay2
  refine (shapeCast_apply _ _ _ y rfl).trans ?_
  exact bits_zero

include ht hX in
/-- The loop, as far as the arriving block goes. -/
theorem arrive (h128 : t < 128) : Arrived i arg11 (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 T_arg12 T_arg13 Y_arg14 Y_arg15 Y_arg7 Y_arg11 Y_arg17 Y_arg18).1 (blk A t) 28 ∧ Summed arg16 (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 T_arg12 T_arg13 Y_arg14 Y_arg15 Y_arg7 Y_arg11 Y_arg17 Y_arg18).2.1 (blk A t) 28 := by
  have h := loop_in (hB := hX.h2 h128) (h0 := summed_zero arg16 (blk A t)) (n := 28) (hn := le_rfl) (g := (Y_arg11, arg16.view.writes (Elt Ideal) arg16.view.junk [⟨Rect.unit (s := S2x8x512) ![0, 0, 0] S2x8x512.size inb_S2x8x512_S2x8x512_0_0_0, k0_pay2 (F := Ideal)⟩], Y_arg18, Y_arg17, Y_arg7))
    𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (mid.sl.v3 i) (mid.sl.v4 i) (X_arg13 := T_arg13) (X_arg14 := Y_arg14) (X_arg12 := T_arg12) (X_arg15 := Y_arg15)
  unfold loopEnd
  rw [trips_eq]
  exact h

include ht in
/-- The loop, as far as the emitted block goes. -/
theorem emit (hT : Tables arg12 arg13 arg14 arg15 T_arg13 Y_arg14 T_arg12 Y_arg15 (blk A t))
    (hP : ∀ y : S2x3584x512.Idx, (y 0).val = 1 - t % 2 → arg11.view.read (Elt Ideal) Y_arg11 y = (((blk A t).P (y 2) (y 1) : ℝ) : EReal)) :
    Exps arg17 (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 T_arg12 T_arg13 Y_arg14 Y_arg15 Y_arg7 Y_arg11 Y_arg17 Y_arg18).2.2.2.1 (blk A t) 28 ∧ Codes arg7 (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 T_arg12 T_arg13 Y_arg14 Y_arg15 Y_arg7 Y_arg11 Y_arg17 Y_arg18).2.2.2.2 (blk A t) 28 := by
  subst ht
  have h := loop_out (hT := hT) (hP := hP) (n := 28) (hn := le_rfl) (g := (Y_arg11, arg16.view.writes (Elt Ideal) arg16.view.junk [⟨Rect.unit (s := S2x8x512) ![0, 0, 0] S2x8x512.size inb_S2x8x512_S2x8x512_0_0_0, k0_pay2 (F := Ideal)⟩], Y_arg18, Y_arg17, Y_arg7))
    𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (mid.sl.v3 i) (mid.sl.v4 i) (X_arg2 := X_arg2)
  unfold loopEnd
  rw [trips_eq]
  exact h.2

/-- The exponents' bytes, from the scratch of exponents. -/
theorem bytes {D : Blk} (S : BufTy.Contents (Elt Ideal) arg17.view.ty) (h : Exps arg17 S D 28) (y : S512x112.Idx) :
    arg8.view.read (Elt Ideal) (arg8.view.writes (Elt Ideal) Y_arg8 [⟨Rect.unit (s := S512x112) ![0, 0] S512x112.size inb_S512x112_S512x112_0_0,
      k0_pay4 (F := Ideal) (View.readAt (Elt Ideal) arg17.view (Rect.unit (s := S128x512) ![0, 0] S128x512.size inb_S128x512_S128x512_0_0).toLoadRect S)⟩]) y = byte (D.e (y 0) (y 1)) := by
  have hy0 : (y 0).val < 512 := (y 0).isLt
  have hy1 : (y 1).val < 112 := (y 1).isLt
  rw [View.read_writes_full, View.readAt_full]
  unfold k0_pay4 byte
  refine congrArg (BitVec.setWidth 8) (Eq.trans ?_ (h (ix2 (⟨(y 1).val, by omega⟩ : Fin 128) (y 0)) hy1 (by show (y 0).val / 256 * 14 + (y 1).val / 8 < 28; omega)))
  refine (extractStridedSlice_apply _ _ slices_S512x128_o0_0_S512x112 y (ix2 (y 0) (⟨(y 1).val, by omega⟩ : Fin 128)) (fun a => by
    match a with
    | ⟨0, _⟩ => show (y 0).val = 0 + (y 0).val; omega
    | ⟨1, _⟩ => show (y 1).val = 0 + (y 1).val; omega)).trans ?_
  exact transpose_apply _ _ _ _ _ (fun b => match b with | ⟨0, _⟩ => rfl | ⟨1, _⟩ => rfl)

variable (h2 : k0_cond2 i = 1#1)
variable (s : LoopState (F := Ideal) arg7 arg11 arg16 arg17 arg18) (hA : Arrived i arg11 s.1 (blk A t) 28) (hS : Summed arg16 s.2.1 (blk A t) 28)

include ht hX hA hS in
/-- What a point at which a block arrives leaves: the statistics and the next point's scratch. -/
theorem stats_rows (h128 : t < 128) :
    RowAft A.mean t (arg9.view.read (Elt Ideal) Y_arg9) (arg9.view.read (Elt Ideal) (withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 T_arg12 T_arg13 Y_arg14 Y_arg15 s).2.2.1) ∧ RowAft A.rstd t (arg10.view.read (Elt Ideal) Y_arg10) (arg10.view.read (Elt Ideal) (withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 T_arg12 T_arg13 Y_arg14 Y_arg15 s).2.2.2.1) := by
  subst ht
  have hD : ∀ t ch, (blk A (i 0).val).B t ch = A.x (512 * (i 0).val + t) ch := fun _ _ => rfl
  unfold withStats
  dsimp only
  exact ⟨row_write arg9.view Y_arg9 A.mean _ h128 (off15_eq i h2) (k0_off15_inb i h2) _ (fun x => meanRow_apply (hS := hS) (hD := hD) (e1 := hX.h1) (e3 := hX.h3) (hn := rfl) (x := x) ..),
    row_write arg10.view Y_arg10 A.rstd _ h128 (off15_eq i h2) (k0_off15_inb i h2) _ (fun x => rstdRow_apply (hA := hA) (hS := hS) (hD := hD) (e1 := hX.h1) (e3 := hX.h3) (e4 := hX.h4) (hn := rfl) (x := x) ..)⟩

include ht hX hA hS in
theorem stats_scr (h128 : t < 128) (h12 : ∀ y : S3584x128.Idx, arg12.view.read (Elt Ideal) T_arg12 y = ((A.g (y 0) : ℝ) : EReal))
    (h13 : ∀ y : S3584x128.Idx, arg13.view.read (Elt Ideal) T_arg13 y = ((laneL (A.g (y 0)) (A.b (y 0)) (y 1) : ℝ) : EReal)) :
    Scr arg11 arg12 arg13 arg14 arg15 (withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 T_arg12 T_arg13 Y_arg14 Y_arg15 s).2.2.2.2.1 T_arg12 T_arg13 (withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 T_arg12 T_arg13 Y_arg14 Y_arg15 s).2.2.2.2.2.2.2.1 (withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 T_arg12 T_arg13 Y_arg14 Y_arg15 s).2.2.2.2.2.2.2.2.1 A (t + 1) := by
  subst ht
  have hD : ∀ t ch, (blk A (i 0).val).B t ch = A.x (512 * (i 0).val + t) ch := fun _ _ => rfl
  unfold withStats
  dsimp only
  refine ⟨⟨h12, h13, fun y => ?_, fun y => ?_⟩, fun y hy => ?_⟩
  · refine read_piece arg14.view Y_arg14 inb_S128x512_S16x512_0_0 _ _ y rfl (fun z => z = _) (fun x hx => ?_) (fun hm => ?_)
    · refine (pay6_apply _ _ (m := fun n => A.mean (512 * (i 0).val + n)) (s := fun n => A.var (512 * (i 0).val + n) * A.rstd (512 * (i 0).val + n))
        (fun x => stdRow_apply (hA := hA) (hS := hS) (hD := hD) (e1 := hX.h1) (e3 := hX.h3) (e4 := hX.h4) (hn := rfl) (x := x) ..)
        (fun x => negRow_apply (hS := hS) (hD := hD) (e1 := hX.h1) (e3 := hX.h3) (hn := rfl) (x := x) ..) x).trans ?_
      have e0 : (y 0).val = (x 0).val := (hx 0).trans (Nat.zero_add _)
      have e1 : (y 1).val = (x 1).val := (hx 1).trans (Nat.zero_add _)
      show ((laneR (A.mean (512 * (i 0).val + (x 1).val)) (A.var (512 * (i 0).val + (x 1).val) * A.rstd (512 * (i 0).val + (x 1).val)) (x 0).val : ℝ) : EReal) = ((laneR (A.mean (512 * (i 0).val + (y 1).val)) (A.var (512 * (i 0).val + (y 1).val) * A.rstd (512 * (i 0).val + (y 1).val)) (y 0).val : ℝ) : EReal)
      rw [e0, e1]
    · have hy1 : (y 1).val < 512 := (y 1).isLt
      have hy0 : 16 ≤ (y 0).val := by
        obtain ⟨a, ha⟩ := hm
        match a, ha with
        | ⟨0, _⟩, ha => have ha' : (y 0).val < 0 ∨ 0 + 16 ≤ (y 0).val := ha; omega
        | ⟨1, _⟩, ha => have ha' : (y 1).val < 0 ∨ 0 + 512 ≤ (y 1).val := ha; omega
      rw [View.read_writes_full]
      have e : laneR ((blk A ((i 0).val + 1)).M (y 1)) ((blk A ((i 0).val + 1)).S (y 1)) (y 0) = 0 := by
        unfold laneR
        rw [if_neg (by omega), if_neg (by omega)]
      rw [e]
      unfold k0_pay5
      refine (shapeCast_apply _ _ _ y rfl).trans ?_
      exact bits_zero16
  · refine (congrFun (View.read_writes_full arg15.view _ inb_S8x512_S8x512_0_0 _ []) y).trans ?_
    exact rstdRows_apply (hA := hA) (hS := hS) (hD := hD) (e1 := hX.h1) (e3 := hX.h3) (e4 := hX.h4) (hn := rfl) (y := y) ..
  · have hy1 : (y 1).val < 3584 := (y 1).isLt
    have hy2 : (y 2).val < 512 := (y 2).isLt
    exact hA y (by omega) (by omega)

theorem stats_bytes (h : Exps arg17 s.2.2.2.1 (blk A t) 28) (y : S512x112.Idx) : arg8.view.read (Elt Ideal) (withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 T_arg12 T_arg13 Y_arg14 Y_arg15 s).2.1 y = byte ((blk A t).e (y 0) (y 1)) := by
  unfold withStats
  dsimp only
  exact bytes arg8 arg17 Y_arg8 _ h y

theorem stats_codes (h : Codes arg7 s.2.2.2.2 (blk A t) 28) (y : S512x3584.Idx) : arg7.view.read (Elt Ideal) (withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 T_arg12 T_arg13 Y_arg14 Y_arg15 s).1 y = (((blk A t).code (y 0) (y 1) : ℝ) : EReal) := by
  have hy0 : (y 0).val < 512 := (y 0).isLt
  have hy1 : (y 1).val < 3584 := (y 1).isLt
  unfold withStats
  dsimp only
  exact h y (by omega)

set_option maxHeartbeats 2000000 in
include ht hX in
/-- One point of the grid. -/
theorem step_ok (h128 : t ≤ 128) (hY : 0 < t → Scr arg11 arg12 arg13 arg14 arg15 Y_arg11 Y_arg12 Y_arg13 Y_arg14 Y_arg15 A t) :
    Outs arg7 arg8 arg9 arg10 Y_arg9 Y_arg10 A t (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).1 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.1 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.2.1 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.2.2.1
      ∧ (t < 128 → Scr arg11 arg12 arg13 arg14 arg15 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.2.2.2.1 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.2.2.2.2.1 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.2.2.2.2.2.1 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.2.2.2.2.2.2.1 (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18).2.2.2.2.2.2.2.2.1 A (t + 1)) := by
  have c2 : k0_cond2 i = 1#1 ↔ t < 128 := by rw [cond2_iff, ht]
  by_cases h1 : (Scalar.cmpi .ne (Scalar.extui (Scalar.cmpi .eq (BitVec.ofNat 32 (i 0).val) 0#32)) 0#32 : BitVec 1) = 1#1
  · have h0 : t = 0 := by rw [← ht]; exact (cond1_iff i).mp h1
    have h2 : k0_cond2 i = 1#1 := c2.mpr (by omega)
    have e : (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18) = withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 (tab12 arg5 arg12 X_arg5) (tab13 arg5 arg6 arg13 X_arg5 X_arg6) Y_arg14 Y_arg15
        (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 (tab12 arg5 arg12 X_arg5) (tab13 arg5 arg6 arg13 X_arg5 X_arg6) Y_arg14 Y_arg15 Y_arg7 Y_arg11 Y_arg17 Y_arg18) := by
      unfold step
      rw [dif_pos h1, dif_pos h2]
      exact first_eq ..
    have ha := arrive (hX := hX) (ht := ht) (h128 := by omega) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (T_arg12 := tab12 arg5 arg12 X_arg5) (T_arg13 := tab13 arg5 arg6 arg13 X_arg5 X_arg6) (Y_arg14 := Y_arg14) (Y_arg15 := Y_arg15) (Y_arg7 := Y_arg7) (Y_arg11 := Y_arg11) (Y_arg17 := Y_arg17) (Y_arg18 := Y_arg18)
    rw [e]
    clear e
    generalize (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 (tab12 arg5 arg12 X_arg5) (tab13 arg5 arg6 arg13 X_arg5 X_arg6) Y_arg14 Y_arg15 Y_arg7 Y_arg11 Y_arg17 Y_arg18) = s at ha ⊢
    have r := stats_rows (hX := hX) (ht := ht) (h128 := by omega) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (h2 := h2) (s := s) (hA := ha.1) (hS := ha.2) (T_arg12 := tab12 arg5 arg12 X_arg5) (T_arg13 := tab13 arg5 arg6 arg13 X_arg5 X_arg6) (Y_arg14 := Y_arg14) (Y_arg15 := Y_arg15) (Y_arg8 := Y_arg8) (Y_arg9 := Y_arg9) (Y_arg10 := Y_arg10)
    refine ⟨⟨fun h => absurd h (by omega), fun h => absurd h (by omega), r.1, r.2⟩, fun hlt => ?_⟩
    exact stats_scr (hX := hX) (ht := ht) (h128 := hlt) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (h2 := h2) (s := s) (hA := ha.1) (hS := ha.2) (T_arg12 := tab12 arg5 arg12 X_arg5) (T_arg13 := tab13 arg5 arg6 arg13 X_arg5 X_arg6) (Y_arg14 := Y_arg14) (Y_arg15 := Y_arg15) (Y_arg8 := Y_arg8) (Y_arg9 := Y_arg9) (Y_arg10 := Y_arg10)
      (h12 := tab12_apply arg5 arg12 X_arg5 hX.h5) (h13 := tab13_apply arg5 arg6 arg13 X_arg5 X_arg6 hX.h5 hX.h6)
  · have h0 : 0 < t := by
      rcases Nat.eq_zero_or_pos t with h | h
      · exact absurd ((cond1_iff i).mpr (by rw [ht, h])) h1
      · exact h
    obtain ⟨hT, hP⟩ := hY h0
    have hE := emit (ht := ht) (hT := hT) (hP := hP) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (X_arg2 := X_arg2) (Y_arg7 := Y_arg7) (Y_arg17 := Y_arg17) (Y_arg18 := Y_arg18)
    by_cases h2 : k0_cond2 i = 1#1
    · have e : (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18) = withStats (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg3 X_arg4 h2 Y_arg8 Y_arg9 Y_arg10 Y_arg12 Y_arg13 Y_arg14 Y_arg15
          (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18) := by
        unfold step
        rw [dif_neg h1, dif_pos h2]
        exact mid_eq ..
      have ha := arrive (hX := hX) (ht := ht) (h128 := c2.mp h2) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (T_arg12 := Y_arg12) (T_arg13 := Y_arg13) (Y_arg14 := Y_arg14) (Y_arg15 := Y_arg15) (Y_arg7 := Y_arg7) (Y_arg11 := Y_arg11) (Y_arg17 := Y_arg17) (Y_arg18 := Y_arg18)
      rw [e]
      clear e
      generalize (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18) = s at ha hE ⊢
      have r := stats_rows (hX := hX) (ht := ht) (h128 := c2.mp h2) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (h2 := h2) (s := s) (hA := ha.1) (hS := ha.2) (T_arg12 := Y_arg12) (T_arg13 := Y_arg13) (Y_arg14 := Y_arg14) (Y_arg15 := Y_arg15) (Y_arg8 := Y_arg8) (Y_arg9 := Y_arg9) (Y_arg10 := Y_arg10)
      refine ⟨⟨fun _ y => stats_codes (h := hE.2) (y := y) .., fun _ y => stats_bytes (h := hE.1) (y := y) .., r.1, r.2⟩, fun hlt => ?_⟩
      exact stats_scr (hX := hX) (ht := ht) (h128 := hlt) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (h2 := h2) (s := s) (hA := ha.1) (hS := ha.2) (T_arg12 := Y_arg12) (T_arg13 := Y_arg13) (Y_arg14 := Y_arg14) (Y_arg15 := Y_arg15) (Y_arg8 := Y_arg8) (Y_arg9 := Y_arg9) (Y_arg10 := Y_arg10)
        (h12 := hT.h12) (h13 := hT.h13)
    · have e : (step (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg1 X_arg2 X_arg3 X_arg4 X_arg5 X_arg6 Y_arg7 Y_arg8 Y_arg9 Y_arg10 Y_arg11 Y_arg12 Y_arg13 Y_arg14 Y_arg15 Y_arg16 Y_arg17 Y_arg18) = ((loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.2.2,
          arg8.view.writes (Elt Ideal) Y_arg8 [⟨Rect.unit (s := S512x112) ![0, 0] S512x112.size inb_S512x112_S512x112_0_0,
            k0_pay4 (View.readAt (Elt Ideal) arg17.view (Rect.unit (s := S128x512) ![0, 0] S128x512.size inb_S128x512_S128x512_0_0).toLoadRect
              (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.2.1)⟩],
          Y_arg9, Y_arg10, (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).1, Y_arg12, Y_arg13, Y_arg14, Y_arg15, (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.1, (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.2.1, (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18).2.2.1) := by
        unfold step
        rw [dif_neg h1, dif_neg h2]
        exact last_eq ..
      rw [e]
      clear e
      generalize (loopEnd (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X_arg2 Y_arg12 Y_arg13 Y_arg14 Y_arg15 Y_arg7 Y_arg11 Y_arg17 Y_arg18) = s at hE ⊢
      dsimp only
      have hrow : ∀ (f : ℕ → ℝ) (Y : S8x8192.Idx → EReal), RowAft f t Y Y := fun f Y y => by
        have hy0 : (y 0).val < 8 := (y 0).isLt
        have hy1 : (y 1).val < 8192 := (y 1).isLt
        have hn : ¬ t < 128 := fun h => h2 (c2.mpr h)
        exact ⟨fun h => absurd h (by unfold tok; omega), fun _ => rfl⟩
      have hc : ∀ y : S512x3584.Idx, arg7.view.read (Elt Ideal) s.2.2.2.2 y = (((blk A t).code (y 0) (y 1) : ℝ) : EReal) := fun y => by
        have hy0 : (y 0).val < 512 := (y 0).isLt
        have hy1 : (y 1).val < 3584 := (y 1).isLt
        exact hE.2 y (by omega)
      exact ⟨⟨fun _ => hc, fun _ => bytes arg8 arg17 Y_arg8 _ hE.1, hrow _ _, hrow _ _⟩, fun h => absurd (c2.mpr h) h2⟩

end Cert.Proof.Value
end
-- ==== Proof.Value.Sched.lean ====
module

public import proofs.«01_k».proof.Proof.Value.Point
public import proofs.«01_k».proof.Proof.Ideal.Frame
public import Idealize.ShloMosaic.Lib.Pipeline.FrameBody
public import Idealize.ShloMosaic.Lib.Pipeline.ArrRel
public import Idealize.ShloMosaic.Lib.Pipeline.ValueKit.Geometry

/-!
# The schedule

Where each window is at each point of the grid, and which points write the results back.
-/

@[expose] public section
noncomputable section
namespace Cert.Proof.Value
open Cert.KernelIdeal Cert.KernelIdeal.Gen Cert.Proof.KernelIdeal Idealize.ShloMosaic Idealize.ShloMosaic.TcCoe

theorem coords_val : ∀ t : Fin cfg0.N, (grid0.coords t 0).val = t.val := by decide +kernel
theorem index1 : ∀ t : Fin cfg0.N, win0_1.index t 0 = min t.val 127 ∧ win0_1.index t 1 = 0 := by decide +kernel
theorem index6 : ∀ t : Fin cfg0.N, win0_6.index t 0 = t.val - 1 ∧ win0_6.index t 1 = 0 := by decide +kernel
theorem index7 : ∀ t : Fin cfg0.N, win0_7.index t 0 = t.val - 1 ∧ win0_7.index t 1 = 0 := by decide +kernel
theorem flush6 : ∀ t : Fin cfg0.N, win0_6.flush t = true → 0 < t.val := by decide +kernel
theorem flush7 : ∀ t : Fin cfg0.N, win0_7.flush t = true → 0 < t.val := by decide +kernel
theorem covers6 : (cfg0.win 6).Covers := by decide +kernel
theorem covers7 : (cfg0.win 7).Covers := by decide +kernel
/-- The last point. -/
def tLast : Fin cfg0.N := ⟨128, by decide⟩
theorem whole8 : (cfg0.win 8).WholeAt tLast := by decide +kernel
theorem whole9 : (cfg0.win 9).WholeAt tLast := by decide +kernel

end Cert.Proof.Value
end
-- ==== Proof.Value.Ref.lean ====
module

public import proofs.«01_k».proof.Proof.Gen.ReferenceIdeal.Read
public import proofs.«01_k».proof.Proof.Value.Ops

/-!
# The reference, on real arguments

Each buffer of the reference, on arguments that are real numbers, holds the function of `Spec` it stands for.
-/

@[expose] public section
noncomputable section
namespace Cert.Proof.Value
open Cert.ReferenceIdeal Cert.ReferenceIdeal.Gen Cert.ReferenceIdeal.Read Idealize.ShloMosaic Idealize.ShloMosaic.ValueIdx Finset

/-- The arguments of the reference are the real numbers `A`. -/
structure RefArgs (A : Args) (x0 : (⟨S8x8192x3584, .bf16⟩ : BufTy).Contents (Elt Ideal)) (x1 : (⟨S3, .f32⟩ : BufTy).Contents (Elt Ideal))
    (x2 x3 : (⟨S3x8x8192, .f32⟩ : BufTy).Contents (Elt Ideal)) (x4 x5 : (⟨S3584, .f32⟩ : BufTy).Contents (Elt Ideal)) : Prop where
  h0 : ∀ i, x0 i = ((A.x (8192 * (i 0).val + (i 1).val) (i 2).val : ℝ) : EReal)
  h1 : ∀ i, x1 i = ((A.cnt (i 0).val : ℝ) : EReal)
  h2 : ∀ i, x2 i = ((A.pm (i 0).val (i 1).val (i 2).val : ℝ) : EReal)
  h3 : ∀ i, x3 i = ((A.pv (i 0).val (i 1).val (i 2).val : ℝ) : EReal)
  h4 : ∀ i, x4 i = ((A.g (i 0).val : ℝ) : EReal)
  h5 : ∀ i, x5 i = ((A.b (i 0).val : ℝ) : EReal)

/-- The token of row `i 0` and column `i 1`. -/
abbrev tk (i : S8x8192.Idx) : ℕ := 8192 * (i 0).val + (i 1).val

theorem tk_div (i : S8x8192.Idx) : tk i / 8192 = (i 0).val := by
  have h : (i 1).val < 8192 := (i 1).isLt
  unfold tk; omega
theorem tk_mod (i : S8x8192.Idx) : tk i % 8192 = (i 1).val := by
  have h : (i 1).val < 8192 := (i 1).isLt
  unfold tk; omega

variable {A : Args} {x0 : (⟨S8x8192x3584, .bf16⟩ : BufTy).Contents (Elt Ideal)} {x1 : (⟨S3, .f32⟩ : BufTy).Contents (Elt Ideal)}
  {x2 x3 : (⟨S3x8x8192, .f32⟩ : BufTy).Contents (Elt Ideal)} {x4 x5 : (⟨S3584, .f32⟩ : BufTy).Contents (Elt Ideal)}
  (H : RefArgs A x0 x1 x2 x3 x4 x5)
include H

theorem ref_v0 (i : S8x8192x3584.Idx) : val_main_v0 (F := Ideal) x0 i = ((A.x (8192 * (i 0).val + (i 1).val) (i 2).val : ℝ) : EReal) := H.h0 i

theorem ref_v1 (i : S8x8192.Idx) : val_main_v1 (F := Ideal) x0 i = ((∑ ch ∈ range 3584, A.x (tk i) ch : ℝ) : EReal) := by
  rw [val_main_v1_apply]
  refine (congrArg₂ (· + ·) bits_zero ((Finset.sum_congr rfl fun k _ => ref_v0 H _).trans (coe_sum _ _))).trans ?_
  rw [add_coe, zero_add, Finset.sum_range]

theorem ref_v3 (i : S8x8192.Idx) : val_main_v3 (F := Ideal) x0 i = ((A.meanL (tk i) : ℝ) : EReal) := by
  rw [val_main_v3_apply, ref_v1 H, val_main_v2_apply]
  exact (congrArg (Ideal.div _) bits_3584).trans (div_coe (by norm_num))

theorem ref_v6 (i : S8x8192x3584.Idx) : val_main_v6 (F := Ideal) x0 i =
    ((A.x (8192 * (i 0).val + (i 1).val) (i 2).val - A.meanL (8192 * (i 0).val + (i 1).val) : ℝ) : EReal) := by
  rw [val_main_v6_apply, val_main_v5_apply, val_main_v4_apply, ref_v3 H, ref_v0 H]
  exact sub_coe _ _

theorem ref_v8 (i : S8x8192.Idx) : val_main_v8 (F := Ideal) x0 i = ((A.m2L (tk i) : ℝ) : EReal) := by
  rw [val_main_v8_apply]
  refine (congrArg₂ (· + ·) bits_zero ((Finset.sum_congr rfl fun k _ => ?_).trans (coe_sum _ fun k : Fin 3584 =>
    (A.x (tk i) k - A.meanL (tk i)) * (A.x (tk i) k - A.meanL (tk i))))).trans ?_
  · rw [val_main_v7_apply, ref_v6 H]
    exact mul_coe _ _
  · rw [add_coe, zero_add, Args.m2L, Finset.sum_range]

omit H in
/-- The one element of a slice of the counts, reshaped to no axes. -/
theorem scalar_of_slice (v : (⟨S1, .f32⟩ : BufTy).Contents (Elt Ideal)) {r : EReal} (h : ∀ k, v k = r) (i : S_.Idx) :
    (shapeCast S_ v shapeCasts_S1_S_ : S_.Idx → EReal) i = r := by
  unfold shapeCast
  exact h _

theorem ref_v10 (i : S_.Idx) : val_main_v10 (F := Ideal) x1 i = ((A.cnt 0 : ℝ) : EReal) :=
  scalar_of_slice _ (fun k => by
    rw [val_main_v9_apply, H.h1]
    have h : (k 0).val < 1 := (k 0).isLt
    exact congrArg (fun n => ((A.cnt n : ℝ) : EReal)) (by dsimp only; omega)) i

theorem ref_v16 (i : S_.Idx) : val_main_v16 (F := Ideal) x1 i = ((A.cnt 1 : ℝ) : EReal) :=
  scalar_of_slice _ (fun k => by
    rw [val_main_v15_apply, H.h1]
    have h : (k 0).val < 1 := (k 0).isLt
    exact congrArg (fun n => ((A.cnt n : ℝ) : EReal)) (by dsimp only; omega)) i

theorem ref_v22 (i : S_.Idx) : val_main_v22 (F := Ideal) x1 i = ((A.cnt 2 : ℝ) : EReal) :=
  scalar_of_slice _ (fun k => by
    rw [val_main_v21_apply, H.h1]
    have h : (k 0).val < 1 := (k 0).isLt
    exact congrArg (fun n => ((A.cnt n : ℝ) : EReal)) (by dsimp only; omega)) i

theorem ref_v12 (i : S8x8192.Idx) : val_main_v12 (F := Ideal) x2 i = ((A.pm 0 (tk i / 8192) (tk i % 8192) : ℝ) : EReal) := by
  have h0 : (i 0).val < 8 := (i 0).isLt
  have h1 : (i 1).val < 8192 := (i 1).isLt
  rw [val_main_v12_apply, val_main_v11_apply, H.h2]
  exact congrArg₂ (fun a b => ((A.pm 0 a b : ℝ) : EReal)) (by dsimp only [tk]; omega) (by dsimp only [tk]; omega)

theorem ref_v14 (i : S8x8192.Idx) : val_main_v14 (F := Ideal) x3 i = ((A.pv 0 (tk i / 8192) (tk i % 8192) : ℝ) : EReal) := by
  have h0 : (i 0).val < 8 := (i 0).isLt
  have h1 : (i 1).val < 8192 := (i 1).isLt
  rw [val_main_v14_apply, val_main_v13_apply, H.h3]
  exact congrArg₂ (fun a b => ((A.pv 0 a b : ℝ) : EReal)) (by dsimp only [tk]; omega) (by dsimp only [tk]; omega)

theorem ref_v18 (i : S8x8192.Idx) : val_main_v18 (F := Ideal) x2 i = ((A.pm 1 (tk i / 8192) (tk i % 8192) : ℝ) : EReal) := by
  have h0 : (i 0).val < 8 := (i 0).isLt
  have h1 : (i 1).val < 8192 := (i 1).isLt
  rw [val_main_v18_apply, val_main_v17_apply, H.h2]
  exact congrArg₂ (fun a b => ((A.pm 1 a b : ℝ) : EReal)) (by dsimp only [tk]; omega) (by dsimp only [tk]; omega)

theorem ref_v20 (i : S8x8192.Idx) : val_main_v20 (F := Ideal) x3 i = ((A.pv 1 (tk i / 8192) (tk i % 8192) : ℝ) : EReal) := by
  have h0 : (i 0).val < 8 := (i 0).isLt
  have h1 : (i 1).val < 8192 := (i 1).isLt
  rw [val_main_v20_apply, val_main_v19_apply, H.h3]
  exact congrArg₂ (fun a b => ((A.pv 1 a b : ℝ) : EReal)) (by dsimp only [tk]; omega) (by dsimp only [tk]; omega)

theorem ref_v24 (i : S8x8192.Idx) : val_main_v24 (F := Ideal) x2 i = ((A.pm 2 (tk i / 8192) (tk i % 8192) : ℝ) : EReal) := by
  have h0 : (i 0).val < 8 := (i 0).isLt
  have h1 : (i 1).val < 8192 := (i 1).isLt
  rw [val_main_v24_apply, val_main_v23_apply, H.h2]
  exact congrArg₂ (fun a b => ((A.pm 2 a b : ℝ) : EReal)) (by dsimp only [tk]; omega) (by dsimp only [tk]; omega)

theorem ref_v26 (i : S8x8192.Idx) : val_main_v26 (F := Ideal) x3 i = ((A.pv 2 (tk i / 8192) (tk i % 8192) : ℝ) : EReal) := by
  have h0 : (i 0).val < 8 := (i 0).isLt
  have h1 : (i 1).val < 8192 := (i 1).isLt
  rw [val_main_v26_apply, val_main_v25_apply, H.h3]
  exact congrArg₂ (fun a b => ((A.pv 2 a b : ℝ) : EReal)) (by dsimp only [tk]; omega) (by dsimp only [tk]; omega)

theorem ref_v27 (i : S_.Idx) : val_main_v27 (F := Ideal) x1 i = ((A.n1 : ℝ) : EReal) := by
  rw [val_main_v27_apply, ref_v10 H]
  exact (congrArg (_ + ·) bits_3584).trans (add_coe _ _)

theorem ref_v40 (i : S_.Idx) : val_main_v40 (F := Ideal) x1 i = ((A.n2 : ℝ) : EReal) := by
  rw [val_main_v40_apply, ref_v27 H, ref_v16 H]
  exact add_coe _ _

theorem ref_v53 (i : S_.Idx) : val_main_v53 (F := Ideal) x1 i = ((A.n3 : ℝ) : EReal) := by
  rw [val_main_v53_apply, ref_v40 H, ref_v22 H]
  exact add_coe _ _

theorem ref_v28 (i : S8x8192.Idx) : val_main_v28 (F := Ideal) x0 x2 i = ((A.meanL (tk i) - A.pm 0 (tk i / 8192) (tk i % 8192) : ℝ) : EReal) := by
  rw [val_main_v28_apply, ref_v3 H, ref_v12 H]
  exact sub_coe _ _

theorem ref_v30 (i : S8x8192.Idx) : val_main_v30 (F := Ideal) x1 i = ((3584 / A.n1 : ℝ) : EReal) := by
  rw [val_main_v30_apply, val_main_v29_apply, ref_v27 H]
  exact (congrArg (Ideal.div · _) bits_3584).trans (div_coe A.n1_pos.ne')

theorem ref_v32 (i : S8x8192.Idx) : val_main_v32 (F := Ideal) x0 x1 x2 i = ((A.mean1 (tk i) : ℝ) : EReal) := by
  rw [val_main_v32_apply, val_main_v31_apply, ref_v28 H, ref_v30 H, ref_v12 H]
  exact (congrArg (_ + ·) (mul_coe _ _)).trans (add_coe _ _)

theorem ref_v37 (i : S8x8192.Idx) : val_main_v37 (F := Ideal) x1 i = ((A.cnt 0 * 3584 / A.n1 : ℝ) : EReal) := by
  rw [val_main_v37_apply, val_main_v36_apply, val_main_v35_apply, ref_v27 H, ref_v10 H]
  refine (congrArg (Ideal.div · _) ((congrArg (_ * ·) bits_3584).trans (mul_coe _ _))).trans (div_coe A.n1_pos.ne')

theorem ref_v39 (i : S8x8192.Idx) : val_main_v39 (F := Ideal) x0 x1 x2 x3 i = ((A.v1 (tk i) : ℝ) : EReal) := by
  rw [val_main_v39_apply, val_main_v33_apply, val_main_v38_apply, val_main_v34_apply, ref_v28 H, ref_v37 H, ref_v14 H, ref_v8 H]
  exact (congrArg₂ (· + ·) (add_coe _ _) ((congrArg (· * _) (mul_coe _ _)).trans (mul_coe _ _))).trans (add_coe _ _)

theorem ref_v41 (i : S8x8192.Idx) : val_main_v41 (F := Ideal) x0 x1 x2 i = ((A.pm 1 (tk i / 8192) (tk i % 8192) - A.mean1 (tk i) : ℝ) : EReal) := by
  rw [val_main_v41_apply, ref_v18 H, ref_v32 H]
  exact sub_coe _ _

theorem ref_v43 (i : S8x8192.Idx) : val_main_v43 (F := Ideal) x1 i = ((A.cnt 1 / A.n2 : ℝ) : EReal) := by
  rw [val_main_v43_apply, val_main_v42_apply, ref_v40 H, ref_v16 H]
  exact div_coe A.n2_pos.ne'

theorem ref_v45 (i : S8x8192.Idx) : val_main_v45 (F := Ideal) x0 x1 x2 i = ((A.mean2 (tk i) : ℝ) : EReal) := by
  rw [val_main_v45_apply, val_main_v44_apply, ref_v41 H, ref_v43 H, ref_v32 H]
  exact (congrArg (_ + ·) (mul_coe _ _)).trans (add_coe _ _)

theorem ref_v50 (i : S8x8192.Idx) : val_main_v50 (F := Ideal) x1 i = ((A.n1 * A.cnt 1 / A.n2 : ℝ) : EReal) := by
  rw [val_main_v50_apply, val_main_v49_apply, val_main_v48_apply, ref_v40 H, ref_v16 H, ref_v27 H]
  exact (congrArg (Ideal.div · _) (mul_coe _ _)).trans (div_coe A.n2_pos.ne')

theorem ref_v52 (i : S8x8192.Idx) : val_main_v52 (F := Ideal) x0 x1 x2 x3 i = ((A.v2 (tk i) : ℝ) : EReal) := by
  rw [val_main_v52_apply, val_main_v46_apply, val_main_v51_apply, val_main_v47_apply, ref_v41 H, ref_v50 H, ref_v20 H, ref_v39 H]
  exact (congrArg₂ (· + ·) (add_coe _ _) ((congrArg (· * _) (mul_coe _ _)).trans (mul_coe _ _))).trans (add_coe _ _)

theorem ref_v54 (i : S8x8192.Idx) : val_main_v54 (F := Ideal) x0 x1 x2 i = ((A.pm 2 (tk i / 8192) (tk i % 8192) - A.mean2 (tk i) : ℝ) : EReal) := by
  rw [val_main_v54_apply, ref_v24 H, ref_v45 H]
  exact sub_coe _ _

theorem ref_v56 (i : S8x8192.Idx) : val_main_v56 (F := Ideal) x1 i = ((A.cnt 2 / A.n3 : ℝ) : EReal) := by
  rw [val_main_v56_apply, val_main_v55_apply, ref_v53 H, ref_v22 H]
  exact div_coe A.n3_pos.ne'

theorem ref_v58 (i : S8x8192.Idx) : val_main_v58 (F := Ideal) x0 x1 x2 i = ((A.mean (tk i) : ℝ) : EReal) := by
  rw [val_main_v58_apply, val_main_v57_apply, ref_v54 H, ref_v56 H, ref_v45 H]
  exact (congrArg (_ + ·) (mul_coe _ _)).trans (add_coe _ _)

theorem ref_v63 (i : S8x8192.Idx) : val_main_v63 (F := Ideal) x1 i = ((A.n2 * A.cnt 2 / A.n3 : ℝ) : EReal) := by
  rw [val_main_v63_apply, val_main_v62_apply, val_main_v61_apply, ref_v53 H, ref_v22 H, ref_v40 H]
  exact (congrArg (Ideal.div · _) (mul_coe _ _)).trans (div_coe A.n3_pos.ne')

theorem ref_v65 (i : S8x8192.Idx) : val_main_v65 (F := Ideal) x0 x1 x2 x3 i = ((A.v3 (tk i) : ℝ) : EReal) := by
  rw [val_main_v65_apply, val_main_v59_apply, val_main_v64_apply, val_main_v60_apply, ref_v54 H, ref_v63 H, ref_v26 H, ref_v52 H]
  exact (congrArg₂ (· + ·) (add_coe _ _) ((congrArg (· * _) (mul_coe _ _)).trans (mul_coe _ _))).trans (add_coe _ _)

theorem ref_v69 (i : S8x8192.Idx) : val_main_v69 (F := Ideal) x0 x1 x2 x3 i = ((A.var (tk i) : ℝ) : EReal) := by
  rw [val_main_v69_apply, val_main_v67_apply, val_main_v66_apply, val_main_v68_apply, ref_v65 H, ref_v53 H]
  exact (congrArg₂ (· + ·) (div_coe A.n3_pos.ne') bits_eps).trans (add_coe _ _)

theorem ref_v70 (i : S8x8192.Idx) : val_main_v70 (F := Ideal) x0 x1 x2 x3 i = ((A.rstd (tk i) : ℝ) : EReal) := by
  rw [val_main_v70_apply, ref_v69 H]
  exact rsqrt_coe (A.var_pos _)

theorem ref_v82 (i : S8x8192x3584.Idx) : val_main_v82 (F := Ideal) x0 x1 x2 x3 x4 x5 i =
    ((A.y (8192 * (i 0).val + (i 1).val) (i 2).val : ℝ) : EReal) := by
  rw [val_main_v82_apply, val_main_v79_apply, val_main_v76_apply, val_main_v73_apply, val_main_v72_apply, val_main_v71_apply,
    val_main_v75_apply, val_main_v74_apply, val_main_v78_apply, val_main_v77_apply, val_main_v81_apply, val_main_v80_apply,
    ref_v0 H, ref_v58 H, ref_v70 H, H.h4, H.h5]
  exact (congrArg (· + _) ((congrArg (· * _) ((congrArg (· * _) (sub_coe _ _)).trans (mul_coe _ _))).trans (mul_coe _ _))).trans (add_coe _ _)

end Cert.Proof.Value
end
-- ==== Proof.Value.Run.lean ====
module

public import proofs.«01_k».proof.Proof.Value.Sched
public import proofs.«01_k».proof.Proof.Value.Ref
public import Idealize.ShloMosaic.Lib.StableHlo.Run

/-!
# The kernel's run on real arguments

What the windows of the arguments hold at each point, and that each point keeps the invariant.
-/

@[expose] public section
set_option maxRecDepth 65536
noncomputable section
namespace Cert.Proof.Value
open Cert.KernelIdeal Cert.KernelIdeal.Gen Cert.Proof.KernelIdeal Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (A : Args) (c : Dev nD)

/-- The kernel's arguments on core `c` are the real numbers `A`. -/
abbrev Given : Prop :=
  RefArgs A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

variable {m A c} (H : Given m A c)
include H

theorem V_v0 (y : S65536x3584.Idx) : (V m c main_v0 : S65536x3584.Idx → EReal) y = ((A.x (y 0) (y 1) : ℝ) : EReal) := by
  have h0 : (y 0).val < 65536 := (y 0).isLt
  have h1 : (y 1).val < 3584 := (y 1).isLt
  have e : (V m c main_v0 : S65536x3584.Idx → EReal) = shapeCast S65536x3584 (m ((c.tc : Thread nD τ).loc main_arg0)) shapeCasts_S8x8192x3584_S65536x3584 := by
    show StableHlo.after hostOps0 _ (Proc.devRef .tc main_v0) = _
    after_results
    rfl
  rw [e]
  refine (shapeCast_apply _ _ y (ix3 ⟨(y 0).val / 8192, by omega⟩ ⟨(y 0).val % 8192, by omega⟩ ⟨(y 1).val, by omega⟩) ?_).trans ((H.h0 _).trans ?_)
  · rewrite [Shape.rowMajor_val_three, Shape.rowMajor_val_two]
    show ((y 0).val / 8192 * 8192 + (y 0).val % 8192) * 3584 + (y 1).val = (y 0).val * 3584 + (y 1).val
    omega
  · exact congrArg (fun n => ((A.x n (y 1) : ℝ) : EReal)) (by show 8192 * ((y 0).val / 8192) + (y 0).val % 8192 = (y 0).val; omega)

theorem V_v1 (y : S28x128.Idx) : (V m c main_v1 : S28x128.Idx → EReal) y = ((A.g (128 * (y 0).val + (y 1).val) : ℝ) : EReal) := by
  have h0 : (y 0).val < 28 := (y 0).isLt
  have h1 : (y 1).val < 128 := (y 1).isLt
  have e : (V m c main_v1 : S28x128.Idx → EReal) = shapeCast S28x128 (m ((c.tc : Thread nD τ).loc main_arg4)) shapeCasts_S3584_S28x128 := by
    show StableHlo.after hostOps0 _ (Proc.devRef .tc main_v1) = _
    after_results
    rfl
  rw [e]
  refine (shapeCast_apply _ _ y (ix1 ⟨128 * (y 0).val + (y 1).val, by omega⟩) ?_).trans (H.h4 _)
  rewrite [Shape.rowMajor_val_one, Shape.rowMajor_val_two]
  show 128 * (y 0).val + (y 1).val = (y 0).val * 128 + (y 1).val
  omega

theorem V_v2 (y : S28x128.Idx) : (V m c main_v2 : S28x128.Idx → EReal) y = ((A.b (128 * (y 0).val + (y 1).val) : ℝ) : EReal) := by
  have h0 : (y 0).val < 28 := (y 0).isLt
  have h1 : (y 1).val < 128 := (y 1).isLt
  have e : (V m c main_v2 : S28x128.Idx → EReal) = shapeCast S28x128 (m ((c.tc : Thread nD τ).loc main_arg5)) shapeCasts_S3584_S28x128 := by
    show StableHlo.after hostOps0 _ (Proc.devRef .tc main_v2) = _
    after_results
    rfl
  rw [e]
  refine (shapeCast_apply _ _ y (ix1 ⟨128 * (y 0).val + (y 1).val, by omega⟩) ?_).trans (H.h5 _)
  rewrite [Shape.rowMajor_val_one, Shape.rowMajor_val_two]
  show 128 * (y 0).val + (y 1).val = (y 0).val * 128 + (y 1).val
  omega

omit H
variable (m A c)
/-- What the scratch holds before point `t`. -/
def inv (t : ℕ) : ScrPred Ideal := fun S_arg11 S_arg12 S_arg13 S_arg14 S_arg15 S_arg16 S_arg17 S_arg18 =>
  0 < t → t ≤ 128 → Scr (Memref.whole cc0_scratch0 : Memref sig .tc .vmem _ _) (Memref.whole cc0_scratch1 : Memref sig .tc .vmem _ _) (Memref.whole cc0_scratch2 : Memref sig .tc .vmem _ _) (Memref.whole cc0_scratch3 : Memref sig .tc .vmem _ _) (Memref.whole cc0_scratch4 : Memref sig .tc .vmem _ _) S_arg11 S_arg12 S_arg13 S_arg14 S_arg15 A t

/-- What a point leaves in the windows of the results. -/
def aft : Aft Ideal := fun w t =>
  match w with
  | 6 => fun _ X => 0 < t.val → ∀ y : S512x3584.Idx, (X : S512x3584.Idx → EReal) y = (((blk A t.val).code (y 0) (y 1) : ℝ) : EReal)
  | 7 => fun _ X => 0 < t.val → ∀ y : S512x112.Idx, (X : S512x112.Idx → BitVec 8) y = byte ((blk A t.val).e (y 0) (y 1))
  | 8 => fun Y X => RowAft A.mean t.val Y X
  | 9 => fun Y X => RowAft A.rstd t.val Y X
  | _ => fun _ _ => True

/-- What an argument's window holds at a point is the block that a fetch there brings. -/
theorem finds_in (Inv : Dev nD → ℕ → ScrPred Ideal) (aft' : Dev nD → Aft Ideal) (w : Fin cfg0.W) (hw : w.val < 6) (ho : (cfg0.win w).isOut = false)
    (hcl : ∀ t t' : Fin cfg0.N, (cfg0.win w).index t = (cfg0.win w).index t' → (cfg0.win w).clip (cfg0.grid.coords t) = (cfg0.win w).clip (cfg0.grid.coords t'))
    (t : Fin cfg0.N) (Y) (h : (rdat m Inv aft' c).Finds w t Y) : ∃ d, Y = (rdat m Inv aft' c).fetched w t d :=
  (rdat m Inv aft' c).finds_in_eq_fetched w ho hcl (fun _ _ _ hk => hk.1 hw) t Y h

variable {m A c}
variable (Inv : Dev nD → ℕ → ScrPred Ideal) (aft' : Dev nD → Aft Ideal) (t : Fin cfg0.N)
include H

theorem found0 (Y) (h : (rdat m Inv aft' c).Finds 0 t Y) (y : S3.Idx) : (Y : S3.Idx → EReal) y = ((A.cnt (y 0) : ℝ) : EReal) := by
  obtain ⟨d, rfl⟩ := finds_in m c Inv aft' 0 (by decide) rfl (fun _ _ _ => rfl) t Y h
  refine Eq.trans ?_ (H.h1 y)
  refine Eq.trans ?_ (congrFun (V_main_arg1 m c) y)
  show (V m c main_arg1 : S3.Idx → EReal) ((win0_0.blk t).view.emb y) = _
  refine congrArg _ (funext fun a => Fin.ext ?_)
  match a with
  | ⟨0, _⟩ =>
    have e : win0_0.index t 0 = 0 := rfl
    blk_simp [e]

theorem found2 (Y) (h : (rdat m Inv aft' c).Finds 2 t Y) (y : S3x8x8192.Idx) : (Y : S3x8x8192.Idx → EReal) y = ((A.pm (y 0) (y 1) (y 2) : ℝ) : EReal) := by
  obtain ⟨d, rfl⟩ := finds_in m c Inv aft' 2 (by decide) rfl (fun _ _ _ => rfl) t Y h
  refine Eq.trans ?_ (H.h2 y)
  refine Eq.trans ?_ (congrFun (V_main_arg2 m c) y)
  show (V m c main_arg2 : S3x8x8192.Idx → EReal) ((win0_2.blk t).view.emb y) = _
  refine congrArg _ (funext fun a => Fin.ext ?_)
  match a with
  | ⟨0, _⟩ =>
    have e : win0_2.index t 0 = 0 := rfl
    blk_simp [e]
  | ⟨1, _⟩ =>
    have e : win0_2.index t 1 = 0 := rfl
    blk_simp [e]
  | ⟨2, _⟩ =>
    have e : win0_2.index t 2 = 0 := rfl
    blk_simp [e]

theorem found3 (Y) (h : (rdat m Inv aft' c).Finds 3 t Y) (y : S3x8x8192.Idx) : (Y : S3x8x8192.Idx → EReal) y = ((A.pv (y 0) (y 1) (y 2) : ℝ) : EReal) := by
  obtain ⟨d, rfl⟩ := finds_in m c Inv aft' 3 (by decide) rfl (fun _ _ _ => rfl) t Y h
  refine Eq.trans ?_ (H.h3 y)
  refine Eq.trans ?_ (congrFun (V_main_arg3 m c) y)
  show (V m c main_arg3 : S3x8x8192.Idx → EReal) ((win0_3.blk t).view.emb y) = _
  refine congrArg _ (funext fun a => Fin.ext ?_)
  match a with
  | ⟨0, _⟩ =>
    have e : win0_3.index t 0 = 0 := rfl
    blk_simp [e]
  | ⟨1, _⟩ =>
    have e : win0_3.index t 1 = 0 := rfl
    blk_simp [e]
  | ⟨2, _⟩ =>
    have e : win0_3.index t 2 = 0 := rfl
    blk_simp [e]

theorem found4 (Y) (h : (rdat m Inv aft' c).Finds 4 t Y) (y : S28x128.Idx) : (Y : S28x128.Idx → EReal) y = ((A.g (128 * (y 0).val + (y 1).val) : ℝ) : EReal) := by
  obtain ⟨d, rfl⟩ := finds_in m c Inv aft' 4 (by decide) rfl (fun _ _ _ => rfl) t Y h
  refine Eq.trans ?_ (V_v1 H y)
  show (V m c main_v1 : S28x128.Idx → EReal) ((win0_4.blk t).view.emb y) = _
  refine congrArg _ (funext fun a => Fin.ext ?_)
  match a with
  | ⟨0, _⟩ =>
    have e : win0_4.index t 0 = 0 := rfl
    blk_simp [e]
  | ⟨1, _⟩ =>
    have e : win0_4.index t 1 = 0 := rfl
    blk_simp [e]

theorem found5 (Y) (h : (rdat m Inv aft' c).Finds 5 t Y) (y : S28x128.Idx) : (Y : S28x128.Idx → EReal) y = ((A.b (128 * (y 0).val + (y 1).val) : ℝ) : EReal) := by
  obtain ⟨d, rfl⟩ := finds_in m c Inv aft' 5 (by decide) rfl (fun _ _ _ => rfl) t Y h
  refine Eq.trans ?_ (V_v2 H y)
  show (V m c main_v2 : S28x128.Idx → EReal) ((win0_5.blk t).view.emb y) = _
  refine congrArg _ (funext fun a => Fin.ext ?_)
  match a with
  | ⟨0, _⟩ =>
    have e : win0_5.index t 0 = 0 := rfl
    blk_simp [e]
  | ⟨1, _⟩ =>
    have e : win0_5.index t 1 = 0 := rfl
    blk_simp [e]

theorem found1 (ht : t.val < 128) (Y) (h : (rdat m Inv aft' c).Finds 1 t Y) (y : S512x3584.Idx) :
    (Y : S512x3584.Idx → EReal) y = ((A.x (512 * t.val + (y 0).val) (y 1) : ℝ) : EReal) := by
  obtain ⟨d, rfl⟩ := finds_in m c Inv aft' 1 (by decide) rfl (fun _ _ _ => rfl) t Y h
  have h0 : (y 0).val < 512 := (y 0).isLt
  have h1 : (y 1).val < 3584 := (y 1).isLt
  obtain ⟨e0, e1⟩ := index1 t
  show (V m c main_v0 : S65536x3584.Idx → EReal) ((win0_1.blk t).view.emb y) = _
  refine (V_v0 H _).trans ?_
  refine congrArg₂ (fun a b => ((A.x a b : ℝ) : EReal)) ?_ ?_
  · show ((win0_1.blk t).view.emb y 0).val = _
    blk_simp [e0]
    omega
  · show ((win0_1.blk t).view.emb y 1).val = _
    blk_simp [e1]

/-- Each point keeps the invariant and leaves what is claimed. -/
theorem stepOk : StepOk m (fun _ => inv A) (fun _ => aft A) c := by
  intro t Y hY X_arg1 X_arg2 X_arg3 X_arg4 X_arg5 X_arg6 Y_arg7 Y_arg8 Y_arg9 Y_arg10 Y_arg11 Y_arg12 Y_arg13 Y_arg14 Y_arg15 Y_arg16 Y_arg17 Y_arg18
    h1 h2 h3 h4 h5 h6 h7 h8 h9 h10 hI Z_arg7 Z_arg8 Z_arg9 Z_arg10 Z_arg11 Z_arg12 Z_arg13 Z_arg14 Z_arg15 Z_arg16 Z_arg17 Z_arg18 hZ
  have ht : (grid0.coords t 0).val = t.val := coords_val t
  have hlt : t.val < 129 := t.isLt
  have hX : Ins (st0_0 t) (st0_1 t) (st0_2 t) (st0_3 t) (st0_4 t) (st0_5 t) X_arg1 X_arg2 X_arg3 X_arg4 X_arg5 X_arg6 A t.val := {
    h1 := fun y => (congrFun h1 y).trans (found0 H _ _ t _ (hY 0) y)
    h2 := fun h y => (congrFun h2 y).trans (found1 H _ _ t h _ (hY 1) y)
    h3 := fun y => (congrFun h3 y).trans (found2 H _ _ t _ (hY 2) y)
    h4 := fun y => (congrFun h4 y).trans (found3 H _ _ t _ (hY 3) y)
    h5 := fun y => (congrFun h5 y).trans (found4 H _ _ t _ (hY 4) y)
    h6 := fun y => (congrFun h6 y).trans (found5 H _ _ t _ (hY 5) y) }
  have r := step_ok Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    (ht := ht) (hX := hX) (Y_arg7 := Y_arg7) (Y_arg8 := Y_arg8) (Y_arg9 := Y_arg9) (Y_arg10 := Y_arg10) (Y_arg11 := Y_arg11) (Y_arg12 := Y_arg12) (Y_arg13 := Y_arg13) (Y_arg14 := Y_arg14) (Y_arg15 := Y_arg15) (Y_arg16 := Y_arg16) (Y_arg17 := Y_arg17) (Y_arg18 := Y_arg18)
    (h128 := by omega) (hY := fun h => hI h (by omega))
  unfold stepAt at hZ
  rw [← hZ] at r
  have r9 := r.1.mean
  have r10 := r.1.rstd
  rw [show (win0_8.stage (cfg0.slots t 8)).view.read (Elt Ideal) Y_arg9 = Y 8 from h9] at r9
  rw [show (win0_9.stage (cfg0.slots t 9)).view.read (Elt Ideal) Y_arg10 = Y 9 from h10] at r10
  exact ⟨r.1.codes, r.1.exps, r9, r10, fun _ h => r.2 (by omega)⟩

end Cert.Proof.Value
end
-- ==== Proof.Value.Arr.lean ====
module

public import proofs.«01_k».proof.Proof.Value.Run

/-!
# The kernel's results on real arguments

What each result's array holds after the run.
-/

@[expose] public section
set_option maxRecDepth 65536
noncomputable section
namespace Cert.Proof.Value
open Cert.KernelIdeal Cert.KernelIdeal.Gen Cert.Proof.KernelIdeal Idealize.ShloMosaic Idealize.ShloMosaic.TcCoe Idealize.ShloMosaic.ValueIdx
open Idealize.SL Idealize.SL.Sem Idealize.ShloMosaic.StableHlo

variable (A : Args)

theorem blk_W (t p ch : ℕ) : (blk A t).W p ch = A.wh (512 * (t - 1) + p) ch := rfl
theorem blk_e (t p k : ℕ) : (blk A t).e p k = A.e (512 * (t - 1) + p) k :=
  congrArg (fun u => expo (nle u)) (A.u_eq (512 * (t - 1) + p) k)
theorem blk_code (t p ch : ℕ) : (blk A t).code p ch = A.code (512 * (t - 1) + p) ch := by
  unfold Blk.code Args.code
  rw [blk_e, blk_W, min_comm, ← A.wh_mul]
  congr 2
  show _ * (_ * A.rstd _) = _
  ring

/-- The codes. -/
def codesArr : S65536x3584.Idx → EReal := fun i => ((A.code (i 0) (i 1) : ℝ) : EReal)
/-- The exponents, as bytes. -/
def expsArr : S65536x112.Idx → BitVec 8 := fun i => byte (A.e (i 0) (i 1))
/-- The statistics. -/
def rowArr (f : ℕ → ℝ) : S8x8192.Idx → EReal := fun i => ((f (8192 * (i 0).val + (i 1).val) : ℝ) : EReal)

variable (m : (ℓ : Loc nD τ sig) → Buf (Elt Ideal) ℓ) (A' : Dev nD → Args) (c : Dev nD)

/-- The proof data of the run. -/
abbrev rd := rdat m (fun c => inv (A' c)) (fun c => aft (A' c)) c

theorem leaves_row (w : Fin cfg0.W) (f : ℕ → ℝ) (cast : ((cfg0.win w).block.Idx → Elt Ideal (cfg0.win w).elt) → S8x8192.Idx → EReal)
    (ha : ∀ t Y X, aft (A' c) w t Y X → RowAft f t.val (cast Y) (cast X))
    (hf : ∀ t, (cfg0.win w).fetch t = false) (hfl : ∀ t : Fin cfg0.N, (cfg0.win w).flush t = true → t.val = 128) :
    ∀ (t : Fin cfg0.N) X, (rd m A' c).Leaves w t X → ∀ y, tok y ≤ t.val → cast X y = ((f (8192 * (y 0).val + (y 1).val) : ℝ) : EReal) := by
  intro t
  induction hn : t.val using Nat.strong_induction_on generalizing t with
  | _ n ih =>
    subst hn
    intro X ⟨Y, hY, hR⟩ y hy
    have hr := ha t Y X hR.2 y
    by_cases h : tok y = t.val
    · exact hr.1 h
    rw [hr.2 h]
    have h0 : t.val ≠ 0 := by omega
    have hlt : t.val < 129 := t.isLt
    rcases ((rd m A' c).finds_of_pos (hf t) h0 Y).mp hY with hfl' | hL
    · have := hfl _ hfl'
      dsimp only at this
      omega
    · exact ih (t.val - 1) (by omega) ⟨t.val - 1, by omega⟩ rfl Y hL y (by omega)

variable {m A' c}
variable {after : (w' : Fin cfg0.W) → Fin cfg0.N → (cfg0.win w').block.Idx → Elt Ideal (cfg0.win w').elt}
  (hL : ∀ (w : Fin cfg0.W) (u : Fin cfg0.N), (cfg0.win w).flush u = true → (rd m A' c).Leaves w u (after w u))
include hL

theorem arr6 : (((rd m A' c).withAfter after).arrAt 6 cfg0.N : S65536x3584.Idx → EReal) = codesArr (A' c) := by
  refine ((rd m A' c).withAfter after).arrAt_eq_of_covers 6 (codesArr (A' c)) covers6 fun t hf y => ?_
  obtain ⟨Y, -, hR⟩ := hL 6 t hf
  have h := hR.2 (flush6 t hf) y
  have h0 : (y 0).val < 512 := (y 0).isLt
  obtain ⟨e0, e1⟩ := index6 t
  refine Eq.trans (b := (((blk (A' c) t.val).code (y 0) (y 1) : ℝ) : EReal)) h ?_
  rw [blk_code]
  refine congrArg₂ (fun a b => (((A' c).code a b : ℝ) : EReal)) ?_ ?_
  · show _ = ((win0_6.blk t).view.emb y 0).val
    blk_simp [e0]
    omega
  · show _ = ((win0_6.blk t).view.emb y 1).val
    blk_simp [e1]

theorem arr7 : (((rd m A' c).withAfter after).arrAt 7 cfg0.N : S65536x112.Idx → BitVec 8) = expsArr (A' c) := by
  refine ((rd m A' c).withAfter after).arrAt_eq_of_covers 7 (expsArr (A' c)) covers7 fun t hf y => ?_
  obtain ⟨Y, -, hR⟩ := hL 7 t hf
  have h := hR.2 (flush7 t hf) y
  have h0 : (y 0).val < 512 := (y 0).isLt
  obtain ⟨e0, e1⟩ := index7 t
  refine Eq.trans (b := byte ((blk (A' c) t.val).e (y 0) (y 1))) h ?_
  rw [blk_e]
  refine congrArg₂ (fun a b => byte ((A' c).e a b)) ?_ ?_
  · show _ = ((win0_7.blk t).view.emb y 0).val
    blk_simp [e0]
    omega
  · show _ = ((win0_7.blk t).view.emb y 1).val
    blk_simp [e1]

theorem tok_le (y : S8x8192.Idx) : tok y ≤ 128 := by
  have h0 : (y 0).val < 8 := (y 0).isLt
  have h1 : (y 1).val < 8192 := (y 1).isLt
  unfold tok; omega

theorem arr8 : (((rd m A' c).withAfter after).arrAt 8 cfg0.N : S8x8192.Idx → EReal) = rowArr (A' c).mean := by
  refine ((rd m A' c).withAfter after).arrAt_eq_of_after_last 8 tLast whole8 (rowArr (A' c).mean) fun j => ?_
  exact leaves_row m A' c 8 (A' c).mean (fun X => X) (fun _ _ _ h => h) (fun _ => rfl)
    (fun t h => by have := (flush0_8 t).mp h; have : t.val < 129 := t.isLt; omega) tLast _ (hL 8 tLast whole8.1) j (tok_le hL j)

theorem arr9 : (((rd m A' c).withAfter after).arrAt 9 cfg0.N : S8x8192.Idx → EReal) = rowArr (A' c).rstd := by
  refine ((rd m A' c).withAfter after).arrAt_eq_of_after_last 9 tLast whole9 (rowArr (A' c).rstd) fun j => ?_
  exact leaves_row m A' c 9 (A' c).rstd (fun X => X) (fun _ _ _ h => h) (fun _ => rfl)
    (fun t h => by have := (flush0_9 t).mp h; have : t.val < 129 := t.isLt; omega) tLast _ (hL 9 tLast whole9.1) j (tok_le hL j)

omit hL
variable (m A')
/-- The kernel's run on real arguments: its results, and its arguments as they were. -/
theorem kernel_run (ρ : Dev nD → PrngReg) (H : ∀ c, Given m (A' c) c) :
    θ_run defs (onTc (τ := τ) (main (F := Ideal))) ⟨m, fun _ => 0, ρ⟩ (fun r => ∀ c : Dev nD,
      (r.2.mem ((c.tc : Thread nD τ).loc main_v3_0) = codesArr (A' c)
      ∧ r.2.mem ((c.tc : Thread nD τ).loc main_v3_1) = expsArr (A' c)
      ∧ r.2.mem ((c.tc : Thread nD τ).loc main_v3_2) = rowArr (A' c).mean
      ∧ r.2.mem ((c.tc : Thread nD τ).loc main_v3_3) = rowArr (A' c).rstd)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (run_main m ρ (fun c => inv (A' c)) (fun c => aft (A' c)) (fun c t => stepOk (H c) t) ?_ ?_).mono ?_
  · intro c w t Y hw
    match w with
    | 0 | 1 | 2 | 3 | 4 | 5 => trivial
  · intro c _ _ _ _ _ _ _ _ h
    exact absurd h (lt_irrefl _)
  · intro r hr c
    obtain ⟨after, hL, hA⟩ := hr.1.exists_exact c
    exact ⟨⟨(hA 6).trans (arr6 hL), (hA 7).trans (arr7 hL), (hA 8).trans (arr8 hL), (hA 9).trans (arr9 hL)⟩,
      args_of_framePost (h := hr.1) (c := c) ..⟩

end Cert.Proof.Value
end
-- ==== Proof.Value.RefQ.lean ====
module

public import proofs.«01_k».proof.Proof.Value.Ref
public import proofs.«01_k».proof.Proof.Value.Tile

/-!
# The reference's quantiser, on real arguments

Each buffer of the reference's quantiser holds the function of `Spec` it stands for.
-/

@[expose] public section
noncomputable section
namespace Cert.Proof.Value
open Cert.ReferenceIdeal Cert.ReferenceIdeal.Gen Cert.ReferenceIdeal.Read Idealize.ShloMosaic Idealize.ShloMosaic.ValueIdx Finset

/-- Two raised to a whole number. -/
theorem pow_two_int (b : BitVec 32) {z : ℤ} (h : b.toInt = z) :
    Ideal.pow ((2 : ℝ) : EReal) ((b.toInt : ℝ) : EReal) = (((2 : ℝ) ^ z : ℝ) : EReal) := by
  rw [h]
  show ((Real.rpow 2 (z : ℝ) : ℝ) : EReal) = _
  exact congrArg _ (Real.rpow_intCast 2 z)

/-- Adding up a one for each member with a property counts them. -/
theorem fold_count {ι : Type*} [DecidableEq ι] (s : Finset ι) (f : ι → BitVec 32) (P : ι → Prop) [DecidablePred P]
    (hf : ∀ i, f i = if P i then 1#32 else 0#32) : s.fold IntOp.addi 0#32 f = BitVec.ofNat 32 (s.filter P).card := by
  induction s using Finset.induction_on with
  | empty => rfl
  | insert a s ha ih =>
    rw [Finset.fold_insert ha, ih, hf, Finset.filter_insert]
    by_cases h : P a
    · rw [if_pos h, if_pos h, Finset.card_insert_of_notMem (by simp [ha])]
      show 1#32 + BitVec.ofNat 32 _ = _
      rw [Nat.add_comm, BitVec.ofNat_add]
    · rw [if_neg h, if_neg h]
      show 0#32 + BitVec.ofNat 32 _ = _
      simp

/-- The count of thresholds, counted over a finite type. -/
theorem nle_fin (u : ℝ) : nle u = ((univ : Finset (Fin 246)).filter fun i => thr (i.val + 1) ≤ (u : EReal)).card := by
  unfold nle
  symm
  refine Finset.card_bij (fun i _ => i.val) ?_ ?_ ?_
  · intro i hi
    simp only [mem_filter, mem_univ, true_and, mem_range] at hi ⊢
    exact ⟨i.isLt, hi⟩
  · intro i _ j _ h; exact Fin.ext h
  · intro n hn
    simp only [mem_filter, mem_range] at hn
    exact ⟨⟨n, hn.1⟩, by simp [hn.2], rfl⟩

theorem thr_int : ∀ k : Fin 246, (IntOp.addi 4294967170#32 (BitVec.ofNat 32 k.val)).toInt = (k.val : ℤ) + 1 - 127 := by decide +kernel
theorem ref_expo : ∀ k : Fin 247, Scalar.select (IntOp.cmpi .eq (BitVec.ofNat 32 k.val) 0#32) 0#32 (IntOp.subi (BitVec.ofNat 32 k.val) 126#32)
    = BitVec.ofInt 32 (expo k.val) := by decide +kernel
theorem neg_expo : ∀ k : Fin 247, (-(BitVec.ofInt 32 (expo k.val))).toInt = -expo k.val := by decide +kernel

/-- Row `i 0`, column `i 1`, block `i 2`, place `k`. -/
def at32 (i : S8x8192x112.Idx) (k : Fin 32) : S8x8192x112x32.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => k
/-- Row `i 0`, column `i 1`, block `i 2`, threshold `k`. -/
def at246 (i : S8x8192x112.Idx) (k : Fin 246) : S8x8192x112x246.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => k

theorem lift32 (h : S8x8192x112x32.Reduces [3] S8x8192x112) (i : S8x8192x112.Idx) (k : Fin 32) : h.lift i k = at32 i k := by
  funext c; apply Fin.ext
  fin_cases c <;> rfl
theorem lift246 (h : S8x8192x112x246.Reduces [3] S8x8192x112) (i : S8x8192x112.Idx) (k : Fin 246) : h.lift i k = at246 i k := by
  funext c; apply Fin.ext
  fin_cases c <;> rfl

variable {A : Args} {x0 : (⟨S8x8192x3584, .bf16⟩ : BufTy).Contents (Elt Ideal)} {x1 : (⟨S3, .f32⟩ : BufTy).Contents (Elt Ideal)}
  {x2 x3 : (⟨S3x8x8192, .f32⟩ : BufTy).Contents (Elt Ideal)} {x4 x5 : (⟨S3584, .f32⟩ : BufTy).Contents (Elt Ideal)}
  (H : RefArgs A x0 x1 x2 x3 x4 x5)
include H

theorem ref_v83 (i : S8x8192x112x32.Idx) : val_main_v83 (F := Ideal) x0 x1 x2 x3 x4 x5 i =
    ((A.y (8192 * (i 0).val + (i 1).val) (32 * (i 2).val + (i 3).val) : ℝ) : EReal) := by
  rw [val_main_v83_apply, ref_v82 H]
  have h0 : (i 0).val < 8 := (i 0).isLt
  have h1 : (i 1).val < 8192 := (i 1).isLt
  have h2 : (i 2).val < 112 := (i 2).isLt
  have h3 : (i 3).val < 32 := (i 3).isLt
  refine congrArg₂ (fun a b => ((A.y a b : ℝ) : EReal)) ?_ ?_
  · show 8192 * (((((i 0).val * 8192 + (i 1).val) * 112 + (i 2).val) * 32 + (i 3).val) / 29360128)
      + ((((i 0).val * 8192 + (i 1).val) * 112 + (i 2).val) * 32 + (i 3).val) / 3584 % 8192 = _
    omega
  · show ((((i 0).val * 8192 + (i 1).val) * 112 + (i 2).val) * 32 + (i 3).val) % 3584 = _
    omega

theorem ref_v84 (i : S8x8192x112x32.Idx) : val_main_v84 (F := Ideal) x0 x1 x2 x3 x4 x5 i =
    ((|A.y (8192 * (i 0).val + (i 1).val) (32 * (i 2).val + (i 3).val)| : ℝ) : EReal) := by
  rw [val_main_v84_apply, ref_v83 H]
  exact abs_coe _

/-- The greatest magnitude of a block. -/
theorem ref_v85 (i : S8x8192x112.Idx) : val_main_v85 (F := Ideal) x0 x1 x2 x3 x4 x5 i =
    ((amax (fun j => A.y (8192 * (i 0).val + (i 1).val) (32 * (i 2).val + j)) : ℝ) : EReal) := by
  have h : S8x8192x112x32.Reduces [3] S8x8192x112 := by decide
  have e : val_main_v85 (F := Ideal) x0 x1 x2 x3 x4 x5 i
      = (univ : Finset (Fin 32)).fold max (⊥ : EReal) (fun k => ((|A.y (8192 * (i 0).val + (i 1).val) (32 * (i 2).val + k.val)| : ℝ) : EReal)) := by
    unfold val_main_v85
    rw [Host.reduce_eq_fold_single FloatOps.maximumf _ _ reducesTo_S8x8192x112x32_S8x8192x112_d3 h h_S_]
    have hf : (val_main_v84 (F := Ideal) x0 x1 x2 x3 x4 x5 ∘ h.lift i)
        = (fun k : Fin 32 => ((|A.y (8192 * (i 0).val + (i 1).val) (32 * (i 2).val + k.val)| : ℝ) : EReal)) :=
      funext fun k => (congrArg _ (lift32 h i k)).trans (ref_v84 H _)
    rw [hf]
    exact congrArg (fun b => (univ : Finset (Fin 32)).fold max b _) bits_bot
  rw [e]
  refine eq_of_forall_ge_iff fun c => ?_
  rw [fold_max_le, coe_amax_le]
  exact ⟨fun q j hj => q ⟨j, hj⟩ (mem_univ _), fun q k _ => q k.val k.isLt⟩

theorem ref_v93 (i : S8x8192x112.Idx) : val_main_v93 (F := Ideal) x0 x1 x2 x3 x4 x5 i =
    ((A.u (8192 * (i 0).val + (i 1).val) (i 2).val : ℝ) : EReal) := by
  rw [val_main_v93_apply, val_main_v92_apply, val_main_cst_8_apply, ref_v85 H]
  exact (congrArg (_ * ·) bits_c448).trans (mul_coe _ _)

omit H in
theorem ref_v91 (i : S246.Idx) : val_main_v91 (F := Ideal) i = thr ((i 0).val + 1) := by
  rw [val_main_v91_apply, val_main_v86_apply, val_main_cst_7_apply, val_main_v90_apply, val_main_v89_apply, val_main_v88_apply,
    val_main_c_apply, val_main_v87_apply]
  have h0 : (i 0).val < 246 := (i 0).isLt
  refine (congrArg (Ideal.pow · _) bits_two).trans ((pow_two_int _ (thr_int ⟨(i 0).val, h0⟩)).trans ?_)
  unfold thr
  rw [if_neg (by omega), if_pos (by omega)]
  push_cast
  rfl

theorem ref_v99 (i : S8x8192x112.Idx) (k : Fin 246) : val_main_v99 (F := Ideal) x0 x1 x2 x3 x4 x5 (at246 i k) =
    if thr (k.val + 1) ≤ ((A.u (8192 * (i 0).val + (i 1).val) (i 2).val : ℝ) : EReal) then 1#32 else 0#32 := by
  rw [val_main_v99_apply, val_main_v98_apply, val_main_v96_apply, val_main_v95_apply, val_main_v97_apply, val_main_v94_apply,
    ref_v93 H, ref_v91]
  show (Ideal.cmp .ole (thr (k.val + 1)) ((A.u (8192 * (i 0).val + (i 1).val) (i 2).val : ℝ) : EReal)).setWidth 32 = _
  unfold Ideal.cmp
  by_cases h : thr (k.val + 1) ≤ ((A.u (8192 * (i 0).val + (i 1).val) (i 2).val : ℝ) : EReal)
  · rw [if_pos h]; simp only [h, decide_true]; rfl
  · rw [if_neg h]; simp only [h, decide_false]; rfl

theorem ref_v100 (i : S8x8192x112.Idx) : val_main_v100 (F := Ideal) x0 x1 x2 x3 x4 x5 i =
    BitVec.ofNat 32 (nle (A.u (8192 * (i 0).val + (i 1).val) (i 2).val)) := by
  have h : S8x8192x112x246.Reduces [3] S8x8192x112 := by decide
  unfold val_main_v100
  rw [Host.reduce_eq_fold_single IntOp.addi _ _ reducesTo_S8x8192x112x246_S8x8192x112_d3 h h_S_, nle_fin]
  exact fold_count (univ : Finset (Fin 246)) _ (fun k => thr (k.val + 1) ≤ ((A.u (8192 * (i 0).val + (i 1).val) (i 2).val : ℝ) : EReal))
    fun k => (congrArg _ (lift246 h i k)).trans (ref_v99 H i k)

theorem ref_v105 (i : S8x8192x112.Idx) : val_main_v105 (F := Ideal) x0 x1 x2 x3 x4 x5 i =
    BitVec.ofInt 32 (A.e (8192 * (i 0).val + (i 1).val) (i 2).val) := by
  rw [val_main_v105_apply, val_main_v102_apply, val_main_v101_apply, val_main_c_10_apply, val_main_call0_v1_apply,
    val_main_call0_v0_apply, val_main_c_12_apply, val_main_v104_apply, val_main_v103_apply, val_main_c_11_apply, ref_v100 H]
  exact ref_expo ⟨nle _, Nat.lt_succ_of_le (nle_le _)⟩

theorem ref_v109 (i : S8x8192x112.Idx) : val_main_v109 (F := Ideal) x0 x1 x2 x3 x4 x5 i =
    (((2 : ℝ) ^ (-A.e (8192 * (i 0).val + (i 1).val) (i 2).val) : ℝ) : EReal) := by
  rw [val_main_v109_apply, val_main_v106_apply, val_main_cst_13_apply, val_main_v108_apply, val_main_v107_apply, ref_v105 H]
  exact (congrArg (Ideal.pow · _) bits_two).trans (pow_two_int _ (neg_expo ⟨nle _, Nat.lt_succ_of_le (nle_le _)⟩))

theorem ref_v114 (i : S8x8192x112x32.Idx) : val_main_v114 (F := Ideal) x0 x1 x2 x3 x4 x5 i =
    ((min 448 (max (-448) (A.y (8192 * (i 0).val + (i 1).val) (32 * (i 2).val + (i 3).val)
      * (2 : ℝ) ^ (-A.e (8192 * (i 0).val + (i 1).val) (i 2).val))) : ℝ) : EReal) := by
  rw [val_main_v114_apply, val_main_v113_apply, val_main_call1_v4_apply, val_main_call1_v3_apply, val_main_cst_15_apply,
    val_main_call1_v2_apply, val_main_call1_v1_apply, val_main_call1_v0_apply, val_main_cst_14_apply, val_main_v112_apply,
    val_main_v111_apply, val_main_v110_apply, ref_v109 H, ref_v83 H]
  refine (congrArg₂ min bits_448 ((congrArg₂ max bits_neg448 (mul_coe _ _)).trans (max_coe _ _))).trans (min_coe _ _)

/-- The codes. -/
theorem ref_v118 (i : S65536x3584.Idx) : val_main_v118 (F := Ideal) x0 x1 x2 x3 x4 x5 i = ((A.code (i 0) (i 1) : ℝ) : EReal) := by
  rw [val_main_v118_apply, ref_v114 H]
  have h0 : (i 0).val < 65536 := (i 0).isLt
  have h1 : (i 1).val < 3584 := (i 1).isLt
  have e0 : 8192 * (((i 0).val * 3584 + (i 1).val) / 29360128) + ((i 0).val * 3584 + (i 1).val) / 3584 % 8192 = (i 0).val := by omega
  have e2 : ((i 0).val * 3584 + (i 1).val) / 32 % 112 = (i 1).val / 32 := by omega
  have e1 : 32 * (((i 0).val * 3584 + (i 1).val) / 32 % 112) + ((i 0).val * 3584 + (i 1).val) % 32 = (i 1).val := by omega
  unfold Args.code
  rw [min_comm]
  show ((min (max (-448) (A.y (8192 * (((i 0).val * 3584 + (i 1).val) / 29360128) + ((i 0).val * 3584 + (i 1).val) / 3584 % 8192)
    (32 * (((i 0).val * 3584 + (i 1).val) / 32 % 112) + ((i 0).val * 3584 + (i 1).val) % 32)
      * (2 : ℝ) ^ (-A.e (8192 * (((i 0).val * 3584 + (i 1).val) / 29360128) + ((i 0).val * 3584 + (i 1).val) / 3584 % 8192)
        (((i 0).val * 3584 + (i 1).val) / 32 % 112)))) 448 : ℝ) : EReal) = _
  rw [e0, e1, e2]

/-- The exponents, as bytes. -/
theorem ref_v119 (i : S65536x112.Idx) : val_main_v119 (F := Ideal) x0 x1 x2 x3 x4 x5 i =
    BitVec.setWidth 8 (BitVec.ofInt 32 (A.e (i 0) (i 1)) + 127#32) := by
  rw [val_main_v119_apply, val_main_v117_apply, val_main_v116_apply, val_main_v115_apply, val_main_c_16_apply, ref_v105 H]
  have h0 : (i 0).val < 65536 := (i 0).isLt
  have h1 : (i 1).val < 112 := (i 1).isLt
  have e0 : 8192 * (((i 0).val * 112 + (i 1).val) / 917504) + ((i 0).val * 112 + (i 1).val) / 112 % 8192 = (i 0).val := by omega
  have e1 : ((i 0).val * 112 + (i 1).val) % 112 = (i 1).val := by omega
  show BitVec.setWidth 8 (BitVec.ofInt 32 (A.e (8192 * (((i 0).val * 112 + (i 1).val) / 917504) + ((i 0).val * 112 + (i 1).val) / 112 % 8192)
    (((i 0).val * 112 + (i 1).val) % 112)) + 127#32) = _
  rw [e0, e1]

end Cert.Proof.Value
end
-- ==== Proof.Value.Tame.lean ====
module

public import proofs.«01_k».proof.Defs
public import proofs.«01_k».proof.Proof.Gen.Pre_tame
public import proofs.«01_k».proof.Proof.Value.Run

/-!
# Tame arguments are real numbers

Arguments that meet the precondition are all finite, so they are the real numbers `Spec` speaks of.
-/

@[expose] public section
noncomputable section
namespace Cert.Proof.Value
open Cert.KernelIdeal Cert.KernelIdeal.Gen Cert.Proof.KernelIdeal Idealize.ShloMosaic Idealize.ShloMosaic.TcCoe Idealize.ShloMosaic.ValueIdx

theorem ofBool_one {p : Prop} [Decidable p] (h : BitVec.ofBool (decide p) = 1#1) : p := by
  by_contra hp
  rw [decide_eq_false hp] at h
  exact absurd h (by decide)

/-- A value of finite magnitude is a real number. -/
theorem coe_of_abs_lt {x : EReal} (h : Ideal.cmp .olt (max x (-x)) (Ideal.ofBits .f32 0x7F800000#32) = 1#1) :
    ((x.toReal : ℝ) : EReal) = x := by
  rw [bits_top] at h
  have h' : max x (-x) < ⊤ := ofBool_one h
  rw [max_lt_iff] at h'
  refine EReal.coe_toReal h'.1.ne fun hb => ?_
  rw [hb] at h'
  exact absurd h'.2 (by simp)

/-- A value found to be at least zero has a nonnegative real part. -/
theorem nonneg_of_ge {x : EReal} (h : Ideal.cmp .oge x (Ideal.ofBits .f32 0x00000000#32) = 1#1) : 0 ≤ x.toReal := by
  rw [bits_zero] at h
  exact EReal.toReal_nonneg (ofBool_one h)

section
variable (x0 : S8x8192x3584.Idx → EReal) (x1 : S3.Idx → EReal) (x2 x3 : S3x8x8192.Idx → EReal) (x4 x5 : S3584.Idx → EReal)

/-- What the precondition says of the arguments. -/
structure Tame : Prop where
  f0 : ∀ i, (((x0 i).toReal : ℝ) : EReal) = x0 i
  f1 : ∀ i, (((x1 i).toReal : ℝ) : EReal) = x1 i
  f2 : ∀ i, (((x2 i).toReal : ℝ) : EReal) = x2 i
  f3 : ∀ i, (((x3 i).toReal : ℝ) : EReal) = x3 i
  f4 : ∀ i, (((x4 i).toReal : ℝ) : EReal) = x4 i
  f5 : ∀ i, (((x5 i).toReal : ℝ) : EReal) = x5 i
  n1 : ∀ i, 0 ≤ (x1 i).toReal
  n3 : ∀ i, 0 ≤ (x3 i).toReal

variable {x0 x1 x2 x3 x4 x5}

/-- The index of row, column and channel `a`, `b`, `c`. -/
def nix3 (l m n : ℕ) [NeZero l] [NeZero m] [NeZero n] (a b c : ℕ) : (⟨3, ![l, m, n]⟩ : Shape).Idx :=
  ix3 (Fin.ofNat l a) (Fin.ofNat m b) (Fin.ofNat n c)
/-- The index of entry `a`. -/
def nix1 (l : ℕ) [NeZero l] (a : ℕ) : (⟨1, ![l]⟩ : Shape).Idx := ix1 (Fin.ofNat l a)

theorem nix3_eq {l m n : ℕ} [NeZero l] [NeZero m] [NeZero n] (i : (⟨3, ![l, m, n]⟩ : Shape).Idx) {a b c : ℕ}
    (ha : a = (i 0).val) (hb : b = (i 1).val) (hc : c = (i 2).val) : nix3 l m n a b c = i := by
  funext d; apply Fin.ext
  fin_cases d
  · exact (congrArg (· % l) ha).trans (Nat.mod_eq_of_lt (i 0).isLt)
  · exact (congrArg (· % m) hb).trans (Nat.mod_eq_of_lt (i 1).isLt)
  · exact (congrArg (· % n) hc).trans (Nat.mod_eq_of_lt (i 2).isLt)
theorem nix1_eq {l : ℕ} [NeZero l] (i : (⟨1, ![l]⟩ : Shape).Idx) : nix1 l (i 0).val = i := by
  funext d; apply Fin.ext
  fin_cases d
  exact Nat.mod_eq_of_lt (i 0).isLt

/-- The real numbers the arguments are. -/
def Tame.args (h : Tame x0 x1 x2 x3 x4 x5) : Args where
  x n ch := (x0 (nix3 8 8192 3584 (n / 8192) (n % 8192) ch)).toReal
  cnt j := (x1 (nix1 3 j)).toReal
  pm j r s := (x2 (nix3 3 8 8192 j r s)).toReal
  pv j r s := (x3 (nix3 3 8 8192 j r s)).toReal
  g ch := (x4 (nix1 3584 ch)).toReal
  b ch := (x5 (nix1 3584 ch)).toReal
  hcnt _ := h.n1 _
  hpv _ _ _ := h.n3 _

/-- Tame arguments are the real numbers `args`. -/
theorem Tame.refArgs (h : Tame x0 x1 x2 x3 x4 x5) : RefArgs h.args x0 x1 x2 x3 x4 x5 where
  h0 i := by
    have h1 : (i 1).val < 8192 := (i 1).isLt
    refine ((h.f0 i).symm.trans ?_)
    exact congrArg (fun j => ((EReal.toReal (x0 j) : ℝ) : EReal)) (nix3_eq i (by omega) (by omega) rfl).symm
  h1 i := (h.f1 i).symm.trans (congrArg (fun j => ((EReal.toReal (x1 j) : ℝ) : EReal)) (nix1_eq i).symm)
  h2 i := (h.f2 i).symm.trans (congrArg (fun j => ((EReal.toReal (x2 j) : ℝ) : EReal)) (nix3_eq i rfl rfl rfl).symm)
  h3 i := (h.f3 i).symm.trans (congrArg (fun j => ((EReal.toReal (x3 j) : ℝ) : EReal)) (nix3_eq i rfl rfl rfl).symm)
  h4 i := (h.f4 i).symm.trans (congrArg (fun j => ((EReal.toReal (x4 j) : ℝ) : EReal)) (nix1_eq i).symm)
  h5 i := (h.f5 i).symm.trans (congrArg (fun j => ((EReal.toReal (x5 j) : ℝ) : EReal)) (nix1_eq i).symm)
end

/-- The precondition's program, all ones, says the arguments are tame. -/
theorem tame_of_fn {x0 : FVec Ideal S8x8192x3584 .bf16} {x1 : FVec Ideal S3 .f32} {x2 x3 : FVec Ideal S3x8x8192 .f32} {x4 x5 : FVec Ideal S3584 .f32}
    (h : (Cert.Pre_tame.fn (F := Ideal) x0 x1 x2 x3 x4 x5).1 = (fun _ => 1#1)
      ∧ (Cert.Pre_tame.fn (F := Ideal) x0 x1 x2 x3 x4 x5).2.1 = (fun _ => 1#1)
      ∧ (Cert.Pre_tame.fn (F := Ideal) x0 x1 x2 x3 x4 x5).2.2.1 = (fun _ => 1#1)
      ∧ (Cert.Pre_tame.fn (F := Ideal) x0 x1 x2 x3 x4 x5).2.2.2.1 = (fun _ => 1#1)
      ∧ (Cert.Pre_tame.fn (F := Ideal) x0 x1 x2 x3 x4 x5).2.2.2.2.1 = (fun _ => 1#1)
      ∧ (Cert.Pre_tame.fn (F := Ideal) x0 x1 x2 x3 x4 x5).2.2.2.2.2.1 = (fun _ => 1#1)
      ∧ (Cert.Pre_tame.fn (F := Ideal) x0 x1 x2 x3 x4 x5).2.2.2.2.2.2.1 = (fun _ => 1#1)
      ∧ (Cert.Pre_tame.fn (F := Ideal) x0 x1 x2 x3 x4 x5).2.2.2.2.2.2.2 = (fun _ => 1#1)) :
    Tame x0 x1 x2 x3 x4 x5 := by
  obtain ⟨h0, h1, h2, h3, h4, h5, h6, h7⟩ := h
  exact {
    f0 := fun i => coe_of_abs_lt (congrFun h0 i)
    f1 := fun i => coe_of_abs_lt (congrFun h1 i)
    f2 := fun i => coe_of_abs_lt (congrFun h2 i)
    f3 := fun i => coe_of_abs_lt (congrFun h3 i)
    f4 := fun i => coe_of_abs_lt (congrFun h4 i)
    f5 := fun i => coe_of_abs_lt (congrFun h5 i)
    n1 := fun i => nonneg_of_ge (congrFun h6 i)
    n3 := fun i => nonneg_of_ge (congrFun h7 i) }

end Cert.Proof.Value
end
-- ==== Proof.Value.Final.lean ====
module

public import proofs.«01_k».proof.Defs
public import proofs.«01_k».proof.Proof.Gen.ReferenceIdeal.Run
public import proofs.«01_k».proof.Proof.Value.Arr
public import proofs.«01_k».proof.Proof.Value.RefQ
public import proofs.«01_k».proof.Proof.Value.Tame

/-!
# The kernel and the reference agree

On tame arguments all four results of the kernel are those of the reference.
-/

@[expose] public section
noncomputable section
namespace Cert.Proof.Value
open Idealize.ShloMosaic Idealize.ShloMosaic.TcCoe Idealize.ShloMosaic.ValueIdx Idealize.SL Idealize.SL.Sem

/-- Equal arguments are the same real numbers. -/
theorem RefArgs.of_eq {A : Args} {x0 y0 : FVec Ideal Cert.ReferenceIdeal.S8x8192x3584 .bf16} {x1 y1 : FVec Ideal Cert.ReferenceIdeal.S3 .f32}
    {x2 y2 x3 y3 : FVec Ideal Cert.ReferenceIdeal.S3x8x8192 .f32} {x4 y4 x5 y5 : FVec Ideal Cert.ReferenceIdeal.S3584 .f32}
    (h : RefArgs A x0 x1 x2 x3 x4 x5) (e0 : y0 = x0) (e1 : y1 = x1) (e2 : y2 = x2) (e3 : y3 = x3) (e4 : y4 = x4) (e5 : y5 = x5) :
    RefArgs A y0 y1 y2 y3 y4 y5 := by
  subst e0 e1 e2 e3 e4 e5; exact h

section
open Cert.ReferenceIdeal Cert.ReferenceIdeal.Gen

/-- The reference leaves its arguments as they were and the machine quiescent. -/
theorem reference_quiescent (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun r h => ⟨fun c => (h c).2.2.2.2, sem_eq_zero_of_no_sems (by decide) r.2⟩)
    (Cert.ReferenceIdeal.Value.run m g)

variable {A : Args} {m : (ℓ : Loc nD τ sig) → Buf (Elt Ideal) ℓ} {c : Dev nD}
  (H : RefArgs A (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))
include H

theorem res118 : Cert.ReferenceIdeal.Value.res_main_v118 m c = codesArr A :=
  (Read.val_main_v118_eq m c).trans (funext (ref_v118 H))
theorem res119 : Cert.ReferenceIdeal.Value.res_main_v119 m c = expsArr A :=
  (Read.val_main_v119_eq m c).trans (funext (ref_v119 H))
theorem res58 : Cert.ReferenceIdeal.Value.res_main_v58 m c = rowArr A.mean :=
  (Read.val_main_v58_eq m c).trans (funext (ref_v58 H))
theorem res70 : Cert.ReferenceIdeal.Value.res_main_v70 m c = rowArr A.rstd :=
  (Read.val_main_v70_eq m c).trans (funext (ref_v70 H))
end

/-- The value claim. -/
theorem algebraic : Cert.algebraic_KernelIdeal_ReferenceIdeal_pre_tame := by
  intro m g m' g' hp hm
  have T := fun c => tame_of_fn (hp c)
  have G : ∀ c, Given m (T c).args c := fun c => (T c).refArgs
  refine ⟨fun c => codesArr (T c).args, fun c => expsArr (T c).args, fun c => rowArr (T c).args.mean, fun c => rowArr (T c).args.rstd, ?_, ?_⟩
  · refine (θ_run _ _ _).mono (fun r h c => ?_) (kernel_run m (fun c => (T c).args) g G)
    obtain ⟨⟨a, b, d, e⟩, q⟩ := h c
    exact ⟨a, b, d, e, q⟩
  · refine (θ_run _ _ _).mono (fun r h c => ?_) (Cert.ReferenceIdeal.Value.run m' g')
    obtain ⟨a, b, d, e, q⟩ := h c
    obtain ⟨e0, e1, e2, e3, e4, e5⟩ := hm c
    have R := (T c).refArgs.of_eq e0 e1 e2 e3 e4 e5
    exact ⟨a.trans (res118 R), b.trans (res119 R), d.trans (res58 R), e.trans (res70 R), q⟩

end Cert.Proof.Value
end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_tame
public import proofs.«01_k».proof.Proof.Bits.Frame
public import proofs.«01_k».proof.Proof.Ideal.Frame
public import proofs.«01_k».proof.Proof.Value.Final
public import Idealize.ShloMosaic.Adequacy
public import Idealize.ShloMosaic.Init

@[expose] public section

noncomputable section

namespace Cert.Proof

/-- The certificate: the frames, the idealization that rewrites nothing, and the kernel's four results equal to the
    reference's on tame arguments. -/
theorem claim : Cert.Claim :=
  ⟨Cert.Kernel.Gen.facts, Cert.KernelIdeal.Gen.facts, Cert.ReferenceIdeal.Gen.facts, Cert.Pre_tame.Gen.facts,
    fun m g _ => Kernel.quiescent m g, fun m g _ => KernelIdeal.quiescent m g, fun m g _ => KernelIdeal.quiescent m g,
    fun m g _ => Value.reference_quiescent m g, fun m g _ => Value.reference_quiescent m g, trivial, Value.algebraic⟩

end Cert.Proof
end
